-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_kernel_inputs [hPre_kernel_inputs : Cert.Pre_kernel_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_kernel_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_kernel_inputs [hPre_kernel_inputs : Cert.Pre_kernel_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_kernel_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressReferenceIdeal (m : (ℓ : Loc Cert.CompressReferenceIdeal.nD Cert.CompressReferenceIdeal.τ Cert.CompressReferenceIdeal.sig) → Buf (Elt Ideal) ℓ) : Prop :=
  True

def Pre_CmpAttn (m : (ℓ : Loc Cert.CmpAttn.nD Cert.CmpAttn.τ Cert.CmpAttn.sig) → Buf (Elt Bits) ℓ) : Prop :=
  True

def Pre_CmpAttnIdeal (m : (ℓ : Loc Cert.CmpAttnIdeal.nD Cert.CmpAttnIdeal.τ Cert.CmpAttnIdeal.sig) → Buf (Elt Ideal) ℓ) : Prop :=
  True

def Pre_CmpAttnIdeal_cmp_inputs [hPre_cmp_inputs : Cert.Pre_cmp_inputs.Facts] (m : (ℓ : Loc Cert.CmpAttnIdeal.nD Cert.CmpAttnIdeal.τ Cert.CmpAttnIdeal.sig) → Buf (Elt Ideal) ℓ) : Prop :=
  ∀ c : Dev Cert.CmpAttnIdeal.nD,
    (Cert.Pre_cmp_inputs.fn (F := Ideal) (m ((c.tc : Thread Cert.CmpAttnIdeal.nD Cert.CmpAttnIdeal.τ).loc Cert.CmpAttnIdeal.main_arg0)) (m ((c.tc : Thread Cert.CmpAttnIdeal.nD Cert.CmpAttnIdeal.τ).loc Cert.CmpAttnIdeal.main_arg1)) (m ((c.tc : Thread Cert.CmpAttnIdeal.nD Cert.CmpAttnIdeal.τ).loc Cert.CmpAttnIdeal.main_arg2))) = (fun _ => 1#1)

def Pre_CmpAttnReferenceIdeal (m : (ℓ : Loc Cert.CmpAttnReferenceIdeal.nD Cert.CmpAttnReferenceIdeal.τ Cert.CmpAttnReferenceIdeal.sig) → Buf (Elt Ideal) ℓ) : Prop :=
  True

def Pre_CmpAttnReferenceIdeal_cmp_inputs [hPre_cmp_inputs : Cert.Pre_cmp_inputs.Facts] (m : (ℓ : Loc Cert.CmpAttnReferenceIdeal.nD Cert.CmpAttnReferenceIdeal.τ Cert.CmpAttnReferenceIdeal.sig) → Buf (Elt Ideal) ℓ) : Prop :=
  ∀ c : Dev Cert.CmpAttnReferenceIdeal.nD,
    (Cert.Pre_cmp_inputs.fn (F := Ideal) (m ((c.tc : Thread Cert.CmpAttnReferenceIdeal.nD Cert.CmpAttnReferenceIdeal.τ).loc Cert.CmpAttnReferenceIdeal.main_arg0)) (m ((c.tc : Thread Cert.CmpAttnReferenceIdeal.nD Cert.CmpAttnReferenceIdeal.τ).loc Cert.CmpAttnReferenceIdeal.main_arg1)) (m ((c.tc : Thread Cert.CmpAttnReferenceIdeal.nD Cert.CmpAttnReferenceIdeal.τ).loc Cert.CmpAttnReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_kernel_inputs [hKernelIdeal : Cert.KernelIdeal.Facts] [hPre_kernel_inputs : Cert.Pre_kernel_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_kernel_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_kernel_inputs [hReferenceIdeal : Cert.ReferenceIdeal.Facts] [hPre_kernel_inputs : Cert.Pre_kernel_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_kernel_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ r.2.sem = fun _ => 0)

def quiescent_CompressReferenceIdeal [hCompressReferenceIdeal : Cert.CompressReferenceIdeal.Facts] : Prop :=
  ∀ (m : (ℓ : Loc Cert.CompressReferenceIdeal.nD Cert.CompressReferenceIdeal.τ Cert.CompressReferenceIdeal.sig) → Buf (Elt Ideal) ℓ) (g : Dev Cert.CompressReferenceIdeal.nD → PrngReg), Pre_CompressReferenceIdeal m →
    θ_run (Cert.CompressReferenceIdeal.defs (F := Ideal)) (onTc (τ := Cert.CompressReferenceIdeal.τ) (Cert.CompressReferenceIdeal.main (F := Ideal))) ⟨m, fun _ => 0, g⟩ (fun r => (∀ c : Dev Cert.CompressReferenceIdeal.nD,
      r.2.mem ((c.tc : Thread Cert.CompressReferenceIdeal.nD Cert.CompressReferenceIdeal.τ).loc Cert.CompressReferenceIdeal.main_arg0) = m ((c.tc : Thread Cert.CompressReferenceIdeal.nD Cert.CompressReferenceIdeal.τ).loc Cert.CompressReferenceIdeal.main_arg0)
      ∧ r.2.mem ((c.tc : Thread Cert.CompressReferenceIdeal.nD Cert.CompressReferenceIdeal.τ).loc Cert.CompressReferenceIdeal.main_arg1) = m ((c.tc : Thread Cert.CompressReferenceIdeal.nD Cert.CompressReferenceIdeal.τ).loc Cert.CompressReferenceIdeal.main_arg1)
      ∧ r.2.mem ((c.tc : Thread Cert.CompressReferenceIdeal.nD Cert.CompressReferenceIdeal.τ).loc Cert.CompressReferenceIdeal.main_arg2) = m ((c.tc : Thread Cert.CompressReferenceIdeal.nD Cert.CompressReferenceIdeal.τ).loc Cert.CompressReferenceIdeal.main_arg2)
      ∧ r.2.mem ((c.tc : Thread Cert.CompressReferenceIdeal.nD Cert.CompressReferenceIdeal.τ).loc Cert.CompressReferenceIdeal.main_arg3) = m ((c.tc : Thread Cert.CompressReferenceIdeal.nD Cert.CompressReferenceIdeal.τ).loc Cert.CompressReferenceIdeal.main_arg3))
      ∧ r.2.sem = fun _ => 0)

def quiescent_CmpAttn [hCmpAttn : Cert.CmpAttn.Facts] : Prop :=
  ∀ (m : (ℓ : Loc Cert.CmpAttn.nD Cert.CmpAttn.τ Cert.CmpAttn.sig) → Buf (Elt Bits) ℓ) (g : Dev Cert.CmpAttn.nD → PrngReg), Pre_CmpAttn m →
    θ_run (Cert.CmpAttn.defs (F := Bits)) (onTc (τ := Cert.CmpAttn.τ) (Cert.CmpAttn.main (F := Bits))) ⟨m, fun _ => 0, g⟩ (fun r => (∀ c : Dev Cert.CmpAttn.nD,
      r.2.mem ((c.tc : Thread Cert.CmpAttn.nD Cert.CmpAttn.τ).loc Cert.CmpAttn.main_arg0) = m ((c.tc : Thread Cert.CmpAttn.nD Cert.CmpAttn.τ).loc Cert.CmpAttn.main_arg0)
      ∧ r.2.mem ((c.tc : Thread Cert.CmpAttn.nD Cert.CmpAttn.τ).loc Cert.CmpAttn.main_arg1) = m ((c.tc : Thread Cert.CmpAttn.nD Cert.CmpAttn.τ).loc Cert.CmpAttn.main_arg1)
      ∧ r.2.mem ((c.tc : Thread Cert.CmpAttn.nD Cert.CmpAttn.τ).loc Cert.CmpAttn.main_arg2) = m ((c.tc : Thread Cert.CmpAttn.nD Cert.CmpAttn.τ).loc Cert.CmpAttn.main_arg2))
      ∧ r.2.sem = fun _ => 0)

def quiescent_CmpAttnIdeal [hCmpAttnIdeal : Cert.CmpAttnIdeal.Facts] : Prop :=
  ∀ (m : (ℓ : Loc Cert.CmpAttnIdeal.nD Cert.CmpAttnIdeal.τ Cert.CmpAttnIdeal.sig) → Buf (Elt Ideal) ℓ) (g : Dev Cert.CmpAttnIdeal.nD → PrngReg), Pre_CmpAttnIdeal m →
    θ_run (Cert.CmpAttnIdeal.defs (F := Ideal)) (onTc (τ := Cert.CmpAttnIdeal.τ) (Cert.CmpAttnIdeal.main (F := Ideal))) ⟨m, fun _ => 0, g⟩ (fun r => (∀ c : Dev Cert.CmpAttnIdeal.nD,
      r.2.mem ((c.tc : Thread Cert.CmpAttnIdeal.nD Cert.CmpAttnIdeal.τ).loc Cert.CmpAttnIdeal.main_arg0) = m ((c.tc : Thread Cert.CmpAttnIdeal.nD Cert.CmpAttnIdeal.τ).loc Cert.CmpAttnIdeal.main_arg0)
      ∧ r.2.mem ((c.tc : Thread Cert.CmpAttnIdeal.nD Cert.CmpAttnIdeal.τ).loc Cert.CmpAttnIdeal.main_arg1) = m ((c.tc : Thread Cert.CmpAttnIdeal.nD Cert.CmpAttnIdeal.τ).loc Cert.CmpAttnIdeal.main_arg1)
      ∧ r.2.mem ((c.tc : Thread Cert.CmpAttnIdeal.nD Cert.CmpAttnIdeal.τ).loc Cert.CmpAttnIdeal.main_arg2) = m ((c.tc : Thread Cert.CmpAttnIdeal.nD Cert.CmpAttnIdeal.τ).loc Cert.CmpAttnIdeal.main_arg2))
      ∧ r.2.sem = fun _ => 0)

def quiescent_CmpAttnIdeal_pre_cmp_inputs [hCmpAttnIdeal : Cert.CmpAttnIdeal.Facts] [hPre_cmp_inputs : Cert.Pre_cmp_inputs.Facts] : Prop :=
  ∀ (m : (ℓ : Loc Cert.CmpAttnIdeal.nD Cert.CmpAttnIdeal.τ Cert.CmpAttnIdeal.sig) → Buf (Elt Ideal) ℓ) (g : Dev Cert.CmpAttnIdeal.nD → PrngReg), Pre_CmpAttnIdeal_cmp_inputs m →
    θ_run (Cert.CmpAttnIdeal.defs (F := Ideal)) (onTc (τ := Cert.CmpAttnIdeal.τ) (Cert.CmpAttnIdeal.main (F := Ideal))) ⟨m, fun _ => 0, g⟩ (fun r => (∀ c : Dev Cert.CmpAttnIdeal.nD,
      r.2.mem ((c.tc : Thread Cert.CmpAttnIdeal.nD Cert.CmpAttnIdeal.τ).loc Cert.CmpAttnIdeal.main_arg0) = m ((c.tc : Thread Cert.CmpAttnIdeal.nD Cert.CmpAttnIdeal.τ).loc Cert.CmpAttnIdeal.main_arg0)
      ∧ r.2.mem ((c.tc : Thread Cert.CmpAttnIdeal.nD Cert.CmpAttnIdeal.τ).loc Cert.CmpAttnIdeal.main_arg1) = m ((c.tc : Thread Cert.CmpAttnIdeal.nD Cert.CmpAttnIdeal.τ).loc Cert.CmpAttnIdeal.main_arg1)
      ∧ r.2.mem ((c.tc : Thread Cert.CmpAttnIdeal.nD Cert.CmpAttnIdeal.τ).loc Cert.CmpAttnIdeal.main_arg2) = m ((c.tc : Thread Cert.CmpAttnIdeal.nD Cert.CmpAttnIdeal.τ).loc Cert.CmpAttnIdeal.main_arg2))
      ∧ r.2.sem = fun _ => 0)

def quiescent_CmpAttnReferenceIdeal [hCmpAttnReferenceIdeal : Cert.CmpAttnReferenceIdeal.Facts] : Prop :=
  ∀ (m : (ℓ : Loc Cert.CmpAttnReferenceIdeal.nD Cert.CmpAttnReferenceIdeal.τ Cert.CmpAttnReferenceIdeal.sig) → Buf (Elt Ideal) ℓ) (g : Dev Cert.CmpAttnReferenceIdeal.nD → PrngReg), Pre_CmpAttnReferenceIdeal m →
    θ_run (Cert.CmpAttnReferenceIdeal.defs (F := Ideal)) (onTc (τ := Cert.CmpAttnReferenceIdeal.τ) (Cert.CmpAttnReferenceIdeal.main (F := Ideal))) ⟨m, fun _ => 0, g⟩ (fun r => (∀ c : Dev Cert.CmpAttnReferenceIdeal.nD,
      r.2.mem ((c.tc : Thread Cert.CmpAttnReferenceIdeal.nD Cert.CmpAttnReferenceIdeal.τ).loc Cert.CmpAttnReferenceIdeal.main_arg0) = m ((c.tc : Thread Cert.CmpAttnReferenceIdeal.nD Cert.CmpAttnReferenceIdeal.τ).loc Cert.CmpAttnReferenceIdeal.main_arg0)
      ∧ r.2.mem ((c.tc : Thread Cert.CmpAttnReferenceIdeal.nD Cert.CmpAttnReferenceIdeal.τ).loc Cert.CmpAttnReferenceIdeal.main_arg1) = m ((c.tc : Thread Cert.CmpAttnReferenceIdeal.nD Cert.CmpAttnReferenceIdeal.τ).loc Cert.CmpAttnReferenceIdeal.main_arg1)
      ∧ r.2.mem ((c.tc : Thread Cert.CmpAttnReferenceIdeal.nD Cert.CmpAttnReferenceIdeal.τ).loc Cert.CmpAttnReferenceIdeal.main_arg2) = m ((c.tc : Thread Cert.CmpAttnReferenceIdeal.nD Cert.CmpAttnReferenceIdeal.τ).loc Cert.CmpAttnReferenceIdeal.main_arg2))
      ∧ r.2.sem = fun _ => 0)

def quiescent_CmpAttnReferenceIdeal_pre_cmp_inputs [hCmpAttnReferenceIdeal : Cert.CmpAttnReferenceIdeal.Facts] [hPre_cmp_inputs : Cert.Pre_cmp_inputs.Facts] : Prop :=
  ∀ (m : (ℓ : Loc Cert.CmpAttnReferenceIdeal.nD Cert.CmpAttnReferenceIdeal.τ Cert.CmpAttnReferenceIdeal.sig) → Buf (Elt Ideal) ℓ) (g : Dev Cert.CmpAttnReferenceIdeal.nD → PrngReg), Pre_CmpAttnReferenceIdeal_cmp_inputs m →
    θ_run (Cert.CmpAttnReferenceIdeal.defs (F := Ideal)) (onTc (τ := Cert.CmpAttnReferenceIdeal.τ) (Cert.CmpAttnReferenceIdeal.main (F := Ideal))) ⟨m, fun _ => 0, g⟩ (fun r => (∀ c : Dev Cert.CmpAttnReferenceIdeal.nD,
      r.2.mem ((c.tc : Thread Cert.CmpAttnReferenceIdeal.nD Cert.CmpAttnReferenceIdeal.τ).loc Cert.CmpAttnReferenceIdeal.main_arg0) = m ((c.tc : Thread Cert.CmpAttnReferenceIdeal.nD Cert.CmpAttnReferenceIdeal.τ).loc Cert.CmpAttnReferenceIdeal.main_arg0)
      ∧ r.2.mem ((c.tc : Thread Cert.CmpAttnReferenceIdeal.nD Cert.CmpAttnReferenceIdeal.τ).loc Cert.CmpAttnReferenceIdeal.main_arg1) = m ((c.tc : Thread Cert.CmpAttnReferenceIdeal.nD Cert.CmpAttnReferenceIdeal.τ).loc Cert.CmpAttnReferenceIdeal.main_arg1)
      ∧ r.2.mem ((c.tc : Thread Cert.CmpAttnReferenceIdeal.nD Cert.CmpAttnReferenceIdeal.τ).loc Cert.CmpAttnReferenceIdeal.main_arg2) = m ((c.tc : Thread Cert.CmpAttnReferenceIdeal.nD Cert.CmpAttnReferenceIdeal.τ).loc Cert.CmpAttnReferenceIdeal.main_arg2))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_kernel_inputs [hKernelIdeal : Cert.KernelIdeal.Facts] [hReferenceIdeal : Cert.ReferenceIdeal.Facts] [hPre_kernel_inputs : Cert.Pre_kernel_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_kernel_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Compress_CompressIdeal : Prop :=
  True

def algebraic_CompressIdeal_CompressReferenceIdeal [hCompressIdeal : Cert.CompressIdeal.Facts] [hCompressReferenceIdeal : Cert.CompressReferenceIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressReferenceIdeal.nD Cert.CompressReferenceIdeal.τ Cert.CompressReferenceIdeal.sig) → Buf (Elt Ideal) ℓ) (g' : Dev Cert.CompressReferenceIdeal.nD → PrngReg), Pre_CompressIdeal m →
    (∀ c : Dev Cert.CompressIdeal.nD,
      m' ((c.tc : Thread Cert.CompressReferenceIdeal.nD Cert.CompressReferenceIdeal.τ).loc Cert.CompressReferenceIdeal.main_arg0) = m ((c.tc : Thread Cert.CompressIdeal.nD Cert.CompressIdeal.τ).loc Cert.CompressIdeal.main_arg0)
      ∧ m' ((c.tc : Thread Cert.CompressReferenceIdeal.nD Cert.CompressReferenceIdeal.τ).loc Cert.CompressReferenceIdeal.main_arg1) = m ((c.tc : Thread Cert.CompressIdeal.nD Cert.CompressIdeal.τ).loc Cert.CompressIdeal.main_arg1)
      ∧ m' ((c.tc : Thread Cert.CompressReferenceIdeal.nD Cert.CompressReferenceIdeal.τ).loc Cert.CompressReferenceIdeal.main_arg2) = m ((c.tc : Thread Cert.CompressIdeal.nD Cert.CompressIdeal.τ).loc Cert.CompressIdeal.main_arg2)
      ∧ m' ((c.tc : Thread Cert.CompressReferenceIdeal.nD Cert.CompressReferenceIdeal.τ).loc Cert.CompressReferenceIdeal.main_arg3) = m ((c.tc : Thread Cert.CompressIdeal.nD Cert.CompressIdeal.τ).loc Cert.CompressIdeal.main_arg3)) →
    ∃ (v0 : (c : Dev Cert.CompressIdeal.nD) → Buf (Elt Ideal) ((c.tc : Thread Cert.CompressIdeal.nD Cert.CompressIdeal.τ).loc Cert.CompressIdeal.main_v2_0)) (v1 : (c : Dev Cert.CompressIdeal.nD) → Buf (Elt Ideal) ((c.tc : Thread Cert.CompressIdeal.nD Cert.CompressIdeal.τ).loc Cert.CompressIdeal.main_v2_1)) (v2 : (c : Dev Cert.CompressIdeal.nD) → Buf (Elt Ideal) ((c.tc : Thread Cert.CompressIdeal.nD Cert.CompressIdeal.τ).loc Cert.CompressIdeal.main_v2_2)) (v3 : (c : Dev Cert.CompressIdeal.nD) → Buf (Elt Ideal) ((c.tc : Thread Cert.CompressIdeal.nD Cert.CompressIdeal.τ).loc Cert.CompressIdeal.main_v2_3)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v2_0) = v0 c
          ∧ r.2.mem ((c.tc : Thread Cert.CompressIdeal.nD Cert.CompressIdeal.τ).loc Cert.CompressIdeal.main_v2_1) = v1 c
          ∧ r.2.mem ((c.tc : Thread Cert.CompressIdeal.nD Cert.CompressIdeal.τ).loc Cert.CompressIdeal.main_v2_2) = v2 c
          ∧ r.2.mem ((c.tc : Thread Cert.CompressIdeal.nD Cert.CompressIdeal.τ).loc Cert.CompressIdeal.main_v2_3) = v3 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ θ_run (Cert.CompressReferenceIdeal.defs (F := Ideal)) (onTc (τ := Cert.CompressReferenceIdeal.τ) (Cert.CompressReferenceIdeal.main (F := Ideal))) ⟨m', fun _ => 0, g'⟩ (fun r => ∀ c : Dev Cert.CompressReferenceIdeal.nD,
          r.2.mem ((c.tc : Thread Cert.CompressReferenceIdeal.nD Cert.CompressReferenceIdeal.τ).loc Cert.CompressReferenceIdeal.main_v30) = v0 c
          ∧ r.2.mem ((c.tc : Thread Cert.CompressReferenceIdeal.nD Cert.CompressReferenceIdeal.τ).loc Cert.CompressReferenceIdeal.main_v32) = v1 c
          ∧ r.2.mem ((c.tc : Thread Cert.CompressReferenceIdeal.nD Cert.CompressReferenceIdeal.τ).loc Cert.CompressReferenceIdeal.main_v37) = v2 c
          ∧ r.2.mem ((c.tc : Thread Cert.CompressReferenceIdeal.nD Cert.CompressReferenceIdeal.τ).loc Cert.CompressReferenceIdeal.main_v39) = v3 c
          ∧ r.2.mem ((c.tc : Thread Cert.CompressReferenceIdeal.nD Cert.CompressReferenceIdeal.τ).loc Cert.CompressReferenceIdeal.main_arg0) = m' ((c.tc : Thread Cert.CompressReferenceIdeal.nD Cert.CompressReferenceIdeal.τ).loc Cert.CompressReferenceIdeal.main_arg0)
          ∧ r.2.mem ((c.tc : Thread Cert.CompressReferenceIdeal.nD Cert.CompressReferenceIdeal.τ).loc Cert.CompressReferenceIdeal.main_arg1) = m' ((c.tc : Thread Cert.CompressReferenceIdeal.nD Cert.CompressReferenceIdeal.τ).loc Cert.CompressReferenceIdeal.main_arg1)
          ∧ r.2.mem ((c.tc : Thread Cert.CompressReferenceIdeal.nD Cert.CompressReferenceIdeal.τ).loc Cert.CompressReferenceIdeal.main_arg2) = m' ((c.tc : Thread Cert.CompressReferenceIdeal.nD Cert.CompressReferenceIdeal.τ).loc Cert.CompressReferenceIdeal.main_arg2)
          ∧ r.2.mem ((c.tc : Thread Cert.CompressReferenceIdeal.nD Cert.CompressReferenceIdeal.τ).loc Cert.CompressReferenceIdeal.main_arg3) = m' ((c.tc : Thread Cert.CompressReferenceIdeal.nD Cert.CompressReferenceIdeal.τ).loc Cert.CompressReferenceIdeal.main_arg3))

def preserves_CmpAttn_CmpAttnIdeal : Prop :=
  IdealRules.named_const.Statement Cert.CmpAttnIdeal.κ "scale" .f32 0x3DB504F3#32 (((Real.sqrt 128)⁻¹ : ℝ) : EReal)
  ∧ IdealRules.named_const.Statement Cert.CmpAttnIdeal.κ "fifth" .f32 0x3E4CCCCD#32 ((1 / 5 : ℝ) : EReal)
  ∧ IdealRules.named_const.Statement Cert.CmpAttnIdeal.κ "mask" .f32 0xF149F2CA#32 ⊥

def algebraic_CmpAttnIdeal_CmpAttnReferenceIdeal_pre_cmp_inputs [hCmpAttnIdeal : Cert.CmpAttnIdeal.Facts] [hCmpAttnReferenceIdeal : Cert.CmpAttnReferenceIdeal.Facts] [hPre_cmp_inputs : Cert.Pre_cmp_inputs.Facts] : Prop :=
  ∀ (m : (ℓ : Loc Cert.CmpAttnIdeal.nD Cert.CmpAttnIdeal.τ Cert.CmpAttnIdeal.sig) → Buf (Elt Ideal) ℓ) (g : Dev Cert.CmpAttnIdeal.nD → PrngReg)
    (m' : (ℓ : Loc Cert.CmpAttnReferenceIdeal.nD Cert.CmpAttnReferenceIdeal.τ Cert.CmpAttnReferenceIdeal.sig) → Buf (Elt Ideal) ℓ) (g' : Dev Cert.CmpAttnReferenceIdeal.nD → PrngReg), Pre_CmpAttnIdeal_cmp_inputs m →
    (∀ c : Dev Cert.CmpAttnIdeal.nD,
      m' ((c.tc : Thread Cert.CmpAttnReferenceIdeal.nD Cert.CmpAttnReferenceIdeal.τ).loc Cert.CmpAttnReferenceIdeal.main_arg0) = m ((c.tc : Thread Cert.CmpAttnIdeal.nD Cert.CmpAttnIdeal.τ).loc Cert.CmpAttnIdeal.main_arg0)
      ∧ m' ((c.tc : Thread Cert.CmpAttnReferenceIdeal.nD Cert.CmpAttnReferenceIdeal.τ).loc Cert.CmpAttnReferenceIdeal.main_arg1) = m ((c.tc : Thread Cert.CmpAttnIdeal.nD Cert.CmpAttnIdeal.τ).loc Cert.CmpAttnIdeal.main_arg1)
      ∧ m' ((c.tc : Thread Cert.CmpAttnReferenceIdeal.nD Cert.CmpAttnReferenceIdeal.τ).loc Cert.CmpAttnReferenceIdeal.main_arg2) = m ((c.tc : Thread Cert.CmpAttnIdeal.nD Cert.CmpAttnIdeal.τ).loc Cert.CmpAttnIdeal.main_arg2)) →
    ∃ (v0 : (c : Dev Cert.CmpAttnIdeal.nD) → Buf (Elt Ideal) ((c.tc : Thread Cert.CmpAttnIdeal.nD Cert.CmpAttnIdeal.τ).loc Cert.CmpAttnIdeal.main_v10_0)) (v1 : (c : Dev Cert.CmpAttnIdeal.nD) → Buf (Elt Ideal) ((c.tc : Thread Cert.CmpAttnIdeal.nD Cert.CmpAttnIdeal.τ).loc Cert.CmpAttnIdeal.main_v10_1)),
      θ_run (Cert.CmpAttnIdeal.defs (F := Ideal)) (onTc (τ := Cert.CmpAttnIdeal.τ) (Cert.CmpAttnIdeal.main (F := Ideal))) ⟨m, fun _ => 0, g⟩ (fun r => ∀ c : Dev Cert.CmpAttnIdeal.nD,
          r.2.mem ((c.tc : Thread Cert.CmpAttnIdeal.nD Cert.CmpAttnIdeal.τ).loc Cert.CmpAttnIdeal.main_v10_0) = v0 c
          ∧ r.2.mem ((c.tc : Thread Cert.CmpAttnIdeal.nD Cert.CmpAttnIdeal.τ).loc Cert.CmpAttnIdeal.main_v10_1) = v1 c
          ∧ r.2.mem ((c.tc : Thread Cert.CmpAttnIdeal.nD Cert.CmpAttnIdeal.τ).loc Cert.CmpAttnIdeal.main_arg0) = m ((c.tc : Thread Cert.CmpAttnIdeal.nD Cert.CmpAttnIdeal.τ).loc Cert.CmpAttnIdeal.main_arg0)
          ∧ r.2.mem ((c.tc : Thread Cert.CmpAttnIdeal.nD Cert.CmpAttnIdeal.τ).loc Cert.CmpAttnIdeal.main_arg1) = m ((c.tc : Thread Cert.CmpAttnIdeal.nD Cert.CmpAttnIdeal.τ).loc Cert.CmpAttnIdeal.main_arg1)
          ∧ r.2.mem ((c.tc : Thread Cert.CmpAttnIdeal.nD Cert.CmpAttnIdeal.τ).loc Cert.CmpAttnIdeal.main_arg2) = m ((c.tc : Thread Cert.CmpAttnIdeal.nD Cert.CmpAttnIdeal.τ).loc Cert.CmpAttnIdeal.main_arg2))
      ∧ θ_run (Cert.CmpAttnReferenceIdeal.defs (F := Ideal)) (onTc (τ := Cert.CmpAttnReferenceIdeal.τ) (Cert.CmpAttnReferenceIdeal.main (F := Ideal))) ⟨m', fun _ => 0, g'⟩ (fun r => ∀ c : Dev Cert.CmpAttnReferenceIdeal.nD,
          r.2.mem ((c.tc : Thread Cert.CmpAttnReferenceIdeal.nD Cert.CmpAttnReferenceIdeal.τ).loc Cert.CmpAttnReferenceIdeal.main_v74) = v0 c
          ∧ r.2.mem ((c.tc : Thread Cert.CmpAttnReferenceIdeal.nD Cert.CmpAttnReferenceIdeal.τ).loc Cert.CmpAttnReferenceIdeal.main_v76) = v1 c
          ∧ r.2.mem ((c.tc : Thread Cert.CmpAttnReferenceIdeal.nD Cert.CmpAttnReferenceIdeal.τ).loc Cert.CmpAttnReferenceIdeal.main_arg0) = m' ((c.tc : Thread Cert.CmpAttnReferenceIdeal.nD Cert.CmpAttnReferenceIdeal.τ).loc Cert.CmpAttnReferenceIdeal.main_arg0)
          ∧ r.2.mem ((c.tc : Thread Cert.CmpAttnReferenceIdeal.nD Cert.CmpAttnReferenceIdeal.τ).loc Cert.CmpAttnReferenceIdeal.main_arg1) = m' ((c.tc : Thread Cert.CmpAttnReferenceIdeal.nD Cert.CmpAttnReferenceIdeal.τ).loc Cert.CmpAttnReferenceIdeal.main_arg1)
          ∧ r.2.mem ((c.tc : Thread Cert.CmpAttnReferenceIdeal.nD Cert.CmpAttnReferenceIdeal.τ).loc Cert.CmpAttnReferenceIdeal.main_arg2) = m' ((c.tc : Thread Cert.CmpAttnReferenceIdeal.nD Cert.CmpAttnReferenceIdeal.τ).loc Cert.CmpAttnReferenceIdeal.main_arg2))

def Claim : Prop :=
  ∃ (hKernel : Cert.Kernel.Facts) (hKernelIdeal : Cert.KernelIdeal.Facts) (hReferenceIdeal : Cert.ReferenceIdeal.Facts) (hCompress : Cert.Compress.Facts) (hCompressIdeal : Cert.CompressIdeal.Facts) (hCompressReferenceIdeal : Cert.CompressReferenceIdeal.Facts) (hCmpAttn : Cert.CmpAttn.Facts) (hCmpAttnIdeal : Cert.CmpAttnIdeal.Facts) (hCmpAttnReferenceIdeal : Cert.CmpAttnReferenceIdeal.Facts) (hPre_kernel_inputs : Cert.Pre_kernel_inputs.Facts) (hPre_cmp_inputs : Cert.Pre_cmp_inputs.Facts),
    quiescent_Kernel (hKernel := hKernel)
    ∧ quiescent_KernelIdeal (hKernelIdeal := hKernelIdeal)
    ∧ quiescent_KernelIdeal_pre_kernel_inputs (hKernelIdeal := hKernelIdeal) (hPre_kernel_inputs := hPre_kernel_inputs)
    ∧ quiescent_ReferenceIdeal (hReferenceIdeal := hReferenceIdeal)
    ∧ quiescent_ReferenceIdeal_pre_kernel_inputs (hReferenceIdeal := hReferenceIdeal) (hPre_kernel_inputs := hPre_kernel_inputs)
    ∧ quiescent_Compress (hCompress := hCompress)
    ∧ quiescent_CompressIdeal (hCompressIdeal := hCompressIdeal)
    ∧ quiescent_CompressReferenceIdeal (hCompressReferenceIdeal := hCompressReferenceIdeal)
    ∧ quiescent_CmpAttn (hCmpAttn := hCmpAttn)
    ∧ quiescent_CmpAttnIdeal (hCmpAttnIdeal := hCmpAttnIdeal)
    ∧ quiescent_CmpAttnIdeal_pre_cmp_inputs (hCmpAttnIdeal := hCmpAttnIdeal) (hPre_cmp_inputs := hPre_cmp_inputs)
    ∧ quiescent_CmpAttnReferenceIdeal (hCmpAttnReferenceIdeal := hCmpAttnReferenceIdeal)
    ∧ quiescent_CmpAttnReferenceIdeal_pre_cmp_inputs (hCmpAttnReferenceIdeal := hCmpAttnReferenceIdeal) (hPre_cmp_inputs := hPre_cmp_inputs)
    ∧ preserves_Kernel_KernelIdeal
    ∧ algebraic_KernelIdeal_ReferenceIdeal_pre_kernel_inputs (hKernelIdeal := hKernelIdeal) (hReferenceIdeal := hReferenceIdeal) (hPre_kernel_inputs := hPre_kernel_inputs)
    ∧ preserves_Compress_CompressIdeal
    ∧ algebraic_CompressIdeal_CompressReferenceIdeal (hCompressIdeal := hCompressIdeal) (hCompressReferenceIdeal := hCompressReferenceIdeal)
    ∧ preserves_CmpAttn_CmpAttnIdeal
    ∧ algebraic_CmpAttnIdeal_CmpAttnReferenceIdeal_pre_cmp_inputs (hCmpAttnIdeal := hCmpAttnIdeal) (hCmpAttnReferenceIdeal := hCmpAttnReferenceIdeal) (hPre_cmp_inputs := hPre_cmp_inputs)
-- ==== Pre_cmp_inputs.lean ====
abbrev S2048x16x128 : Shape := ⟨3, ![2048, 16, 128]⟩
abbrev S4x128x128 : Shape := ⟨3, ![4, 128, 128]⟩
abbrev S2048x4x4x128 : Shape := ⟨4, ![2048, 4, 4, 128]⟩
abbrev S2048 : Shape := ⟨1, ![2048]⟩
abbrev S127 : Shape := ⟨1, ![127]⟩
abbrev S_ : Shape := ⟨0, ![]⟩
abbrev S4x127x128 : Shape := ⟨3, ![4, 127, 128]⟩
abbrev S4x127x2048x4 : Shape := ⟨4, ![4, 127, 2048, 4]⟩
abbrev S2048x4x4x127 : Shape := ⟨4, ![2048, 4, 4, 127]⟩
abbrev S1x127 : Shape := ⟨2, ![1, 127]⟩
abbrev S2048x1 : Shape := ⟨2, ![2048, 1]⟩
abbrev S2048x127 : Shape := ⟨2, ![2048, 127]⟩
abbrev S2048x1x1x127 : Shape := ⟨4, ![2048, 1, 1, 127]⟩
abbrev S2048x4x4 : Shape := ⟨3, ![2048, 4, 4]⟩
abbrev S2048x4x4x1 : Shape := ⟨4, ![2048, 4, 4, 1]⟩
abbrev S2048x4x127 : Shape := ⟨3, ![2048, 4, 127]⟩
abbrev S4x2048x127 : Shape := ⟨3, ![4, 2048, 127]⟩
abbrev S31 : Shape := ⟨1, ![31]⟩
abbrev S31x1 : Shape := ⟨2, ![31, 1]⟩
abbrev S5 : Shape := ⟨1, ![5]⟩
abbrev S1x5 : Shape := ⟨2, ![1, 5]⟩
abbrev S31x5 : Shape := ⟨2, ![31, 5]⟩
abbrev S31x5x1 : Shape := ⟨3, ![31, 5, 1]⟩
abbrev S4x2048x31x5 : Shape := ⟨4, ![4, 2048, 31, 5]⟩
abbrev S4x2048x31 : Shape := ⟨3, ![4, 2048, 31]⟩
abbrev S4x2048x31x1 : Shape := ⟨4, ![4, 2048, 31, 1]⟩
abbrev S4x2048x1x31 : Shape := ⟨4, ![4, 2048, 1, 31]⟩
abbrev S4x2048x31x31 : Shape := ⟨4, ![4, 2048, 31, 31]⟩
abbrev S1x31 : Shape := ⟨2, ![1, 31]⟩
abbrev S31x31 : Shape := ⟨2, ![31, 31]⟩
abbrev S1x1x31x31 : Shape := ⟨4, ![1, 1, 31, 31]⟩

class Facts : Prop where
  shapeCasts_S2048x16x128_S2048x4x4x128 : S2048x16x128.ShapeCasts S2048x4x4x128
  bcast_S_S127 : S_.BroadcastsInDim S127 (![] : Fin 0 → Fin S127.rank)
  slices_S4x128x128_S4x127x128_0_0_0 : S4x128x128.Slices ![0, 0, 0] S4x127x128
  transposes_S4x127x2048x4_S2048x4x4x127_2_0_3_1 : S4x127x2048x4.Transposes [2, 0, 3, 1] S2048x4x4x127
  bcast_S_S2048x4x4x127 : S_.BroadcastsInDim S2048x4x4x127 (![] : Fin 0 → Fin S2048x4x4x127.rank)
  bcast_S127_S1x127_1 : S127.BroadcastsInDim S1x127 (![1] : Fin 1 → Fin S1x127.rank)
  bcast_S2048_S2048x1_0 : S2048.BroadcastsInDim S2048x1 (![0] : Fin 1 → Fin S2048x1.rank)
  bcast_S1x127_S2048x127_0_1 : S1x127.BroadcastsInDim S2048x127 (![0, 1] : Fin 2 → Fin S2048x127.rank)
  bcast_S2048x1_S2048x127_0_1 : S2048x1.BroadcastsInDim S2048x127 (![0, 1] : Fin 2 → Fin S2048x127.rank)
  bcast_S2048x127_S2048x1x1x127_0_3 : S2048x127.BroadcastsInDim S2048x1x1x127 (![0, 3] : Fin 2 → Fin S2048x1x1x127.rank)
  bcast_S2048x1x1x127_S2048x4x4x127_0_1_2_3 : S2048x1x1x127.BroadcastsInDim S2048x4x4x127 (![0, 1, 2, 3] : Fin 4 → Fin S2048x4x4x127.rank)
  reducesTo_S2048x4x4x127_S2048x4x4_d3 : S2048x4x4x127.ReducesTo [3] S2048x4x4
  h_S_ : 0 < S_.numel
  bcast_S_S2048x4x4 : S_.BroadcastsInDim S2048x4x4 (![] : Fin 0 → Fin S2048x4x4.rank)
  bcast_S2048x4x4_S2048x4x4x1_0_1_2 : S2048x4x4.BroadcastsInDim S2048x4x4x1 (![0, 1, 2] : Fin 3 → Fin S2048x4x4x1.rank)
  bcast_S2048x4x4x1_S2048x4x4x127_0_1_2_3 : S2048x4x4x1.BroadcastsInDim S2048x4x4x127 (![0, 1, 2, 3] : Fin 4 → Fin S2048x4x4x127.rank)
  reducesTo_S2048x4x4x127_S2048x4x127_d2 : S2048x4x4x127.ReducesTo [2] S2048x4x127
  transposes_S2048x4x127_S4x2048x127_1_0_2 : S2048x4x127.Transposes [1, 0, 2] S4x2048x127
  bcast_S31_S31x1_0 : S31.BroadcastsInDim S31x1 (![0] : Fin 1 → Fin S31x1.rank)
  bcast_S_S31x1 : S_.BroadcastsInDim S31x1 (![] : Fin 0 → Fin S31x1.rank)
  bcast_S5_S1x5_1 : S5.BroadcastsInDim S1x5 (![1] : Fin 1 → Fin S1x5.rank)
  bcast_S31x1_S31x5_0_1 : S31x1.BroadcastsInDim S31x5 (![0, 1] : Fin 2 → Fin S31x5.rank)
  bcast_S1x5_S31x5_0_1 : S1x5.BroadcastsInDim S31x5 (![0, 1] : Fin 2 → Fin S31x5.rank)
  bcast_S_S31x5 : S_.BroadcastsInDim S31x5 (![] : Fin 0 → Fin S31x5.rank)
  bcast_S31x5_S31x5x1_0_1 : S31x5.BroadcastsInDim S31x5x1 (![0, 1] : Fin 2 → Fin S31x5x1.rank)
  reducesTo_S4x2048x31x5_S4x2048x31_d3 : S4x2048x31x5.ReducesTo [3] S4x2048x31
  bcast_S_S4x2048x31 : S_.BroadcastsInDim S4x2048x31 (![] : Fin 0 → Fin S4x2048x31.rank)
  bcast_S4x2048x31_S4x2048x31x1_0_1_2 : S4x2048x31.BroadcastsInDim S4x2048x31x1 (![0, 1, 2] : Fin 3 → Fin S4x2048x31x1.rank)
  bcast_S4x2048x31_S4x2048x1x31_0_1_3 : S4x2048x31.BroadcastsInDim S4x2048x1x31 (![0, 1, 3] : Fin 3 → Fin S4x2048x1x31.rank)
  bcast_S4x2048x31x1_S4x2048x31x31_0_1_2_3 : S4x2048x31x1.BroadcastsInDim S4x2048x31x31 (![0, 1, 2, 3] : Fin 4 → Fin S4x2048x31x31.rank)
  bcast_S4x2048x1x31_S4x2048x31x31_0_1_2_3 : S4x2048x1x31.BroadcastsInDim S4x2048x31x31 (![0, 1, 2, 3] : Fin 4 → Fin S4x2048x31x31.rank)
  bcast_S31_S1x31_1 : S31.BroadcastsInDim S1x31 (![1] : Fin 1 → Fin S1x31.rank)
  bcast_S31x1_S31x31_0_1 : S31x1.BroadcastsInDim S31x31 (![0, 1] : Fin 2 → Fin S31x31.rank)
  bcast_S1x31_S31x31_0_1 : S1x31.BroadcastsInDim S31x31 (![0, 1] : Fin 2 → Fin S31x31.rank)
  bcast_S_S31x31 : S_.BroadcastsInDim S31x31 (![] : Fin 0 → Fin S31x31.rank)
  bcast_S_S4x2048x31x31 : S_.BroadcastsInDim S4x2048x31x31 (![] : Fin 0 → Fin S4x2048x31x31.rank)
  bcast_S31x31_S1x1x31x31_2_3 : S31x31.BroadcastsInDim S1x1x31x31 (![2, 3] : Fin 2 → Fin S1x1x31x31.rank)
  bcast_S1x1x31x31_S4x2048x31x31_0_1_2_3 : S1x1x31x31.BroadcastsInDim S4x2048x31x31 (![0, 1, 2, 3] : Fin 4 → Fin S4x2048x31x31.rank)
  reducesTo_S4x2048x31x31_S_d0_1_2_3 : S4x2048x31x31.ReducesTo [0, 1, 2, 3] S_
  bcast_S_S2048x16x128 : S_.BroadcastsInDim S2048x16x128 (![] : Fin 0 → Fin S2048x16x128.rank)
  reducesTo_S2048x16x128_S_d0_1_2 : S2048x16x128.ReducesTo [0, 1, 2] S_
  bcast_S_S4x128x128 : S_.BroadcastsInDim S4x128x128 (![] : Fin 0 → Fin S4x128x128.rank)
  reducesTo_S4x128x128_S_d0_1_2 : S4x128x128.ReducesTo [0, 1, 2] S_
  dot_S4x127x128_S2048x4x4x128_S4x127x2048x4_2_3_1_02_0_1_wf : DotDims.WF S4x127x128 S2048x4x4x128 S4x127x2048x4 [2] [3] [1] [0, 2] [0] [1]
  gather_S4x2048x127_S31x5x1_S4x2048x31x5_01_2_n_n_2_2_420481_wf : GatherDims.WF S4x2048x127 S31x5x1 S4x2048x31x5 [0, 1] [2] [] [2] [] 2 ![4, 2048, 1]

variable [Facts]

def dot_S4x127x128_S2048x4x4x128_S4x127x2048x4_2_3_1_02_0_1 : DotDims S4x127x128 S2048x4x4x128 S4x127x2048x4 where
  lhsContracting := [2]
  rhsContracting := [3]
  lhsNonContracting := [1]
  rhsNonContracting := [0, 2]
  lhsBatch := [0]
  rhsBatch := [1]
  wf := dot_S4x127x128_S2048x4x4x128_S4x127x2048x4_2_3_1_02_0_1_wf
def gather_S4x2048x127_S31x5x1_S4x2048x31x5_01_2_n_n_2_2_420481 : GatherDims S4x2048x127 S31x5x1 S4x2048x31x5 where
  offsetDims := [0, 1]
  collapsedSliceDims := [2]
  operandBatchingDims := []
  startIndicesBatchingDims := []
  startIndexMap := [2]
  indexVectorDim := 2
  sliceSizes := ![4, 2048, 1]
  wf := gather_S4x2048x127_S31x5x1_S4x2048x31x5_01_2_n_n_2_2_420481_wf
def fn_where {F : FTy → Type} [FloatOps F] (arg0 : IVec S2048x1x1x127 1) (arg1 : FVec F S2048x4x4x127 .f32) (arg2 : FVec F S_ .f32) : FVec F S2048x4x4x127 .f32 :=
  let v0 : FVec F S_ .f32 := id arg2
  let v1 : IVec S2048x4x4x127 1 := broadcastInDim S2048x4x4x127 ![0, 1, 2, 3] bcast_S2048x1x1x127_S2048x4x4x127_0_1_2_3 arg0
  let v2 : FVec F S2048x4x4x127 .f32 := broadcastInDim S2048x4x4x127 ![] bcast_S_S2048x4x4x127 v0
  let v3 : FVec F S2048x4x4x127 .f32 := select v1 arg1 v2
  v3

def fn_part4 {F : FTy → Type} [FloatOps F] (main_v70 : IVec S_ 1) (main_v74 : IVec S_ 1) (main_v77 : IVec S4x128x128 1) : IVec S_ 1 :=
  let main_c_16 : IVec S_ 1 := constantI S_ 1 1#1
  let main_v78 : IVec S_ 1 := (fun x v => Host.reduce IntOp.andi x v reducesTo_S4x128x128_S_d0_1_2 h_S_) main_v77 main_c_16
  let main_v79 : IVec S_ 1 := andi main_v74 main_v78
  let main_v80 : IVec S_ 1 := andi main_v79 main_v70
  main_v80

def fn_part3 {F : FTy → Type} [FloatOps F] (main_arg0 : FVec F S2048x16x128 .f32) (main_arg1 : FVec F S4x128x128 .f32) (main_v54 : FVec F S4x2048x31x31 .f32) (main_v58 : IVec S31x31 32) (main_v59 : IVec S31x31 32) : IVec S_ 1 :=
  let main_v60 : IVec S31x31 32 := subi main_v58 main_v59
  let main_v61 : FVec F S31x31 .f32 := sitofp .f32 main_v60
  let main_cst_10 : FVec F S_ .f32 := constant S_ .f32 0x2EDBE6FF#32
  let main_v62 : FVec F S31x31 .f32 := broadcastInDim S31x31 ![] bcast_S_S31x31 main_cst_10
  let main_v63 : FVec F S31x31 .f32 := mulf main_v61 main_v62
  let main_cst_11 : FVec F S_ .f32 := constant S_ .f32 0x00000000#32
  let main_v64 : FVec F S4x2048x31x31 .f32 := broadcastInDim S4x2048x31x31 ![] bcast_S_S4x2048x31x31 main_cst_11
  let main_v65 : IVec S4x2048x31x31 1 := cmpf .ole main_v54 main_v64
  let main_v66 : FVec F S1x1x31x31 .f32 := broadcastInDim S1x1x31x31 ![2, 3] bcast_S31x31_S1x1x31x31_2_3 main_v63
  let main_v67 : FVec F S4x2048x31x31 .f32 := broadcastInDim S4x2048x31x31 ![0, 1, 2, 3] bcast_S1x1x31x31_S4x2048x31x31_0_1_2_3 main_v66
  let main_v68 : IVec S4x2048x31x31 1 := cmpf .ogt main_v54 main_v67
  let main_v69 : IVec S4x2048x31x31 1 := ori main_v65 main_v68
  let main_c_12 : IVec S_ 1 := constantI S_ 1 1#1
  let main_v70 : IVec S_ 1 := (fun x v => Host.reduce IntOp.andi x v reducesTo_S4x2048x31x31_S_d0_1_2_3 h_S_) main_v69 main_c_12
  let main_v71 : FVec F S2048x16x128 .f32 := Host.absf main_arg0
  let main_cst_13 : FVec F S_ .f32 := constant S_ .f32 0x7F800000#32
  let main_v72 : FVec F S2048x16x128 .f32 := broadcastInDim S2048x16x128 ![] bcast_S_S2048x16x128 main_cst_13
  let main_v73 : IVec S2048x16x128 1 := cmpf .olt main_v71 main_v72
  let main_c_14 : IVec S_ 1 := constantI S_ 1 1#1
  let main_v74 : IVec S_ 1 := (fun x v => Host.reduce IntOp.andi x v reducesTo_S2048x16x128_S_d0_1_2 h_S_) main_v73 main_c_14
  let main_v75 : FVec F S4x128x128 .f32 := Host.absf main_arg1
  let main_cst_15 : FVec F S_ .f32 := constant S_ .f32 0x7F800000#32
  let main_v76 : FVec F S4x128x128 .f32 := broadcastInDim S4x128x128 ![] bcast_S_S4x128x128 main_cst_15
  let main_v77 : IVec S4x128x128 1 := cmpf .olt main_v75 main_v76
  fn_part4 (F := F) main_v70 main_v74 main_v77

def fn_part2 {F : FTy → Type} [FloatOps F] (main_arg0 : FVec F S2048x16x128 .f32) (main_arg1 : FVec F S4x128x128 .f32) (main_v30 : FVec F S4x2048x127 .f32) (main_v39 : IVec S31x5 32) : IVec S_ 1 :=
  let main_c_6 : IVec S_ 32 := constantI S_ 32 0#32
  let main_v40 : IVec S31x5 32 := broadcastInDim S31x5 ![] bcast_S_S31x5 main_c_6
  let main_v41 : IVec S31x5 1 := cmpi .slt main_v39 main_v40
  let main_c_7 : IVec S_ 32 := constantI S_ 32 127#32
  let main_v42 : IVec S31x5 32 := broadcastInDim S31x5 ![] bcast_S_S31x5 main_c_7
  let main_v43 : IVec S31x5 32 := addi main_v39 main_v42
  let main_v44 : IVec S31x5 32 := select main_v41 main_v43 main_v39
  let main_v45 : IVec S31x5x1 32 := broadcastInDim S31x5x1 ![0, 1] bcast_S31x5_S31x5x1_0_1 main_v44
  let main_v46 : FVec F S4x2048x31x5 .f32 := (fun x i => Host.gather gather_S4x2048x127_S31x5x1_S4x2048x31x5_01_2_n_n_2_2_420481 x i) main_v30 main_v45
  let main_cst_8 : FVec F S_ .f32 := constant S_ .f32 0x00000000#32
  let main_v47 : FVec F S4x2048x31 .f32 := (fun x v => Host.reduceAdd x v reducesTo_S4x2048x31x5_S4x2048x31_d3 h_S_) main_v46 main_cst_8
  let main_cst_9 : FVec F S_ .f32 := constant S_ .f32 0x40A00000#32
  let main_v48 : FVec F S4x2048x31 .f32 := broadcastInDim S4x2048x31 ![] bcast_S_S4x2048x31 main_cst_9
  let main_v49 : FVec F S4x2048x31 .f32 := Host.divf main_v47 main_v48
  let main_v50 : FVec F S4x2048x31x1 .f32 := broadcastInDim S4x2048x31x1 ![0, 1, 2] bcast_S4x2048x31_S4x2048x31x1_0_1_2 main_v49
  let main_v51 : FVec F S4x2048x1x31 .f32 := broadcastInDim S4x2048x1x31 ![0, 1, 3] bcast_S4x2048x31_S4x2048x1x31_0_1_3 main_v49
  let main_v52 : FVec F S4x2048x31x31 .f32 := broadcastInDim S4x2048x31x31 ![0, 1, 2, 3] bcast_S4x2048x31x1_S4x2048x31x31_0_1_2_3 main_v50
  let main_v53 : FVec F S4x2048x31x31 .f32 := broadcastInDim S4x2048x31x31 ![0, 1, 2, 3] bcast_S4x2048x1x31_S4x2048x31x31_0_1_2_3 main_v51
  let main_v54 : FVec F S4x2048x31x31 .f32 := subf main_v52 main_v53
  let main_v55 : IVec S31 32 := iotaInDim S31 32 0
  let main_v56 : IVec S31x1 32 := broadcastInDim S31x1 ![0] bcast_S31_S31x1_0 main_v55
  let main_v57 : IVec S1x31 32 := broadcastInDim S1x31 ![1] bcast_S31_S1x31_1 main_v55
  let main_v58 : IVec S31x31 32 := broadcastInDim S31x31 ![0, 1] bcast_S31x1_S31x31_0_1 main_v56
  let main_v59 : IVec S31x31 32 := broadcastInDim S31x31 ![0, 1] bcast_S1x31_S31x31_0_1 main_v57
  fn_part3 (F := F) main_arg0 main_arg1 main_v54 main_v58 main_v59

def fn_part1 {F : FTy → Type} [FloatOps F] (main_arg0 : FVec F S2048x16x128 .f32) (main_arg1 : FVec F S4x128x128 .f32) (main_v17 : FVec F S2048x4x4x127 .f32) (main_v18 : FVec F S2048x4x4 .f32) (main_cst_2 : FVec F S_ .f32) : IVec S_ 1 :=
  let main_v19 : FVec F S2048x4x4 .f32 := broadcastInDim S2048x4x4 ![] bcast_S_S2048x4x4 main_cst_2
  let main_v20 : FVec F S2048x4x4 .f32 := maximumf main_v19 main_v18
  let main_v21 : FVec F S2048x4x4x1 .f32 := broadcastInDim S2048x4x4x1 ![0, 1, 2] bcast_S2048x4x4_S2048x4x4x1_0_1_2 main_v20
  let main_v22 : FVec F S2048x4x4x127 .f32 := broadcastInDim S2048x4x4x127 ![0, 1, 2, 3] bcast_S2048x4x4x1_S2048x4x4x127_0_1_2_3 main_v21
  let main_v23 : FVec F S2048x4x4x127 .f32 := subf main_v17 main_v22
  let main_v24 : FVec F S2048x4x4x127 .f32 := Host.exp main_v23
  let main_cst_3 : FVec F S_ .f32 := constant S_ .f32 0x00000000#32
  let main_v25 : FVec F S2048x4x4 .f32 := (fun x v => Host.reduceAdd x v reducesTo_S2048x4x4x127_S2048x4x4_d3 h_S_) main_v24 main_cst_3
  let main_v26 : FVec F S2048x4x4x1 .f32 := broadcastInDim S2048x4x4x1 ![0, 1, 2] bcast_S2048x4x4_S2048x4x4x1_0_1_2 main_v25
  let main_v27 : FVec F S2048x4x4x127 .f32 := broadcastInDim S2048x4x4x127 ![0, 1, 2, 3] bcast_S2048x4x4x1_S2048x4x4x127_0_1_2_3 main_v26
  let main_v28 : FVec F S2048x4x4x127 .f32 := Host.divf main_v24 main_v27
  let main_cst_4 : FVec F S_ .f32 := constant S_ .f32 0x00000000#32
  let main_v29 : FVec F S2048x4x127 .f32 := (fun x v => Host.reduceAdd x v reducesTo_S2048x4x4x127_S2048x4x127_d2 h_S_) main_v28 main_cst_4
  let main_v30 : FVec F S4x2048x127 .f32 := (transpose S4x2048x127 [1, 0, 2] · transposes_S2048x4x127_S4x2048x127_1_0_2) main_v29
  let main_v31 : IVec S31 32 := iotaInDim S31 32 0
  let main_v32 : IVec S31x1 32 := broadcastInDim S31x1 ![0] bcast_S31_S31x1_0 main_v31
  let main_c_5 : IVec S_ 32 := constantI S_ 32 4#32
  let main_v33 : IVec S31x1 32 := broadcastInDim S31x1 ![] bcast_S_S31x1 main_c_5
  let main_v34 : IVec S31x1 32 := muli main_v32 main_v33
  let main_v35 : IVec S5 32 := iotaInDim S5 32 0
  let main_v36 : IVec S1x5 32 := broadcastInDim S1x5 ![1] bcast_S5_S1x5_1 main_v35
  let main_v37 : IVec S31x5 32 := broadcastInDim S31x5 ![0, 1] bcast_S31x1_S31x5_0_1 main_v34
  let main_v38 : IVec S31x5 32 := broadcastInDim S31x5 ![0, 1] bcast_S1x5_S31x5_0_1 main_v36
  let main_v39 : IVec S31x5 32 := addi main_v37 main_v38
  fn_part2 (F := F) main_arg0 main_arg1 main_v30 main_v39

def fn {F : FTy → Type} [FloatOps F] (main_arg0 : FVec F S2048x16x128 .f32) (main_arg1 : FVec F S4x128x128 .f32) (main_arg2 : FVec F S4x128x128 .f32) : IVec S_ 1 :=
  let main_v0 : FVec F S2048x4x4x128 .f32 := shapeCast S2048x4x4x128 main_arg0 shapeCasts_S2048x16x128_S2048x4x4x128
  let main_v1 : IVec S2048 32 := iotaInDim S2048 32 0
  let main_v2 : IVec S127 32 := iotaInDim S127 32 0
  let main_c : IVec S_ 32 := constantI S_ 32 16#32
  let main_v3 : IVec S127 32 := broadcastInDim S127 ![] bcast_S_S127 main_c
  let main_v4 : IVec S127 32 := muli main_v2 main_v3
  let main_v5 : FVec F S4x127x128 .f32 := (extractStridedSlice S4x127x128 ![0, 0, 0] · slices_S4x128x128_S4x127x128_0_0_0) main_arg1
  let main_v6 : FVec F S4x127x2048x4 .f32 := (fun l r => Host.dotGeneral dot_S4x127x128_S2048x4x4x128_S4x127x2048x4_2_3_1_02_0_1 none l r) main_v5 main_v0
  let main_v7 : FVec F S2048x4x4x127 .f32 := (transpose S2048x4x4x127 [2, 0, 3, 1] · transposes_S4x127x2048x4_S2048x4x4x127_2_0_3_1) main_v6
  let main_cst : FVec F S_ .f32 := constant S_ .f32 0x43000000#32
  let main_v8 : FVec F S_ .f32 := Host.sqrt main_cst
  let main_v9 : FVec F S2048x4x4x127 .f32 := broadcastInDim S2048x4x4x127 ![] bcast_S_S2048x4x4x127 main_v8
  let main_v10 : FVec F S2048x4x4x127 .f32 := Host.divf main_v7 main_v9
  let main_v11 : IVec S1x127 32 := broadcastInDim S1x127 ![1] bcast_S127_S1x127_1 main_v4
  let main_v12 : IVec S2048x1 32 := broadcastInDim S2048x1 ![0] bcast_S2048_S2048x1_0 main_v1
  let main_v13 : IVec S2048x127 32 := broadcastInDim S2048x127 ![0, 1] bcast_S1x127_S2048x127_0_1 main_v11
  let main_v14 : IVec S2048x127 32 := broadcastInDim S2048x127 ![0, 1] bcast_S2048x1_S2048x127_0_1 main_v12
  let main_v15 : IVec S2048x127 1 := cmpi .sle main_v13 main_v14
  let main_v16 : IVec S2048x1x1x127 1 := broadcastInDim S2048x1x1x127 ![0, 3] bcast_S2048x127_S2048x1x1x127_0_3 main_v15
  let main_cst_0 : FVec F S_ .f32 := constant S_ .f32 0xFF800000#32
  let main_v17 : FVec F S2048x4x4x127 .f32 := fn_where (F := F) main_v16 main_v10 main_cst_0
  let main_cst_1 : FVec F S_ .f32 := constant S_ .f32 0xFF800000#32
  let main_v18 : FVec F S2048x4x4 .f32 := (fun x v => Host.reduce FloatOps.maximumf x v reducesTo_S2048x4x4x127_S2048x4x4_d3 h_S_) main_v17 main_cst_1
  let main_cst_2 : FVec F S_ .f32 := constant S_ .f32 0xFF800000#32
  fn_part1 (F := F) main_arg0 main_arg1 main_v17 main_v18 main_cst_2
-- ==== Pre_kernel_inputs.lean ====
abbrev S2048x16x128 : Shape := ⟨3, ![2048, 16, 128]⟩
abbrev S2048x512 : Shape := ⟨2, ![2048, 512]⟩
abbrev S2048x1024 : Shape := ⟨2, ![2048, 1024]⟩
abbrev S4x32x2048 : Shape := ⟨3, ![4, 32, 2048]⟩
abbrev S2048x2048 : Shape := ⟨2, ![2048, 2048]⟩
abbrev S128x3 : Shape := ⟨2, ![128, 3]⟩
abbrev S3 : Shape := ⟨1, ![3]⟩
abbrev S_ : Shape := ⟨0, ![]⟩
abbrev S2048x4x256 : Shape := ⟨3, ![2048, 4, 256]⟩
abbrev S2048x4x1 : Shape := ⟨3, ![2048, 4, 1]⟩
abbrev S2048x4 : Shape := ⟨2, ![2048, 4]⟩
abbrev S4x1x2048 : Shape := ⟨3, ![4, 1, 2048]⟩
abbrev S4x2048 : Shape := ⟨2, ![4, 2048]⟩

class Facts : Prop where
  bcast_S_S2048x16x128 : S_.BroadcastsInDim S2048x16x128 (![] : Fin 0 → Fin S2048x16x128.rank)
  reducesTo_S2048x16x128_S_d0_1_2 : S2048x16x128.ReducesTo [0, 1, 2] S_
  h_S_ : 0 < S_.numel
  bitsLt_bf16_f32 : FTy.bits .bf16 < FTy.bits .f32
  bcast_S_S2048x512 : S_.BroadcastsInDim S2048x512 (![] : Fin 0 → Fin S2048x512.rank)
  reducesTo_S2048x512_S_d0_1 : S2048x512.ReducesTo [0, 1] S_
  shapeCasts_S2048x1024_S2048x4x256 : S2048x1024.ShapeCasts S2048x4x256
  slices_S2048x4x256_S2048x4x1_0_0_128 : S2048x4x256.Slices ![0, 0, 128] S2048x4x1
  shapeCasts_S2048x4x1_S2048x4 : S2048x4x1.ShapeCasts S2048x4
  bcast_S_S2048x4 : S_.BroadcastsInDim S2048x4 (![] : Fin 0 → Fin S2048x4.rank)
  reducesTo_S2048x4_S_d0_1 : S2048x4.ReducesTo [0, 1] S_
  bcast_S_S4x32x2048 : S_.BroadcastsInDim S4x32x2048 (![] : Fin 0 → Fin S4x32x2048.rank)
  reducesTo_S4x32x2048_S_d0_1_2 : S4x32x2048.ReducesTo [0, 1, 2] S_
  slices_S4x32x2048_S4x1x2048_0_0_0 : S4x32x2048.Slices ![0, 0, 0] S4x1x2048
  shapeCasts_S4x1x2048_S4x2048 : S4x1x2048.ShapeCasts S4x2048
  bcast_S_S4x2048 : S_.BroadcastsInDim S4x2048 (![] : Fin 0 → Fin S4x2048.rank)
  reducesTo_S4x2048_S_d0_1 : S4x2048.ReducesTo [0, 1] S_

variable [Facts]

def fn_part1 {F : FTy → Type} [FloatOps F] (main_arg3 : FVec F S4x32x2048 .f32) (main_v9 : IVec S_ 1) (main_v16 : IVec S_ 1) (main_cst_4 : FVec F S_ .f32) : IVec S_ 1 :=
  let main_v17 : FVec F S4x32x2048 .f32 := broadcastInDim S4x32x2048 ![] bcast_S_S4x32x2048 main_cst_4
  let main_v18 : IVec S4x32x2048 1 := cmpf .oeq main_arg3 main_v17
  let main_cst_5 : FVec F S_ .f32 := constant S_ .f32 0x3F800000#32
  let main_v19 : FVec F S4x32x2048 .f32 := broadcastInDim S4x32x2048 ![] bcast_S_S4x32x2048 main_cst_5
  let main_v20 : IVec S4x32x2048 1 := cmpf .oeq main_arg3 main_v19
  let main_v21 : IVec S4x32x2048 1 := ori main_v18 main_v20
  let main_c_6 : IVec S_ 1 := constantI S_ 1 1#1
  let main_v22 : IVec S_ 1 := (fun x v => Host.reduce IntOp.andi x v reducesTo_S4x32x2048_S_d0_1_2 h_S_) main_v21 main_c_6
  let main_v23 : FVec F S4x1x2048 .f32 := (extractStridedSlice S4x1x2048 ![0, 0, 0] · slices_S4x32x2048_S4x1x2048_0_0_0) main_arg3
  let main_v24 : FVec F S4x2048 .f32 := shapeCast S4x2048 main_v23 shapeCasts_S4x1x2048_S4x2048
  let main_cst_7 : FVec F S_ .f32 := constant S_ .f32 0x3F800000#32
  let main_v25 : FVec F S4x2048 .f32 := broadcastInDim S4x2048 ![] bcast_S_S4x2048 main_cst_7
  let main_v26 : IVec S4x2048 1 := cmpf .oeq main_v24 main_v25
  let main_c_8 : IVec S_ 1 := constantI S_ 1 1#1
  let main_v27 : IVec S_ 1 := (fun x v => Host.reduce IntOp.andi x v reducesTo_S4x2048_S_d0_1 h_S_) main_v26 main_c_8
  let main_v28 : IVec S_ 1 := andi main_v9 main_v16
  let main_v29 : IVec S_ 1 := andi main_v28 main_v22
  let main_v30 : IVec S_ 1 := andi main_v29 main_v27
  main_v30

def fn {F : FTy → Type} [FloatOps F] (main_arg0 : FVec F S2048x16x128 .f32) (main_arg1 : FVec F S2048x512 .bf16) (main_arg2 : FVec F S2048x1024 .bf16) (main_arg3 : FVec F S4x32x2048 .f32) (main_arg4 : FVec F S2048x2048 .f32) (main_arg5 : FVec F S128x3 .f32) (main_arg6 : FVec F S3 .f32) : IVec S_ 1 :=
  let main_v0 : FVec F S2048x16x128 .f32 := Host.absf main_arg0
  let main_cst : FVec F S_ .f32 := constant S_ .f32 0x7F800000#32
  let main_v1 : FVec F S2048x16x128 .f32 := broadcastInDim S2048x16x128 ![] bcast_S_S2048x16x128 main_cst
  let main_v2 : IVec S2048x16x128 1 := cmpf .olt main_v0 main_v1
  let main_c : IVec S_ 1 := constantI S_ 1 1#1
  let main_v3 : IVec S_ 1 := (fun x v => Host.reduce IntOp.andi x v reducesTo_S2048x16x128_S_d0_1_2 h_S_) main_v2 main_c
  let main_v4 : FVec F S2048x512 .f32 := (extf .f32 · bitsLt_bf16_f32) main_arg1
  let main_v5 : FVec F S2048x512 .f32 := Host.absf main_v4
  let main_cst_0 : FVec F S_ .f32 := constant S_ .f32 0x7F800000#32
  let main_v6 : FVec F S2048x512 .f32 := broadcastInDim S2048x512 ![] bcast_S_S2048x512 main_cst_0
  let main_v7 : IVec S2048x512 1 := cmpf .olt main_v5 main_v6
  let main_c_1 : IVec S_ 1 := constantI S_ 1 1#1
  let main_v8 : IVec S_ 1 := (fun x v => Host.reduce IntOp.andi x v reducesTo_S2048x512_S_d0_1 h_S_) main_v7 main_c_1
  let main_v9 : IVec S_ 1 := andi main_v3 main_v8
  let main_v10 : FVec F S2048x1024 .f32 := (extf .f32 · bitsLt_bf16_f32) main_arg2
  let main_v11 : FVec F S2048x4x256 .f32 := shapeCast S2048x4x256 main_v10 shapeCasts_S2048x1024_S2048x4x256
  let main_v12 : FVec F S2048x4x1 .f32 := (extractStridedSlice S2048x4x1 ![0, 0, 128] · slices_S2048x4x256_S2048x4x1_0_0_128) main_v11
  let main_v13 : FVec F S2048x4 .f32 := shapeCast S2048x4 main_v12 shapeCasts_S2048x4x1_S2048x4
  let main_cst_2 : FVec F S_ .f32 := constant S_ .f32 0x3F800000#32
  let main_v14 : FVec F S2048x4 .f32 := broadcastInDim S2048x4 ![] bcast_S_S2048x4 main_cst_2
  let main_v15 : IVec S2048x4 1 := cmpf .oeq main_v13 main_v14
  let main_c_3 : IVec S_ 1 := constantI S_ 1 1#1
  let main_v16 : IVec S_ 1 := (fun x v => Host.reduce IntOp.andi x v reducesTo_S2048x4_S_d0_1 h_S_) main_v15 main_c_3
  let main_cst_4 : FVec F S_ .f32 := constant S_ .f32 0x00000000#32
  fn_part1 (F := F) main_arg3 main_v9 main_v16 main_cst_4
-- ==== Kernel.lean ====
abbrev S2048x16x128 : Shape := ⟨3, ![2048, 16, 128]⟩
abbrev S2048x512 : Shape := ⟨2, ![2048, 512]⟩
abbrev S2048x1024 : Shape := ⟨2, ![2048, 1024]⟩
abbrev S4x32x2048 : Shape := ⟨3, ![4, 32, 2048]⟩
abbrev S2048x2048 : Shape := ⟨2, ![2048, 2048]⟩
abbrev S128x3 : Shape := ⟨2, ![128, 3]⟩
abbrev S3 : Shape := ⟨1, ![3]⟩
abbrev S8x512 : Shape := ⟨2, ![8, 512]⟩
abbrev S_ : Shape := ⟨0, ![]⟩
abbrev S128x8 : Shape := ⟨2, ![128, 8]⟩
abbrev S1 : Shape := ⟨1, ![1]⟩
abbrev S1x8 : Shape := ⟨2, ![1, 8]⟩
abbrev S2 : Shape := ⟨1, ![2]⟩
abbrev S2048x128 : Shape := ⟨2, ![2048, 128]⟩
abbrev S2048x256 : Shape := ⟨2, ![2048, 256]⟩
abbrev S1x32x2048 : Shape := ⟨3, ![1, 32, 2048]⟩
abbrev S256x128 : Shape := ⟨2, ![256, 128]⟩
abbrev S256x8 : Shape := ⟨2, ![256, 8]⟩
abbrev S1x32x256 : Shape := ⟨3, ![1, 32, 256]⟩
abbrev S32x256 : Shape := ⟨2, ![32, 256]⟩
abbrev S256x1 : Shape := ⟨2, ![256, 1]⟩
abbrev S512x128 : Shape := ⟨2, ![512, 128]⟩
abbrev S512x256 : Shape := ⟨2, ![512, 256]⟩
abbrev S256x512 : Shape := ⟨2, ![256, 512]⟩
abbrev S8x256 : Shape := ⟨2, ![8, 256]⟩
abbrev S256x256 : Shape := ⟨2, ![256, 256]⟩

abbrev nBuf : Space → Nat
  | .hbm => 23
  | .vmem => 15
  | .smem => 0
  | _ => 0

abbrev bufTy : (tb : Table) → Fin (tcTables nBuf tb) → BufTy
  | .hbm, ⟨0, _⟩ => ⟨S2048x16x128, .f32⟩
  | .hbm, ⟨1, _⟩ => ⟨S2048x512, .bf16⟩
  | .hbm, ⟨2, _⟩ => ⟨S2048x1024, .bf16⟩
  | .hbm, ⟨3, _⟩ => ⟨S4x32x2048, .f32⟩
  | .hbm, ⟨4, _⟩ => ⟨S2048x2048, .f32⟩
  | .hbm, ⟨5, _⟩ => ⟨S128x3, .f32⟩
  | .hbm, ⟨6, _⟩ => ⟨S3, .f32⟩
  | .hbm, ⟨7, _⟩ => ⟨S8x512, .bf16⟩
  | .hbm, ⟨8, _⟩ => ⟨S2048x2048, .f32⟩
  | .hbm, ⟨9, _⟩ => ⟨S_, .f32⟩
  | .hbm, ⟨10, _⟩ => ⟨S128x8, .f32⟩
  | .hbm, ⟨11, _⟩ => ⟨S_, .i32⟩
  | .hbm, ⟨12, _⟩ => ⟨S1, .i32⟩
  | .hbm, ⟨13, _⟩ => ⟨S128x8, .f32⟩
  | .hbm, ⟨14, _⟩ => ⟨S_, .f32⟩
  | .hbm, ⟨15, _⟩ => ⟨S1x8, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x8, .f32⟩
  | .hbm, ⟨22, _⟩ => ⟨S2048x2048, .f32⟩
  | .local _ .vmem, ⟨0, _⟩ => ⟨S2048x128, .f32⟩
  | .local _ .vmem, ⟨1, _⟩ => ⟨S2048x128, .f32⟩
  | .local _ .vmem, ⟨2, _⟩ => ⟨S2048x128, .bf16⟩
  | .local _ .vmem, ⟨3, _⟩ => ⟨S2048x128, .bf16⟩
  | .local _ .vmem, ⟨4, _⟩ => ⟨S2048x256, .bf16⟩
  | .local _ .vmem, ⟨5, _⟩ => ⟨S2048x256, .bf16⟩
  | .local _ .vmem, ⟨6, _⟩ => ⟨S1x32x2048, .f32⟩
  | .local _ .vmem, ⟨7, _⟩ => ⟨S1x32x2048, .f32⟩
  | .local _ .vmem, ⟨8, _⟩ => ⟨S2048x128, .f32⟩
  | .local _ .vmem, ⟨9, _⟩ => ⟨S2048x128, .f32⟩
  | .local _ .vmem, ⟨10, _⟩ => ⟨S128x8, .f32⟩
  | .local _ .vmem, ⟨11, _⟩ => ⟨S1x8, .f32⟩
  | .local _ .vmem, ⟨12, _⟩ => ⟨S8x512, .bf16⟩
  | .local _ .vmem, ⟨13, _⟩ => ⟨S2048x128, .f32⟩
  | .local _ .vmem, ⟨14, _⟩ => ⟨S2048x128, .f32⟩
  | _, _ => ⟨S2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_c_2 : Ref sig .tc := ⟨.hbm, 16, rfl⟩
abbrev main_v5 : Ref sig .tc := ⟨.hbm, 17, rfl⟩
abbrev main_c_3 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S2048x16x128 : Shape := ⟨3, ![2048, 16, 128]⟩
abbrev S2048x512 : Shape := ⟨2, ![2048, 512]⟩
abbrev S2048x1024 : Shape := ⟨2, ![2048, 1024]⟩
abbrev S4x32x2048 : Shape := ⟨3, ![4, 32, 2048]⟩
abbrev S2048x2048 : Shape := ⟨2, ![2048, 2048]⟩
abbrev S128x3 : Shape := ⟨2, ![128, 3]⟩
abbrev S3 : Shape := ⟨1, ![3]⟩
abbrev S2048x4x4x128 : Shape := ⟨4, ![2048, 4, 4, 128]⟩
abbrev S2048x4x128 : Shape := ⟨3, ![2048, 4, 128]⟩
abbrev S2048x4x256 : Shape := ⟨3, ![2048, 4, 256]⟩
abbrev S2048x16x3 : Shape := ⟨3, ![2048, 16, 3]⟩
abbrev S1x1x3 : Shape := ⟨3, ![1, 1, 3]⟩
abbrev S2048x4x4x3 : Shape := ⟨4, ![2048, 4, 4, 3]⟩
abbrev S2048 : Shape := ⟨1, ![2048]⟩
abbrev S_ : Shape := ⟨0, ![]⟩
abbrev S4x32x64x2048 : Shape := ⟨4, ![4, 32, 64, 2048]⟩
abbrev S4x2048x2048 : Shape := ⟨3, ![4, 2048, 2048]⟩
abbrev S2048x4x2048 : Shape := ⟨3, ![2048, 4, 2048]⟩
abbrev S4x2048x2048x4 : Shape := ⟨4, ![4, 2048, 2048, 4]⟩
abbrev S2048x4x4x2048 : Shape := ⟨4, ![2048, 4, 4, 2048]⟩
abbrev S1x2048 : Shape := ⟨2, ![1, 2048]⟩
abbrev S2048x1 : Shape := ⟨2, ![2048, 1]⟩
abbrev S2048x1x2048 : Shape := ⟨3, ![2048, 1, 2048]⟩
abbrev S2048x4x1x2048 : Shape := ⟨4, ![2048, 4, 1, 2048]⟩
abbrev S2048x4x4 : Shape := ⟨3, ![2048, 4, 4]⟩
abbrev S2048x4x4x1 : Shape := ⟨4, ![2048, 4, 4, 1]⟩
abbrev S4x128x2048x4 : Shape := ⟨4, ![4, 128, 2048, 4]⟩
abbrev S2048x1x1x2048 : Shape := ⟨4, ![2048, 1, 1, 2048]⟩

abbrev nBuf : Space → Nat
  | .hbm => 105
  | .vmem => 0
  | .smem => 0
  | _ => 0

abbrev bufTy : (tb : Table) → Fin (tcTables nBuf tb) → BufTy
  | .hbm, ⟨0, _⟩ => ⟨S2048x16x128, .f32⟩
  | .hbm, ⟨1, _⟩ => ⟨S2048x512, .bf16⟩
  | .hbm, ⟨2, _⟩ => ⟨S2048x1024, .bf16⟩
  | .hbm, ⟨3, _⟩ => ⟨S4x32x2048, .f32⟩
  | .hbm, ⟨4, _⟩ => ⟨S2048x2048, .f32⟩
  | .hbm, ⟨5, _⟩ => ⟨S128x3, .f32⟩
  | .hbm, ⟨6, _⟩ => ⟨S3, .f32⟩
  | .hbm, ⟨7, _⟩ => ⟨S2048x4x4x128, .f32⟩
  | .hbm, ⟨8, _⟩ => ⟨S2048x512, .f32⟩
  | .hbm, ⟨9, _⟩ => ⟨S2048x4x128, .f32⟩
  | .hbm, ⟨10, _⟩ => ⟨S2048x1024, .f32⟩
  | .hbm, ⟨11, _⟩ => ⟨S2048x4x256, .f32⟩
  | .hbm, ⟨12, _⟩ => ⟨S2048x4x128, .f32⟩
  | .hbm, ⟨13, _⟩ => ⟨S2048x16x3, .f32⟩
  | .hbm, ⟨14, _⟩ => ⟨S1x1x3, .f32⟩
  | .hbm, ⟨15, _⟩ => ⟨S2048x16x3, .f32⟩
  | .hbm, ⟨16, _⟩ => ⟨S2048x16x3, .f32⟩
  | .hbm, ⟨17, _⟩ => ⟨S2048x4x4x3, .f32⟩
  | .hbm, ⟨18, _⟩ => ⟨S2048, .i32⟩
  | .hbm, ⟨19, _⟩ => ⟨S_, .f32⟩
  | .hbm, ⟨20, _⟩ => ⟨S4x32x2048, .f32⟩
  | .hbm, ⟨21, _⟩ => ⟨S4x32x2048, .i1⟩
  | .hbm, ⟨22, _⟩ => ⟨S4x32x64x2048, .i1⟩
  | .hbm, ⟨23, _⟩ => ⟨S4x2048x2048, .i1⟩
  | .hbm, ⟨24, _⟩ => ⟨S2048x4x2048, .i1⟩
  | .hbm, ⟨25, _⟩ => ⟨S4x2048x2048x4, .f32⟩
  | .hbm, ⟨26, _⟩ => ⟨S2048x4x4x2048, .f32⟩
  | .hbm, ⟨27, _⟩ => ⟨S_, .f32⟩
  | .hbm, ⟨28, _⟩ => ⟨S_, .f32⟩
  | .hbm, ⟨29, _⟩ => ⟨S2048x4x4x2048, .f32⟩
  | .hbm, ⟨30, _⟩ => ⟨S2048x4x4x2048, .f32⟩
  | .hbm, ⟨31, _⟩ => ⟨S1x2048, .i32⟩
  | .hbm, ⟨32, _⟩ => ⟨S2048x1, .i32⟩
  | .hbm, ⟨33, _⟩ => ⟨S2048x2048, .i32⟩
  | .hbm, ⟨34, _⟩ => ⟨S2048x2048, .i32⟩
  | .hbm, ⟨35, _⟩ => ⟨S2048x2048, .i1⟩
  | .hbm, ⟨36, _⟩ => ⟨S2048x1x2048, .i1⟩
  | .hbm, ⟨37, _⟩ => ⟨S2048x4x2048, .i1⟩
  | .hbm, ⟨38, _⟩ => ⟨S2048x4x2048, .i1⟩
  | .hbm, ⟨39, _⟩ => ⟨S2048x4x1x2048, .i1⟩
  | .hbm, ⟨40, _⟩ => ⟨S_, .f32⟩
  | .hbm, ⟨41, _⟩ => ⟨S_, .f32⟩
  | .hbm, ⟨42, _⟩ => ⟨S2048x4x4x2048, .i1⟩
  | .hbm, ⟨43, _⟩ => ⟨S2048x4x4x2048, .f32⟩
  | .hbm, ⟨44, _⟩ => ⟨S2048x4x4x2048, .f32⟩
  | .hbm, ⟨45, _⟩ => ⟨S_, .f32⟩
  | .hbm, ⟨46, _⟩ => ⟨S2048x4x4, .f32⟩
  | .hbm, ⟨47, _⟩ => ⟨S_, .f32⟩
  | .hbm, ⟨48, _⟩ => ⟨S2048x4x4, .f32⟩
  | .hbm, ⟨49, _⟩ => ⟨S2048x4x4, .f32⟩
  | .hbm, ⟨50, _⟩ => ⟨S2048x4x4x1, .f32⟩
  | .hbm, ⟨51, _⟩ => ⟨S2048x4x4x2048, .f32⟩
  | .hbm, ⟨52, _⟩ => ⟨S2048x4x4x2048, .f32⟩
  | .hbm, ⟨53, _⟩ => ⟨S2048x4x4x2048, .f32⟩
  | .hbm, ⟨54, _⟩ => ⟨S_, .f32⟩
  | .hbm, ⟨55, _⟩ => ⟨S2048x4x4, .f32⟩
  | .hbm, ⟨56, _⟩ => ⟨S2048x4x4x1, .f32⟩
  | .hbm, ⟨57, _⟩ => ⟨S2048x4x4x2048, .f32⟩
  | .hbm, ⟨58, _⟩ => ⟨S2048x4x4x2048, .f32⟩
  | .hbm, ⟨59, _⟩ => ⟨S4x128x2048x4, .f32⟩
  | .hbm, ⟨60, _⟩ => ⟨S2048x4x4x128, .f32⟩
  | .hbm, ⟨61, _⟩ => ⟨S1x2048, .i32⟩
  | .hbm, ⟨62, _⟩ => ⟨S2048x1, .i32⟩
  | .hbm, ⟨63, _⟩ => ⟨S_, .i32⟩
  | .hbm, ⟨64, _⟩ => ⟨S2048x1, .i32⟩
  | .hbm, ⟨65, _⟩ => ⟨S2048x1, .i32⟩
  | .hbm, ⟨66, _⟩ => ⟨S2048x2048, .i32⟩
  | .hbm, ⟨67, _⟩ => ⟨S2048x2048, .i32⟩
  | .hbm, ⟨68, _⟩ => ⟨S2048x2048, .i1⟩
  | .hbm, ⟨69, _⟩ => ⟨S2048x2048, .i1⟩
  | .hbm, ⟨70, _⟩ => ⟨S2048x1x1x2048, .i1⟩
  | .hbm, ⟨71, _⟩ => ⟨S_, .f32⟩
  | .hbm, ⟨72, _⟩ => ⟨S_, .f32⟩
  | .hbm, ⟨73, _⟩ => ⟨S2048x4x4x2048, .i1⟩
  | .hbm, ⟨74, _⟩ => ⟨S2048x4x4x2048, .f32⟩
  | .hbm, ⟨75, _⟩ => ⟨S2048x4x4x2048, .f32⟩
  | .hbm, ⟨76, _⟩ => ⟨S_, .f32⟩
  | .hbm, ⟨77, _⟩ => ⟨S2048x4x4, .f32⟩
  | .hbm, ⟨78, _⟩ => ⟨S_, .f32⟩
  | .hbm, ⟨79, _⟩ => ⟨S2048x4x4, .f32⟩
  | .hbm, ⟨80, _⟩ => ⟨S2048x4x4, .f32⟩
  | .hbm, ⟨81, _⟩ => ⟨S2048x4x4x1, .f32⟩
  | .hbm, ⟨82, _⟩ => ⟨S2048x4x4x2048, .f32⟩
  | .hbm, ⟨83, _⟩ => ⟨S2048x4x4x2048, .f32⟩
  | .hbm, ⟨84, _⟩ => ⟨S2048x4x4x2048, .f32⟩
  | .hbm, ⟨85, _⟩ => ⟨S_, .f32⟩
  | .hbm, ⟨86, _⟩ => ⟨S2048x4x4, .f32⟩
  | .hbm, ⟨87, _⟩ => ⟨S2048x4x4x1, .f32⟩
  | .hbm, ⟨88, _⟩ => ⟨S2048x4x4x2048, .f32⟩
  | .hbm, ⟨89, _⟩ => ⟨S2048x4x4x2048, .f32⟩
  | .hbm, ⟨90, _⟩ => ⟨S4x128x2048x4, .f32⟩
  | .hbm, ⟨91, _⟩ => ⟨S2048x4x4x128, .f32⟩
  | .hbm, ⟨92, _⟩ => ⟨S2048x4x4x1, .f32⟩
  | .hbm, ⟨93, _⟩ => ⟨S2048x4x4x128, .f32⟩
  | .hbm, ⟨94, _⟩ => ⟨S2048x4x4x128, .f32⟩
  | .hbm, ⟨95, _⟩ => ⟨S2048x4x4x1, .f32⟩
  | .hbm, ⟨96, _⟩ => ⟨S2048x4x4x128, .f32⟩
  | .hbm, ⟨97, _⟩ => ⟨S2048x4x4x128, .f32⟩
  | .hbm, ⟨98, _⟩ => ⟨S2048x4x4x128, .f32⟩
  | .hbm, ⟨99, _⟩ => ⟨S2048x4x4x1, .f32⟩
  | .hbm, ⟨100, _⟩ => ⟨S2048x4x4x128, .f32⟩
  | .hbm, ⟨101, _⟩ => ⟨S2048x4x4x128, .f32⟩
  | .hbm, ⟨102, _⟩ => ⟨S2048x4x4x128, .f32⟩
  | .hbm, ⟨103, _⟩ => ⟨S2048x4x4x128, .f32⟩
  | .hbm, ⟨104, _⟩ => ⟨S2048x2048, .f32⟩
  | _, _ => ⟨S2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_1 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_5 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v54 : Ref sig .tc := ⟨.hbm, 75, rfl⟩
abbrev main_cst_6 : Ref sig .tc := ⟨.hbm, 76, rfl⟩
abbrev main_v55 : Ref sig .tc := ⟨.hbm, 77, rfl⟩
abbrev main_cst_7 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_8 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩

abbrev nD : Nat := 1
abbrev τ : Topo := Topo.v7x

variable {F : FTy → Type} [FloatOps F]
-- ==== Compress.lean ====
abbrev S2048x4x128 : Shape := ⟨3, ![2048, 4, 128]⟩
abbrev S4096x128 : Shape := ⟨2, ![4096, 128]⟩
abbrev S128x128 : Shape := ⟨2, ![128, 128]⟩
abbrev S2048x512 : Shape := ⟨2, ![2048, 512]⟩
abbrev S4x128x128 : Shape := ⟨3, ![4, 128, 128]⟩
abbrev S2048x1024 : Shape := ⟨2, ![2048, 1024]⟩
abbrev S2048x128 : Shape := ⟨2, ![2048, 128]⟩
abbrev S1x128x128 : Shape := ⟨3, ![1, 128, 128]⟩
abbrev S2048x256 : Shape := ⟨2, ![2048, 256]⟩
abbrev S128x16x128 : Shape := ⟨3, ![128, 16, 128]⟩
abbrev S128x1x128 : Shape := ⟨3, ![128, 1, 128]⟩

abbrev nBuf : Space → Nat
  | .hbm => 11
  | .vmem => 15
  | .smem => 0
  | _ => 0

abbrev bufTy : (tb : Table) → Fin (tcTables nBuf tb) → BufTy
  | .hbm, ⟨0, _⟩ => ⟨S2048x4x128, .f32⟩
  | .hbm, ⟨1, _⟩ => ⟨S2048x4x128, .f32⟩
  | .hbm, ⟨2, _⟩ => ⟨S4096x128, .f32⟩
  | .hbm, ⟨3, _⟩ => ⟨S4096x128, .f32⟩
  | .hbm, ⟨4, _⟩ => ⟨S128x128, .f32⟩
  | .hbm, ⟨5, _⟩ => ⟨S2048x512, .f32⟩
  | .hbm, ⟨6, _⟩ => ⟨S2048x512, .f32⟩
  | .hbm, ⟨7, _⟩ => ⟨S4x128x128, .f32⟩
  | .hbm, ⟨8, _⟩ => ⟨S4x128x128, .f32⟩
  | .hbm, ⟨9, _⟩ => ⟨S2048x512, .bf16⟩
  | .hbm, ⟨10, _⟩ => ⟨S2048x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S4096x128, .f32⟩
  | .local _ .vmem, ⟨5, _⟩ => ⟨S4096x128, .f32⟩
  | .local _ .vmem, ⟨6, _⟩ => ⟨S128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S2048x128, .bf16⟩
  | .local _ .vmem, ⟨12, _⟩ => ⟨S2048x128, .bf16⟩
  | .local _ .vmem, ⟨13, _⟩ => ⟨S2048x256, .bf16⟩
  | .local _ .vmem, ⟨14, _⟩ => ⟨S2048x256, .bf16⟩
  | _, _ => ⟨S2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== CompressReferenceIdeal.lean ====
abbrev S2048x4x128 : Shape := ⟨3, ![2048, 4, 128]⟩
abbrev S4096x128 : Shape := ⟨2, ![4096, 128]⟩
abbrev S128 : Shape := ⟨1, ![128]⟩
abbrev S_ : Shape := ⟨0, ![]⟩
abbrev S128x1 : Shape := ⟨2, ![128, 1]⟩
abbrev S32 : Shape := ⟨1, ![32]⟩
abbrev S1x32 : Shape := ⟨2, ![1, 32]⟩
abbrev S128x32 : Shape := ⟨2, ![128, 32]⟩
abbrev S2064x4x128 : Shape := ⟨3, ![2064, 4, 128]⟩
abbrev S128x32x1 : Shape := ⟨3, ![128, 32, 1]⟩
abbrev S128x32x4x128 : Shape := ⟨4, ![128, 32, 4, 128]⟩
abbrev S128x4x32x128 : Shape := ⟨4, ![128, 4, 32, 128]⟩
abbrev S128x4x4096 : Shape := ⟨3, ![128, 4, 4096]⟩
abbrev S128x4x128 : Shape := ⟨3, ![128, 4, 128]⟩
abbrev S4x128x128 : Shape := ⟨3, ![4, 128, 128]⟩
abbrev S2048x4x1 : Shape := ⟨3, ![2048, 4, 1]⟩
abbrev S2048x4x127 : Shape := ⟨3, ![2048, 4, 127]⟩
abbrev S2048x4x256 : Shape := ⟨3, ![2048, 4, 256]⟩
abbrev S2048x512 : Shape := ⟨2, ![2048, 512]⟩
abbrev S2048x1024 : Shape := ⟨2, ![2048, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x4x128, .f32⟩
  | .hbm, ⟨1, _⟩ => ⟨S2048x4x128, .f32⟩
  | .hbm, ⟨2, _⟩ => ⟨S4096x128, .f32⟩
  | .hbm, ⟨3, _⟩ => ⟨S4096x128, .f32⟩
  | .hbm, ⟨4, _⟩ => ⟨S128, .i32⟩
  | .hbm, ⟨5, _⟩ => ⟨S_, .i32⟩
  | .hbm, ⟨6, _⟩ => ⟨S128, .i32⟩
  | .hbm, ⟨7, _⟩ => ⟨S128, .i32⟩
  | .hbm, ⟨8, _⟩ => ⟨S128x1, .i32⟩
  | .hbm, ⟨9, _⟩ => ⟨S32, .i32⟩
  | .hbm, ⟨10, _⟩ => ⟨S1x32, .i32⟩
  | .hbm, ⟨11, _⟩ => ⟨S128x32, .i32⟩
  | .hbm, ⟨12, _⟩ => ⟨S128x32, .i32⟩
  | .hbm, ⟨13, _⟩ => ⟨S128x32, .i32⟩
  | .hbm, ⟨14, _⟩ => ⟨S_, .i32⟩
  | .hbm, ⟨15, _⟩ => ⟨S_, .f32⟩
  | .hbm, ⟨16, _⟩ => ⟨S2064x4x128, .f32⟩
  | .hbm, ⟨17, _⟩ => ⟨S_, .i32⟩
  | .hbm, ⟨18, _⟩ => ⟨S_, .f32⟩
  | .hbm, ⟨19, _⟩ => ⟨S2064x4x128, .f32⟩
  | .hbm, ⟨20, _⟩ => ⟨S_, .i32⟩
  | .hbm, ⟨21, _⟩ => ⟨S128x32, .i32⟩
  | .hbm, ⟨22, _⟩ => ⟨S128x32, .i1⟩
  | .hbm, ⟨23, _⟩ => ⟨S_, .i32⟩
  | .hbm, ⟨24, _⟩ => ⟨S128x32, .i32⟩
  | .hbm, ⟨25, _⟩ => ⟨S128x32, .i32⟩
  | .hbm, ⟨26, _⟩ => ⟨S128x32, .i32⟩
  | .hbm, ⟨27, _⟩ => ⟨S128x32x1, .i32⟩
  | .hbm, ⟨28, _⟩ => ⟨S128x32x4x128, .f32⟩
  | .hbm, ⟨29, _⟩ => ⟨S128x4x32x128, .f32⟩
  | .hbm, ⟨30, _⟩ => ⟨S128x4x4096, .f32⟩
  | .hbm, ⟨31, _⟩ => ⟨S_, .i32⟩
  | .hbm, ⟨32, _⟩ => ⟨S128x32, .i32⟩
  | .hbm, ⟨33, _⟩ => ⟨S128x32, .i1⟩
  | .hbm, ⟨34, _⟩ => ⟨S_, .i32⟩
  | .hbm, ⟨35, _⟩ => ⟨S128x32, .i32⟩
  | .hbm, ⟨36, _⟩ => ⟨S128x32, .i32⟩
  | .hbm, ⟨37, _⟩ => ⟨S128x32, .i32⟩
  | .hbm, ⟨38, _⟩ => ⟨S128x32x1, .i32⟩
  | .hbm, ⟨39, _⟩ => ⟨S128x32x4x128, .f32⟩
  | .hbm, ⟨40, _⟩ => ⟨S128x4x32x128, .f32⟩
  | .hbm, ⟨41, _⟩ => ⟨S128x4x4096, .f32⟩
  | .hbm, ⟨42, _⟩ => ⟨S128x4x128, .f32⟩
  | .hbm, ⟨43, _⟩ => ⟨S4x128x128, .f32⟩
  | .hbm, ⟨44, _⟩ => ⟨S128x4x128, .f32⟩
  | .hbm, ⟨45, _⟩ => ⟨S4x128x128, .f32⟩
  | .hbm, ⟨46, _⟩ => ⟨S_, .f32⟩
  | .hbm, ⟨47, _⟩ => ⟨S2048x4x1, .f32⟩
  | .hbm, ⟨48, _⟩ => ⟨S_, .f32⟩
  | .hbm, ⟨49, _⟩ => ⟨S2048x4x127, .f32⟩
  | .hbm, ⟨50, _⟩ => ⟨S2048x4x256, .f32⟩
  | .hbm, ⟨51, _⟩ => ⟨S2048x512, .f32⟩
  | .hbm, ⟨52, _⟩ => ⟨S2048x512, .bf16⟩
  | .hbm, ⟨53, _⟩ => ⟨S2048x1024, .f32⟩
  | .hbm, ⟨54, _⟩ => ⟨S2048x1024, .bf16⟩
  | _, _ => ⟨S2048x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call0_v0 : Ref sig .tc := ⟨.hbm, 15, rfl⟩
abbrev main_v9 : Ref sig .tc := ⟨.hbm, 16, rfl⟩
abbrev main_c_1 : Ref sig .tc := ⟨.hbm, 17, rfl⟩
abbrev main_call1_v0 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== CmpAttn.lean ====
abbrev S2048x16x128 : Shape := ⟨3, ![2048, 16, 128]⟩
abbrev S4x128x128 : Shape := ⟨3, ![4, 128, 128]⟩
abbrev S128x32 : Shape := ⟨2, ![128, 32]⟩
abbrev S2048x2048 : Shape := ⟨2, ![2048, 2048]⟩
abbrev S128x2048 : Shape := ⟨2, ![128, 2048]⟩
abbrev S_ : Shape := ⟨0, ![]⟩
abbrev S4x32x2048 : Shape := ⟨3, ![4, 32, 2048]⟩
abbrev S2048x128 : Shape := ⟨2, ![2048, 128]⟩
abbrev S1x128x128 : Shape := ⟨3, ![1, 128, 128]⟩
abbrev S1x32x2048 : Shape := ⟨3, ![1, 32, 2048]⟩
abbrev S128x128 : Shape := ⟨2, ![128, 128]⟩
abbrev S2048 : Shape := ⟨1, ![2048]⟩
abbrev S1x2048 : Shape := ⟨2, ![1, 2048]⟩
abbrev S32x2048 : Shape := ⟨2, ![32, 2048]⟩

abbrev nBuf : Space → Nat
  | .hbm => 18
  | .vmem => 13
  | .smem => 0
  | _ => 0

abbrev bufTy : (tb : Table) → Fin (tcTables nBuf tb) → BufTy
  | .hbm, ⟨0, _⟩ => ⟨S2048x16x128, .f32⟩
  | .hbm, ⟨1, _⟩ => ⟨S4x128x128, .f32⟩
  | .hbm, ⟨2, _⟩ => ⟨S4x128x128, .f32⟩
  | .hbm, ⟨3, _⟩ => ⟨S128x32, .f32⟩
  | .hbm, ⟨4, _⟩ => ⟨S2048x2048, .f32⟩
  | .hbm, ⟨5, _⟩ => ⟨S128x2048, .i32⟩
  | .hbm, ⟨6, _⟩ => ⟨S128x2048, .i32⟩
  | .hbm, ⟨7, _⟩ => ⟨S_, .i32⟩
  | .hbm, ⟨8, _⟩ => ⟨S128x2048, .i32⟩
  | .hbm, ⟨9, _⟩ => ⟨S128x2048, .i32⟩
  | .hbm, ⟨10, _⟩ => ⟨S128x2048, .i1⟩
  | .hbm, ⟨11, _⟩ => ⟨S_, .i32⟩
  | .hbm, ⟨12, _⟩ => ⟨S128x2048, .i32⟩
  | .hbm, ⟨13, _⟩ => ⟨S128x2048, .i1⟩
  | .hbm, ⟨14, _⟩ => ⟨S128x2048, .i1⟩
  | .hbm, ⟨15, _⟩ => ⟨S128x2048, .f32⟩
  | .hbm, ⟨16, _⟩ => ⟨S2048x2048, .f32⟩
  | .hbm, ⟨17, _⟩ => ⟨S4x32x2048, .f32⟩
  | .local _ .vmem, ⟨0, _⟩ => ⟨S2048x128, .f32⟩
  | .local _ .vmem, ⟨1, _⟩ => ⟨S2048x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S128x32, .f32⟩
  | .local _ .vmem, ⟨7, _⟩ => ⟨S128x2048, .f32⟩
  | .local _ .vmem, ⟨8, _⟩ => ⟨S2048x128, .f32⟩
  | .local _ .vmem, ⟨9, _⟩ => ⟨S2048x128, .f32⟩
  | .local _ .vmem, ⟨10, _⟩ => ⟨S1x32x2048, .f32⟩
  | .local _ .vmem, ⟨11, _⟩ => ⟨S1x32x2048, .f32⟩
  | .local _ .vmem, ⟨12, _⟩ => ⟨S128x2048, .f32⟩
  | _, _ => ⟨S2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_17 : BitVec 32 := 0#32
  let v29 : BitVec 1 := Scalar.cmpi .ne v28 c0_i32_17
  v29

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== CmpAttnIdeal.lean ====
variable {F : FTy → Type} [FloatOps F] [Named F]
def κ : String → Option EReal := fun
  | "fifth" => some ((1 / 5 : ℝ) : EReal)
  | "mask" => some ⊥
  | "scale" => some (((Real.sqrt 128)⁻¹ : ℝ) : EReal)
  | _ => none
-- ==== CmpAttnReferenceIdeal.lean ====
abbrev S2048x16x128 : Shape := ⟨3, ![2048, 16, 128]⟩
abbrev S4x128x128 : Shape := ⟨3, ![4, 128, 128]⟩
abbrev S2048x4x4x128 : Shape := ⟨4, ![2048, 4, 4, 128]⟩
abbrev S2048 : Shape := ⟨1, ![2048]⟩
abbrev S127 : Shape := ⟨1, ![127]⟩
abbrev S_ : Shape := ⟨0, ![]⟩
abbrev S4x127x128 : Shape := ⟨3, ![4, 127, 128]⟩
abbrev S4x127x2048x4 : Shape := ⟨4, ![4, 127, 2048, 4]⟩
abbrev S2048x4x4x127 : Shape := ⟨4, ![2048, 4, 4, 127]⟩
abbrev S1x127 : Shape := ⟨2, ![1, 127]⟩
abbrev S2048x1 : Shape := ⟨2, ![2048, 1]⟩
abbrev S2048x127 : Shape := ⟨2, ![2048, 127]⟩
abbrev S2048x1x1x127 : Shape := ⟨4, ![2048, 1, 1, 127]⟩
abbrev S2048x4x4 : Shape := ⟨3, ![2048, 4, 4]⟩
abbrev S2048x4x4x1 : Shape := ⟨4, ![2048, 4, 4, 1]⟩
abbrev S2048x4x127 : Shape := ⟨3, ![2048, 4, 127]⟩
abbrev S4x2048x127 : Shape := ⟨3, ![4, 2048, 127]⟩
abbrev S31 : Shape := ⟨1, ![31]⟩
abbrev S31x1 : Shape := ⟨2, ![31, 1]⟩
abbrev S5 : Shape := ⟨1, ![5]⟩
abbrev S1x5 : Shape := ⟨2, ![1, 5]⟩
abbrev S31x5 : Shape := ⟨2, ![31, 5]⟩
abbrev S31x5x1 : Shape := ⟨3, ![31, 5, 1]⟩
abbrev S4x2048x31x5 : Shape := ⟨4, ![4, 2048, 31, 5]⟩
abbrev S4x2048x31 : Shape := ⟨3, ![4, 2048, 31]⟩
abbrev S4x128x2048x4 : Shape := ⟨4, ![4, 128, 2048, 4]⟩
abbrev S4x2048x16 : Shape := ⟨3, ![4, 2048, 16]⟩
abbrev S32 : Shape := ⟨1, ![32]⟩
abbrev S4x2048x16x1 : Shape := ⟨4, ![4, 2048, 16, 1]⟩
abbrev S1x1x1x32 : Shape := ⟨4, ![1, 1, 1, 32]⟩
abbrev S4x2048x16x32 : Shape := ⟨4, ![4, 2048, 16, 32]⟩
abbrev S4x2048x32 : Shape := ⟨3, ![4, 2048, 32]⟩
abbrev S1x1x32 : Shape := ⟨3, ![1, 1, 32]⟩
abbrev S1x2048x1 : Shape := ⟨3, ![1, 2048, 1]⟩
abbrev S1x2048x32 : Shape := ⟨3, ![1, 2048, 32]⟩
abbrev S2048x2048 : Shape := ⟨2, ![2048, 2048]⟩
abbrev S4x32x2048 : Shape := ⟨3, ![4, 32, 2048]⟩

abbrev nBuf : Space → Nat
  | .hbm => 116
  | .vmem => 0
  | .smem => 0
  | _ => 0

abbrev bufTy : (tb : Table) → Fin (tcTables nBuf tb) → BufTy
  | .hbm, ⟨0, _⟩ => ⟨S2048x16x128, .f32⟩
  | .hbm, ⟨1, _⟩ => ⟨S4x128x128, .f32⟩
  | .hbm, ⟨2, _⟩ => ⟨S4x128x128, .f32⟩
  | .hbm, ⟨3, _⟩ => ⟨S2048x4x4x128, .f32⟩
  | .hbm, ⟨4, _⟩ => ⟨S2048, .i32⟩
  | .hbm, ⟨5, _⟩ => ⟨S127, .i32⟩
  | .hbm, ⟨6, _⟩ => ⟨S_, .i32⟩
  | .hbm, ⟨7, _⟩ => ⟨S127, .i32⟩
  | .hbm, ⟨8, _⟩ => ⟨S127, .i32⟩
  | .hbm, ⟨9, _⟩ => ⟨S4x127x128, .f32⟩
  | .hbm, ⟨10, _⟩ => ⟨S4x127x2048x4, .f32⟩
  | .hbm, ⟨11, _⟩ => ⟨S2048x4x4x127, .f32⟩
  | .hbm, ⟨12, _⟩ => ⟨S_, .f32⟩
  | .hbm, ⟨13, _⟩ => ⟨S_, .f32⟩
  | .hbm, ⟨14, _⟩ => ⟨S2048x4x4x127, .f32⟩
  | .hbm, ⟨15, _⟩ => ⟨S2048x4x4x127, .f32⟩
  | .hbm, ⟨16, _⟩ => ⟨S1x127, .i32⟩
  | .hbm, ⟨17, _⟩ => ⟨S2048x1, .i32⟩
  | .hbm, ⟨18, _⟩ => ⟨S2048x127, .i32⟩
  | .hbm, ⟨19, _⟩ => ⟨S2048x127, .i32⟩
  | .hbm, ⟨20, _⟩ => ⟨S2048x127, .i1⟩
  | .hbm, ⟨21, _⟩ => ⟨S2048x1x1x127, .i1⟩
  | .hbm, ⟨22, _⟩ => ⟨S_, .f32⟩
  | .hbm, ⟨23, _⟩ => ⟨S_, .f32⟩
  | .hbm, ⟨24, _⟩ => ⟨S2048x4x4x127, .i1⟩
  | .hbm, ⟨25, _⟩ => ⟨S2048x4x4x127, .f32⟩
  | .hbm, ⟨26, _⟩ => ⟨S2048x4x4x127, .f32⟩
  | .hbm, ⟨27, _⟩ => ⟨S_, .f32⟩
  | .hbm, ⟨28, _⟩ => ⟨S2048x4x4, .f32⟩
  | .hbm, ⟨29, _⟩ => ⟨S_, .f32⟩
  | .hbm, ⟨30, _⟩ => ⟨S2048x4x4, .f32⟩
  | .hbm, ⟨31, _⟩ => ⟨S2048x4x4, .f32⟩
  | .hbm, ⟨32, _⟩ => ⟨S2048x4x4x1, .f32⟩
  | .hbm, ⟨33, _⟩ => ⟨S2048x4x4x127, .f32⟩
  | .hbm, ⟨34, _⟩ => ⟨S2048x4x4x127, .f32⟩
  | .hbm, ⟨35, _⟩ => ⟨S2048x4x4x127, .f32⟩
  | .hbm, ⟨36, _⟩ => ⟨S_, .f32⟩
  | .hbm, ⟨37, _⟩ => ⟨S2048x4x4, .f32⟩
  | .hbm, ⟨38, _⟩ => ⟨S2048x4x4x1, .f32⟩
  | .hbm, ⟨39, _⟩ => ⟨S2048x4x4x127, .f32⟩
  | .hbm, ⟨40, _⟩ => ⟨S2048x4x4x127, .f32⟩
  | .hbm, ⟨41, _⟩ => ⟨S_, .f32⟩
  | .hbm, ⟨42, _⟩ => ⟨S2048x4x127, .f32⟩
  | .hbm, ⟨43, _⟩ => ⟨S4x2048x127, .f32⟩
  | .hbm, ⟨44, _⟩ => ⟨S31, .i32⟩
  | .hbm, ⟨45, _⟩ => ⟨S31x1, .i32⟩
  | .hbm, ⟨46, _⟩ => ⟨S_, .i32⟩
  | .hbm, ⟨47, _⟩ => ⟨S31x1, .i32⟩
  | .hbm, ⟨48, _⟩ => ⟨S31x1, .i32⟩
  | .hbm, ⟨49, _⟩ => ⟨S5, .i32⟩
  | .hbm, ⟨50, _⟩ => ⟨S1x5, .i32⟩
  | .hbm, ⟨51, _⟩ => ⟨S31x5, .i32⟩
  | .hbm, ⟨52, _⟩ => ⟨S31x5, .i32⟩
  | .hbm, ⟨53, _⟩ => ⟨S31x5, .i32⟩
  | .hbm, ⟨54, _⟩ => ⟨S_, .i32⟩
  | .hbm, ⟨55, _⟩ => ⟨S31x5, .i32⟩
  | .hbm, ⟨56, _⟩ => ⟨S31x5, .i1⟩
  | .hbm, ⟨57, _⟩ => ⟨S_, .i32⟩
  | .hbm, ⟨58, _⟩ => ⟨S31x5, .i32⟩
  | .hbm, ⟨59, _⟩ => ⟨S31x5, .i32⟩
  | .hbm, ⟨60, _⟩ => ⟨S31x5, .i32⟩
  | .hbm, ⟨61, _⟩ => ⟨S31x5x1, .i32⟩
  | .hbm, ⟨62, _⟩ => ⟨S4x2048x31x5, .f32⟩
  | .hbm, ⟨63, _⟩ => ⟨S_, .f32⟩
  | .hbm, ⟨64, _⟩ => ⟨S4x2048x31, .f32⟩
  | .hbm, ⟨65, _⟩ => ⟨S_, .f32⟩
  | .hbm, ⟨66, _⟩ => ⟨S4x2048x31, .f32⟩
  | .hbm, ⟨67, _⟩ => ⟨S4x2048x31, .f32⟩
  | .hbm, ⟨68, _⟩ => ⟨S4x127x128, .f32⟩
  | .hbm, ⟨69, _⟩ => ⟨S4x128x2048x4, .f32⟩
  | .hbm, ⟨70, _⟩ => ⟨S2048x4x4x128, .f32⟩
  | .hbm, ⟨71, _⟩ => ⟨S4x2048x16, .f32⟩
  | .hbm, ⟨72, _⟩ => ⟨S4x2048x16, .i32⟩
  | .hbm, ⟨73, _⟩ => ⟨S32, .i32⟩
  | .hbm, ⟨74, _⟩ => ⟨S4x2048x16x1, .i32⟩
  | .hbm, ⟨75, _⟩ => ⟨S1x1x1x32, .i32⟩
  | .hbm, ⟨76, _⟩ => ⟨S4x2048x16x32, .i32⟩
  | .hbm, ⟨77, _⟩ => ⟨S4x2048x16x32, .i32⟩
  | .hbm, ⟨78, _⟩ => ⟨S4x2048x16x32, .i1⟩
  | .hbm, ⟨79, _⟩ => ⟨S_, .i1⟩
  | .hbm, ⟨80, _⟩ => ⟨S4x2048x32, .i1⟩
  | .hbm, ⟨81, _⟩ => ⟨S1x1x32, .i32⟩
  | .hbm, ⟨82, _⟩ => ⟨S_, .i32⟩
  | .hbm, ⟨83, _⟩ => ⟨S1x1x32, .i32⟩
  | .hbm, ⟨84, _⟩ => ⟨S1x1x32, .i1⟩
  | .hbm, ⟨85, _⟩ => ⟨S4x2048x32, .i1⟩
  | .hbm, ⟨86, _⟩ => ⟨S4x2048x32, .i1⟩
  | .hbm, ⟨87, _⟩ => ⟨S1x1x32, .i32⟩
  | .hbm, ⟨88, _⟩ => ⟨S2048, .i32⟩
  | .hbm, ⟨89, _⟩ => ⟨S_, .i32⟩
  | .hbm, ⟨90, _⟩ => ⟨S_, .i32⟩
  | .hbm, ⟨91, _⟩ => ⟨S2048, .i32⟩
  | .hbm, ⟨92, _⟩ => ⟨S2048, .i32⟩
  | .hbm, ⟨93, _⟩ => ⟨S2048, .i32⟩
  | .hbm, ⟨94, _⟩ => ⟨S_, .i32⟩
  | .hbm, ⟨95, _⟩ => ⟨S2048, .i32⟩
  | .hbm, ⟨96, _⟩ => ⟨S2048, .i1⟩
  | .hbm, ⟨97, _⟩ => ⟨S2048, .i32⟩
  | .hbm, ⟨98, _⟩ => ⟨S2048, .i32⟩
  | .hbm, ⟨99, _⟩ => ⟨S_, .i32⟩
  | .hbm, ⟨100, _⟩ => ⟨S2048, .i32⟩
  | .hbm, ⟨101, _⟩ => ⟨S2048, .i1⟩
  | .hbm, ⟨102, _⟩ => ⟨S2048, .i1⟩
  | .hbm, ⟨103, _⟩ => ⟨S_, .i32⟩
  | .hbm, ⟨104, _⟩ => ⟨S2048, .i32⟩
  | .hbm, ⟨105, _⟩ => ⟨S2048, .i32⟩
  | .hbm, ⟨106, _⟩ => ⟨S2048, .i32⟩
  | .hbm, ⟨107, _⟩ => ⟨S1x2048x1, .i32⟩
  | .hbm, ⟨108, _⟩ => ⟨S1x2048x32, .i32⟩
  | .hbm, ⟨109, _⟩ => ⟨S1x2048x32, .i32⟩
  | .hbm, ⟨110, _⟩ => ⟨S1x2048x32, .i1⟩
  | .hbm, ⟨111, _⟩ => ⟨S4x2048x32, .i1⟩
  | .hbm, ⟨112, _⟩ => ⟨S4x2048x32, .i1⟩
  | .hbm, ⟨113, _⟩ => ⟨S2048x2048, .f32⟩
  | .hbm, ⟨114, _⟩ => ⟨S4x32x2048, .i1⟩
  | .hbm, ⟨115, _⟩ => ⟨S4x32x2048, .f32⟩
  | _, _ => ⟨S2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_values : Ref sig .tc := ⟨.hbm, 71, rfl⟩
abbrev main_indices : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_10 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_12 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_v8 : Ref sig .tc := ⟨.hbm, 98, rfl⟩
abbrev main_call1_c : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_c_0 : Ref sig .tc := ⟨.hbm, 103, rfl⟩
abbrev main_call1_v12 : Ref sig .tc := ⟨.hbm, 104, rfl⟩
abbrev main_call1_v13 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩

abbrev nD : Nat := 1
abbrev τ : Topo := Topo.v7x

variable {F : FTy → Type} [FloatOps F]
-- ==== Proof.Main.Pre.lean ====
/- What the precondition says of the main call's arguments: finite queries and keys, a lane of ones in each head's
   values, and a selection mask of zeros and ones that keeps the first block. -/
module

public import proofs.«01_k».proof.Pre_kernel_inputs
public import Idealize.ShloMosaic.Lib.Pointwise
public import Idealize.ShloMosaic.Lib.IdealHost
public import Idealize.ShloMosaic.Lib.ReduceAll

@[expose] public section

set_option maxRecDepth 16384
set_option backward.proofsInPublic true

noncomputable section

namespace Cert.Pre_kernel_inputs.Main

open Idealize.ShloMosaic Idealize.ShloMosaic.TcCoe Idealize.SL.Sem
open Cert.Pre_kernel_inputs

variable [Cert.Pre_kernel_inputs.Facts]

instance : Subsingleton S_.Idx := ⟨fun a b => funext fun i => i.elim0⟩

theorem plus_inf : Ideal.ofBits .f32 0x7F800000#32 = ⊤ := by simp [Ideal.ofBits, Ideal.ieee]

/-- A number whose absolute value is below `⊤` is real. -/
theorem real_of_abs (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

theorem eq_of_cmp (x y : EReal) (h : Ideal.cmp .oeq x y = 1#1) : x = y := by
  by_contra e
  simp [Ideal.cmp, e] at h

variable (Q : FVec Ideal S2048x16x128 .f32) (K : FVec Ideal S2048x512 .bf16) (W : FVec Ideal S2048x1024 .bf16)
    (B : FVec Ideal S4x32x2048 .f32) (C : FVec Ideal S2048x2048 .f32) (Wg : FVec Ideal S128x3 .f32) (bg : FVec Ideal S3 .f32)

theorem reads (e : fn (F := Ideal) Q K W B C Wg bg = fun _ => 1#1) :
    (∀ i, ∃ r : ℝ, Q i = (r : EReal)) ∧ (∀ i, ∃ r : ℝ, K i = (r : EReal))
      ∧ (∀ (j : Fin 2048) (h : Fin 4), W (ix2 j ⟨(h : ℕ) * 256 + 128, by omega⟩) = 1)
      ∧ (∀ i, B i = 0 ∨ B i = 1) ∧ (∀ (h : Fin 4) (s : Fin 2048), B (ix3 h 0 s) = 1) := by
  have e0 := congrFun e ix0
  dsimp only [fn, fn_part1] at e0
  obtain ⟨e1, h5⟩ := IntOp.andi_eq_one.1 e0
  obtain ⟨e2, h4⟩ := IntOp.andi_eq_one.1 e1
  obtain ⟨e3, h3⟩ := IntOp.andi_eq_one.1 e2
  obtain ⟨h1, h2⟩ := IntOp.andi_eq_one.1 e3
  refine ⟨fun i => ?_, fun i => ?_, fun j h => ?_, fun i => ?_, fun h s => ?_⟩
  · have := Host.reduce_andi_all _ _ _ _ _ h1 i
    refine real_of_abs _ ?_
    rw [← plus_inf]
    exact this
  · have := Host.reduce_andi_all _ _ _ _ _ h2 i
    refine real_of_abs _ ?_
    rw [← plus_inf]
    exact this
  · have := Host.reduce_andi_all _ _ _ _ _ h3 (ix2 j h)
    refine eq_of_cmp _ _ (Eq.trans ?_ this)
    pointwise
  · have := Host.reduce_andi_all _ _ _ _ _ h4 i
    rcases IntOp.ori_eq_one.1 this with h | h
    · exact Or.inl ((eq_of_cmp _ _ h).trans Ideal.ofBits_zero_f32)
    · exact Or.inr ((eq_of_cmp _ _ h).trans Ideal.ofBits_one_f32)
  · have := Host.reduce_andi_all _ _ _ _ _ h5 (ix2 h s)
    refine eq_of_cmp _ _ (Eq.trans ?_ this)
    pointwise

end Cert.Pre_kernel_inputs.Main

end
-- ==== Proof.Main.Steps.lean ====
/- The main call's body in its own words: one query tile of 256 rows against key blocks of 512 columns.
   Each step of the tile is named once (the scaled queries, the exponentiated logits, the masks, the products with
   the values, the gates), and a tile is the steps put together over the list of its key blocks. -/
module

public import proofs.«01_k».proof.Proof.Gen.KernelIdeal.Frame

@[expose] public section

set_option maxRecDepth 16384

noncomputable section

namespace Cert.KernelIdeal.Main

open Idealize.ShloMosaic Idealize.ShloMosaic.TcCoe Idealize.SL.Sem
open Cert.KernelIdeal Cert.KernelIdeal.Gen

variable {F : FTy → Type} [FloatOps F] [Named F]

/-- The tile's queries times the softmax scale. -/
def scaled (q : Vec F S256x128 .f32) : FVec F S256x128 .bf16 :=
  truncf .bf16 (mulf (shapeCast S256x128 q shapeCasts_S256x128_S256x128)
    (broadcast S256x128 (Named.named κ "scale" 0x3DB504F3#32))) bitsLt_bf16_f32

/-- The exponential of every logit of the tile against one block of keys. -/
def weights (q : Vec F S256x128 .f32) (k : Vec F S512x128 .bf16) : FVec F S256x512 .bf16 :=
  truncf .bf16 (exp (matmul dot_S256x128_S512x128_S256x512_1_1_0_0_n_n none (scaled q) k
    (constant S256x512 .f32 0x00000000#32))) bitsLt_bf16_f32

/-- One where the key's position is at most the query's. -/
def causal (base jb : BitVec 32) : FVec F S256x512 .bf16 :=
  truncf .bf16 (sitofp .f32 (extui 32 (cmpi .sle
    (addi (broadcast S256x512 jb) (iota .tc S256x512 32 [1] iota_S256x512_d1_w32))
    (addi (broadcast S256x512 base) (iota .tc S256x512 32 [0] iota_S256x512_d0_w32))) natLt_1_32)) bitsLt_bf16_f32

/-- One where the key lies within the window of 512 positions before the query. -/
def window (base jb : BitVec 32) : FVec F S256x512 .bf16 :=
  truncf .bf16 (sitofp .f32 (extui 32 (cmpi .sgt
    (addi (broadcast S256x512 jb) (iota .tc S256x512 32 [1] iota_S256x512_d1_w32))
    (subi (addi (broadcast S256x512 base) (iota .tc S256x512 32 [0] iota_S256x512_d0_w32))
      (broadcast S256x512 512#32))) natLt_1_32)) bitsLt_bf16_f32

/-- The block mask's eight rows that belong to one block of keys, spread over the block's 512 columns. -/
def kept (e : Vec F S8x512 .bf16) (b : Vec F S1x32x256 .f32) (o : ℕ) (h : S32x256.Slices ![o, 0] S8x256) :
    FVec F S256x512 .bf16 :=
  truncf .bf16 (matmul dot_S8x256_S8x512_S256x512_0_0_1_1_n_n none
    (extractStridedSlice S8x256 ![o, 0]
      (truncf .bf16 (shapeCast S32x256 b shapeCasts_S1x32x256_S32x256) bitsLt_bf16_f32) h) e
    (constant S256x512 .f32 0x00000000#32)) bitsLt_bf16_f32

/-- Weights times the block's values (the ones column gives the weights' sum). -/
def times (p : FVec F S256x512 .bf16) (v : Vec F S512x256 .bf16) : FVec F S256x256 .f32 :=
  matmul dot_S256x512_S512x256_S256x256_1_0_0_1_n_n none p v (constant S256x256 .f32 0x00000000#32)

/-- The running sum of the value columns. -/
def numer (L : List (FVec F S256x256 .f32)) : FVec F S256x128 .f32 :=
  L.foldl (fun a p => addf a (extractStridedSlice S256x128 ![0, 0] p slices_S256x256_o0_0_S256x128))
    (broadcast S256x128 (Scalar.ofBits .f32 0x00000000#32))

/-- The running sum of the ones column. -/
def denom (L : List (FVec F S256x256 .f32)) : FVec F S256x1 .f32 :=
  L.foldl (fun a p => addf a (extractStridedSlice S256x1 ![0, 128] p slices_S256x256_o0_128_S256x1))
    (broadcast S256x1 (Scalar.ofBits .f32 0x00000000#32))

/-- The tile's gates. -/
def gates (q : Vec F S256x128 .f32) (wg : Vec F S128x8 .f32) (bg : Vec F S1x8 .f32) : FVec F S256x8 .f32 :=
  addf (matmul dot_S256x128_S128x8_S256x8_1_0_0_1_n_n none
      (shapeCast S256x128 q shapeCasts_S256x128_S256x128) (shapeCast S128x8 wg shapeCasts_S128x8_S128x8)
      (constant S256x8 .f32 0x00000000#32))
    (broadcastTo S256x8 (shapeCast S1x8 bg shapeCasts_S1x8_S1x8) broadcasts_S1x8_S256x8)

/-- The three branches weighed by their gates. -/
def mixed (g : FVec F S256x8 .f32) (cmp : Vec F S256x128 .f32) (LS LW : List (FVec F S256x256 .f32)) :
    FVec F S256x128 .f32 :=
  addf (addf
      (mulf (numer LS) (broadcastTo S256x128
        (divf (extractStridedSlice S256x1 ![0, 0] g slices_S256x8_o0_0_S256x1) (denom LS))
        broadcasts_S256x1_S256x128))
      (mulf (numer LW) (broadcastTo S256x128
        (divf (extractStridedSlice S256x1 ![0, 1] g slices_S256x8_o0_1_S256x1) (denom LW))
        broadcasts_S256x1_S256x128)))
    (mulf (broadcastTo S256x128 (extractStridedSlice S256x1 ![0, 2] g slices_S256x8_o0_2_S256x1)
      broadcasts_S256x1_S256x128) cmp)

end Cert.KernelIdeal.Main

end
-- ==== Proof.Main.StepsAt.lean ====
/- The steps of a tile read at an index, over the extended reals. -/
module

public import proofs.«01_k».proof.Proof.Main.Steps
public import Idealize.ShloMosaic.Lib.Pointwise

@[expose] public section

set_option maxRecDepth 16384

noncomputable section

namespace Cert.KernelIdeal.Main

open Idealize.ShloMosaic Idealize.ShloMosaic.TcCoe Idealize.SL.Sem
open Cert.KernelIdeal Cert.KernelIdeal.Gen

/-- The softmax scale, 1/√128. -/
abbrev scale : EReal := Named.named (F := Ideal) Cert.KernelIdeal.κ "scale" (φ := .f32) 0x3DB504F3#32

theorem scale_eq : scale = (((Real.sqrt 128)⁻¹ : ℝ) : EReal) := IdealRules.named_const.ideal_named_scalar _ _ _ _ rfl

theorem weights_at (q : FVec Ideal S256x128 .f32) (k : FVec Ideal S512x128 .bf16) (r : Fin 256) (l : Fin 512) :
    weights (F := Ideal) q k (ix2 r l) = Ideal.exp (∑ d : Fin 128, (q (ix2 r d) * scale) * k (ix2 l d)) := by
  pointwise [weights, scaled]

theorem times_at (p : FVec Ideal S256x512 .bf16) (v : FVec Ideal S512x256 .bf16) (r c : Fin 256) :
    times (F := Ideal) p v (ix2 r c) = ∑ l : Fin 512, p (ix2 r l) * v (ix2 l c) := by
  pointwise [times]

theorem kept_at (e : FVec Ideal S8x512 .bf16) (b : FVec Ideal S1x32x256 .f32) (o : ℕ)
    (h : S32x256.Slices ![o, 0] S8x256) (ho : o + 8 ≤ 32) (r : Fin 256) (l : Fin 512) :
    kept (F := Ideal) e b o h (ix2 r l) = ∑ i : Fin 8, b (ix3 0 ⟨o + i, by omega⟩ r) * e (ix2 i l) := by
  pointwise [kept]

/-- A comparison's bit, widened and read as a number. -/
theorem bit_at (p : Prop) [Decidable p] :
    (FloatOps.sitofp (F := Ideal) .f32 (BitVec.setWidth 32 (BitVec.ofBool (decide p))) : EReal) = if p then 1 else 0 := by
  show ((((BitVec.setWidth 32 (BitVec.ofBool (decide p))).toInt : ℝ)) : EReal) = _
  by_cases h : p <;> simp [h]

theorem causal_at (B J : ℕ) (hB : B < 2 ^ 20) (hJ : J < 2 ^ 20) (r : Fin 256) (l : Fin 512) :
    causal (F := Ideal) (BitVec.ofNat 32 B) (BitVec.ofNat 32 J) (ix2 r l)
      = if J + (l : ℕ) ≤ B + (r : ℕ) then 1 else 0 := by
  pointwise [causal]
  rw [IntOp.addi, IntOp.addi, ← BitVec.ofNat_add, ← BitVec.ofNat_add,
    WordCmp.cmpi_sle_ofNat (by omega) (by omega)]
  exact bit_at _

theorem window_at (B J : ℕ) (hB : B < 2 ^ 20) (hJ : J < 2 ^ 20) (hB' : 512 ≤ B) (r : Fin 256) (l : Fin 512) :
    window (F := Ideal) (BitVec.ofNat 32 B) (BitVec.ofNat 32 J) (ix2 r l)
      = if B + (r : ℕ) < J + (l : ℕ) + 512 then 1 else 0 := by
  pointwise [window]
  have e : IntOp.subi (IntOp.addi (BitVec.ofNat 32 B) (BitVec.ofNat 32 ↑r)) 512#32
      = BitVec.ofNat 32 (B + r - 512) := by
    rw [IntOp.addi, IntOp.subi, ← BitVec.ofNat_add]
    apply BitVec.eq_of_toNat_eq
    simp only [BitVec.toNat_sub, BitVec.toNat_ofNat]
    omega
  rw [e, IntOp.addi, ← BitVec.ofNat_add, WordCmp.cmpi_sgt_ofNat (by omega) (by omega)]
  refine (bit_at _).trans (if_congr ?_ rfl rfl)
  omega

theorem gates_at (q : FVec Ideal S256x128 .f32) (wg : FVec Ideal S128x8 .f32) (bg : FVec Ideal S1x8 .f32)
    (r : Fin 256) (n : Fin 8) :
    gates (F := Ideal) q wg bg (ix2 r n) = (∑ d : Fin 128, q (ix2 r d) * wg (ix2 d n)) + bg (ix2 0 n) := by
  pointwise [gates]

theorem numer_at (L : List (FVec Ideal S256x256 .f32)) (r : Fin 256) (d : Fin 128) :
    numer (F := Ideal) L (ix2 r d) = (L.map fun p => p (ix2 r (Fin.castLE (by decide) d))).sum := by
  have H : ∀ (L : List (FVec Ideal S256x256 .f32)) (z : FVec Ideal S256x128 .f32),
      (L.foldl (fun a p => addf a (extractStridedSlice S256x128 ![0, 0] p slices_S256x256_o0_0_S256x128)) z) (ix2 r d)
        = z (ix2 r d) + (L.map fun p => p (ix2 r (Fin.castLE (by decide) d))).sum := by
    intro L
    induction L with
    | nil => intro z; simp
    | cons p L ih =>
      intro z
      rw [List.foldl_cons, ih, List.map_cons, List.sum_cons, ← add_assoc]
      congr 1
      pointwise
      rfl
  rw [numer, H]
  pointwise

theorem denom_at (L : List (FVec Ideal S256x256 .f32)) (r : Fin 256) :
    denom (F := Ideal) L (ix2 r 0) = (L.map fun p => p (ix2 r 128)).sum := by
  have H : ∀ (L : List (FVec Ideal S256x256 .f32)) (z : FVec Ideal S256x1 .f32),
      (L.foldl (fun a p => addf a (extractStridedSlice S256x1 ![0, 128] p slices_S256x256_o0_128_S256x1)) z) (ix2 r 0)
        = z (ix2 r 0) + (L.map fun p => p (ix2 r 128)).sum := by
    intro L
    induction L with
    | nil => intro z; simp
    | cons p L ih =>
      intro z
      rw [List.foldl_cons, ih, List.map_cons, List.sum_cons, ← add_assoc]
      congr 1
      pointwise
  rw [denom, H]
  pointwise

theorem mixed_at (g : FVec Ideal S256x8 .f32) (cmp : FVec Ideal S256x128 .f32) (LS LW : List (FVec Ideal S256x256 .f32))
    (r : Fin 256) (d : Fin 128) :
    mixed (F := Ideal) g cmp LS LW (ix2 r d)
      = numer LS (ix2 r d) * Ideal.div (g (ix2 r 0)) (denom LS (ix2 r 0))
        + numer LW (ix2 r d) * Ideal.div (g (ix2 r 1)) (denom LW (ix2 r 0)) + g (ix2 r 2) * cmp (ix2 r d) := by
  pointwise [mixed]

end Cert.KernelIdeal.Main

end
-- ==== Proof.Main.Blocks.lean ====
/- One block of keys against one query: the step products of `Steps.lean` as sums over the block's 512 keys, over whole
   2048-row operands. A block that a tile leaves out contributes nothing, because its mask is zero everywhere. -/
module

public import proofs.«01_k».proof.Proof.Main.StepsAt

@[expose] public section

set_option maxRecDepth 16384

noncomputable section

namespace Cert.KernelIdeal.Main

open Idealize.ShloMosaic Idealize.ShloMosaic.TcCoe Idealize.SL.Sem
open Cert.KernelIdeal Cert.KernelIdeal.Gen

/-- Key `l` of block `j`. -/
abbrev key (j : Fin 4) (l : Fin 512) : Fin 2048 := ⟨(j : ℕ) * 512 + (l : ℕ), by omega⟩

/-- The selection block a key belongs to. -/
abbrev blk (J : Fin 2048) : Fin 32 := ⟨(J : ℕ) / 64, by omega⟩

/-- The exponentiated logit of a query against a key. -/
def wt (q : FVec Ideal S2048x128 .f32) (k : FVec Ideal S2048x128 .bf16) (R J : Fin 2048) : EReal :=
  Ideal.exp (∑ d : Fin 128, (q (ix2 R d) * scale) * k (ix2 J d))

/-- One at the keys up to the query. -/
def cau (R J : Fin 2048) : EReal := if (J : ℕ) ≤ (R : ℕ) then 1 else 0

/-- One at the keys up to the query and within the window. -/
def near (R J : Fin 2048) : EReal := if (J : ℕ) ≤ (R : ℕ) ∧ (R : ℕ) < (J : ℕ) + 512 then 1 else 0

/-- A key's weight in the selected-block branch. -/
def wsel (q : FVec Ideal S2048x128 .f32) (k : FVec Ideal S2048x128 .bf16) (b : FVec Ideal S1x32x2048 .f32)
    (R J : Fin 2048) : EReal := (wt q k R J * cau R J) * b (ix3 0 (blk J) R)

/-- A key's weight in the window branch. -/
def wwin (q : FVec Ideal S2048x128 .f32) (k : FVec Ideal S2048x128 .bf16) (R J : Fin 2048) : EReal :=
  wt q k R J * near R J

/-- One block's share of a weighted sum of value columns. -/
def part (w : Fin 2048 → EReal) (v : FVec Ideal S2048x256 .bf16) (c : Fin 256) (j : Fin 4) : EReal :=
  ∑ l : Fin 512, w (key j l) * v (ix2 (key j l) c)

/-- The whole weighted sum is its four blocks' shares. -/
theorem sum_parts (w : Fin 2048 → EReal) (v : FVec Ideal S2048x256 .bf16) (c : Fin 256) :
    ∑ J : Fin 2048, w J * v (ix2 J c) = part w v c 0 + part w v c 1 + part w v c 2 + part w v c 3 := by
  refine (Fin.sum_univ_tiles 4 512 rfl (fun J => w J * v (ix2 J c))).trans ?_
  rw [Fin.sum_univ_four]
  rfl

theorem part_zero (w : Fin 2048 → EReal) (v : FVec Ideal S2048x256 .bf16) (c : Fin 256) (j : Fin 4)
    (h : ∀ l, w (key j l) = 0) : part w v c j = 0 :=
  Finset.sum_eq_zero fun l _ => by rw [h l, zero_mul]

section
variable (q : FVec Ideal S2048x128 .f32) (k : FVec Ideal S2048x128 .bf16) (v : FVec Ideal S2048x256 .bf16)
  (b : FVec Ideal S1x32x2048 .f32) (R : Fin 2048) (j : Fin 4) (c : Fin 256)

theorem sel_after (h : (R : ℕ) < (j : ℕ) * 512) : part (wsel q k b R) v c j = 0 :=
  part_zero _ v c j fun l => by
    rw [wsel, cau, if_neg (by simp only [key]; omega), mul_zero, zero_mul]

theorem win_after (h : (R : ℕ) < (j : ℕ) * 512) : part (wwin q k R) v c j = 0 :=
  part_zero _ v c j fun l => by
    rw [wwin, near, if_neg (by simp only [key]; omega), mul_zero]

theorem win_before (h : (j : ℕ) * 512 + 1024 ≤ (R : ℕ)) : part (wwin q k R) v c j = 0 :=
  part_zero _ v c j fun l => by
    rw [wwin, near, if_neg (by simp only [key]; omega), mul_zero]

variable (q' : FVec Ideal S256x128 .f32) (k' : FVec Ideal S512x128 .bf16) (v' : FVec Ideal S512x256 .bf16)
  (b' : FVec Ideal S1x32x256 .f32) (e : FVec Ideal S8x512 .bf16) (r : Fin 256)
  (hq : ∀ d, q' (ix2 r d) = q (ix2 R d)) (hk : ∀ l d, k' (ix2 l d) = k (ix2 (key j l) d))
  (hv : ∀ l, v' (ix2 l c) = v (ix2 (key j l) c)) (hb : ∀ i, b' (ix3 0 i r) = b (ix3 0 i R))
  (he : ∀ i l, e (ix2 i l) = if (l : ℕ) / 64 = (i : ℕ) then 1 else 0)

include hq hk in
theorem weights_block (l : Fin 512) : weights (F := Ideal) q' k' (ix2 r l) = wt q k R (key j l) := by
  rw [weights_at, wt]
  congr 1
  exact Finset.sum_congr rfl fun d _ => by rw [hq, hk]

include hb he in
theorem kept_block (o : ℕ) (h : S32x256.Slices ![o, 0] S8x256) (ho : o = (j : ℕ) * 8) (l : Fin 512) :
    kept (F := Ideal) e b' o h (ix2 r l) = b (ix3 0 (blk (key j l)) R) := by
  rw [kept_at e b' o h (by omega), Finset.sum_eq_single (⟨(l : ℕ) / 64, by omega⟩ : Fin 8)]
  · rw [he, if_pos rfl, mul_one, hb]
    congr 2
    apply Fin.ext
    simp only [blk, key]
    omega
  · intro i _ hi
    rw [he, if_neg, mul_zero]
    intro h'
    exact hi (Fin.ext h'.symm)
  · intro h'
    exact absurd (Finset.mem_univ _) h'

include hq hk hv hb he in
theorem sel_full (o : ℕ) (h : S32x256.Slices ![o, 0] S8x256) (ho : o = (j : ℕ) * 8)
    (hR : (j : ℕ) * 512 + 512 ≤ (R : ℕ)) :
    times (F := Ideal) (mulf (weights q' k') (kept e b' o h)) v' (ix2 r c) = part (wsel q k b R) v c j := by
  rw [times_at, part]
  refine Finset.sum_congr rfl fun l _ => ?_
  rw [hv]
  congr 1
  show weights (F := Ideal) q' k' (ix2 r l) * kept (F := Ideal) e b' o h (ix2 r l) = _
  rw [weights_block q k R j q' k' r hq hk, kept_block b R j b' e r hb he o h ho, wsel, cau,
    if_pos (by simp only [key]; omega), mul_one]

include hq hk hv hb he in
theorem sel_last (o : ℕ) (h : S32x256.Slices ![o, 0] S8x256) (ho : o = (j : ℕ) * 8) (B J : ℕ)
    (hB : (R : ℕ) = B + (r : ℕ)) (hJ : J = (j : ℕ) * 512) :
    times (F := Ideal) (mulf (mulf (weights q' k') (causal (BitVec.ofNat 32 B) (BitVec.ofNat 32 J))) (kept e b' o h)) v' (ix2 r c)
      = part (wsel q k b R) v c j := by
  rw [times_at, part]
  refine Finset.sum_congr rfl fun l _ => ?_
  rw [hv]
  congr 1
  show weights (F := Ideal) q' k' (ix2 r l) * causal (F := Ideal) _ _ (ix2 r l) * kept (F := Ideal) e b' o h (ix2 r l) = _
  rw [weights_block q k R j q' k' r hq hk, kept_block b R j b' e r hb he o h ho, wsel, cau,
    causal_at B J (by omega) (by omega)]
  congr 2
  exact if_congr (by simp only [key]; omega) rfl rfl

include hq hk hv in
theorem win_last (B J : ℕ) (hB : (R : ℕ) = B + (r : ℕ)) (hJ : J = (j : ℕ) * 512) (hR : (R : ℕ) < J + 512) :
    times (F := Ideal) (mulf (weights q' k') (causal (BitVec.ofNat 32 B) (BitVec.ofNat 32 J))) v' (ix2 r c)
      = part (wwin q k R) v c j := by
  rw [times_at, part]
  refine Finset.sum_congr rfl fun l _ => ?_
  rw [hv]
  congr 1
  show weights (F := Ideal) q' k' (ix2 r l) * causal (F := Ideal) _ _ (ix2 r l) = _
  rw [weights_block q k R j q' k' r hq hk, wwin, near, causal_at B J (by omega) (by omega)]
  congr 1
  exact if_congr (by simp only [key]; omega) rfl rfl

include hq hk hv in
theorem win_first (B J : ℕ) (hB : (R : ℕ) = B + (r : ℕ)) (hJ : J = (j : ℕ) * 512) (hB' : 512 ≤ B) (hR : J + 512 ≤ (R : ℕ)) :
    times (F := Ideal) (mulf (weights q' k') (window (BitVec.ofNat 32 B) (BitVec.ofNat 32 J))) v' (ix2 r c)
      = part (wwin q k R) v c j := by
  rw [times_at, part]
  refine Finset.sum_congr rfl fun l _ => ?_
  rw [hv]
  congr 1
  show weights (F := Ideal) q' k' (ix2 r l) * window (F := Ideal) _ _ (ix2 r l) = _
  rw [weights_block q k R j q' k' r hq hk, wwin, near, window_at B J (by omega) (by omega) hB']
  congr 1
  exact if_congr (by simp only [key]; omega) rfl rfl

end

/-- A branch's gate, over the whole operands. -/
def gate (q : FVec Ideal S2048x128 .f32) (wg : FVec Ideal S128x8 .f32) (bg : FVec Ideal S1x8 .f32)
    (R : Fin 2048) (n : Fin 8) : EReal := (∑ d : Fin 128, q (ix2 R d) * wg (ix2 d n)) + bg (ix2 0 n)

/-- One branch: the weighted sum of a value column times the gate over the weights' own sum. -/
def branch (w : Fin 2048 → EReal) (v : FVec Ideal S2048x256 .bf16) (g : EReal) (d : Fin 128) : EReal :=
  (∑ J : Fin 2048, w J * v (ix2 J (Fin.castLE (by decide) d)))
    * Ideal.div g (∑ J : Fin 2048, w J * v (ix2 J (128 : Fin 256)))

/-- The three branches together, at one entry. -/
def outAt (q : FVec Ideal S2048x128 .f32) (k : FVec Ideal S2048x128 .bf16) (v : FVec Ideal S2048x256 .bf16)
    (b : FVec Ideal S1x32x2048 .f32) (cmp : FVec Ideal S2048x128 .f32) (wg : FVec Ideal S128x8 .f32)
    (bg : FVec Ideal S1x8 .f32) (R : Fin 2048) (d : Fin 128) : EReal :=
  branch (wsel q k b R) v (gate q wg bg R 0) d + branch (wwin q k R) v (gate q wg bg R 1) d
    + gate q wg bg R 2 * cmp (ix2 R d)

end Cert.KernelIdeal.Main

end
-- ==== Proof.Main.Pieces.lean ====
/- Each of the body's eight stores, spelt in the steps of `Steps.lean`: both sides unfold to one expression. -/
module

public import proofs.«01_k».proof.Proof.Main.Steps

@[expose] public section

set_option maxRecDepth 16384

noncomputable section

namespace Cert.KernelIdeal.Main

open Idealize.ShloMosaic Idealize.ShloMosaic.TcCoe Idealize.SL.Sem
open Cert.KernelIdeal Cert.KernelIdeal.Gen

variable {F : FTy → Type} [FloatOps F] [Named F]

theorem piece0 (x0 : Vec F S2048x128 .f32) (x1 : Vec F S2048x128 .bf16) (x2 : Vec F S2048x256 .bf16) (x3 : Vec F S1x32x2048 .f32) (x4 : Vec F S2048x128 .f32) (x5 : Vec F S128x8 .f32) (x6 : Vec F S1x8 .f32) (x7 : Vec F S8x512 .bf16) :
    k0_pay13 (View.ld x7 r0_2) (k0_pay5 (View.ld x5 r0_0) (View.ld x6 r0_1) (View.ld x0 r0_3)) (k0_pay6 (View.ld x3 r0_4)) (k0_pay7 (F := F)) (k0_pay8 (F := F)) (k0_pay9 (F := F)) (k0_pay10 (F := F)) (View.ld x2 r0_6) (k0_pay11 (View.ld x0 r0_3) (View.ld x1 r0_5)) (k0_pay12 (F := F)) (View.ld x4 r0_3)
    = mixed (gates (View.ld x0 r0_3) (View.ld x5 r0_0) (View.ld x6 r0_1)) (View.ld x4 r0_3)
      [times (mulf (mulf (weights (View.ld x0 r0_3) (View.ld x1 r0_5)) (causal 0#32 0#32)) (kept (View.ld x7 r0_2) (View.ld x3 r0_4) 0 slices_S32x256_o0_0_S8x256)) (View.ld x2 r0_6)]
      [times (mulf (weights (View.ld x0 r0_3) (View.ld x1 r0_5)) (causal 0#32 0#32)) (View.ld x2 r0_6)] := rfl

theorem piece1 (x0 : Vec F S2048x128 .f32) (x1 : Vec F S2048x128 .bf16) (x2 : Vec F S2048x256 .bf16) (x3 : Vec F S1x32x2048 .f32) (x4 : Vec F S2048x128 .f32) (x5 : Vec F S128x8 .f32) (x6 : Vec F S1x8 .f32) (x7 : Vec F S8x512 .bf16) :
    k0_pay21 (k0_pay19 (View.ld x7 r0_2) (k0_pay154 x0 x1 x2 x3 x4 x5 x6 x7) (k0_pay16 (View.ld x0 r0_7)) (k0_pay17 (View.ld x3 r0_8)) (k0_pay18 (F := F)) (Scalar.ofBits .f32 0x00000000#32) (View.ld x1 r0_5) (View.ld x2 r0_6)) (k0_pay20 (k0_pay154 x0 x1 x2 x3 x4 x5 x6 x7) (View.ld x4 r0_7))
    = mixed (gates (View.ld x0 r0_7) (View.ld x5 r0_0) (View.ld x6 r0_1)) (View.ld x4 r0_7)
      [times (mulf (mulf (weights (View.ld x0 r0_7) (View.ld x1 r0_5)) (causal 256#32 0#32)) (kept (View.ld x7 r0_2) (View.ld x3 r0_8) 0 slices_S32x256_o0_0_S8x256)) (View.ld x2 r0_6)]
      [times (mulf (weights (View.ld x0 r0_7) (View.ld x1 r0_5)) (causal 256#32 0#32)) (View.ld x2 r0_6)] := rfl

theorem piece2 (x0 : Vec F S2048x128 .f32) (x1 : Vec F S2048x128 .bf16) (x2 : Vec F S2048x256 .bf16) (x3 : Vec F S1x32x2048 .f32) (x4 : Vec F S2048x128 .f32) (x5 : Vec F S128x8 .f32) (x6 : Vec F S1x8 .f32) (x7 : Vec F S8x512 .bf16) :
    k0_pay42 (k0_pay155 x0 x1 x2 x3 x4 x5 x6 x7) (k0_pay37 (View.ld x7 r0_2) (k0_pay156 x0 x1 x2 x3 x4 x5 x6 x7) (k0_pay157 x0 x1 x2 x3 x4 x5 x6 x7) (k0_pay30 (View.ld x7 r0_2) (View.ld x0 r0_9) (View.ld x3 r0_10) (View.ld x1 r0_5) (View.ld x2 r0_6)) (View.ld x1 r0_11) (View.ld x2 r0_12)) (k0_pay39 (k0_pay156 x0 x1 x2 x3 x4 x5 x6 x7) (k0_pay27 (F := F)) (View.ld x2 r0_6) (k0_pay158 x0 x1 x2 x3 x4 x5 x6 x7) (k0_pay159 x0 x1 x2 x3 x4 x5 x6 x7) (k0_pay160 x0 x1 x2 x3 x4 x5 x6 x7) (View.ld x1 r0_11) (View.ld x2 r0_12)) (k0_pay40 (View.ld x7 r0_2) (k0_pay155 x0 x1 x2 x3 x4 x5 x6 x7) (k0_pay156 x0 x1 x2 x3 x4 x5 x6 x7) (k0_pay157 x0 x1 x2 x3 x4 x5 x6 x7) (k0_pay31 (View.ld x7 r0_2) (View.ld x0 r0_9) (View.ld x3 r0_10) (View.ld x1 r0_5) (View.ld x2 r0_6)) (View.ld x1 r0_11) (View.ld x2 r0_12)) (k0_pay41 (k0_pay155 x0 x1 x2 x3 x4 x5 x6 x7) (k0_pay156 x0 x1 x2 x3 x4 x5 x6 x7) (k0_pay26 (F := F)) (View.ld x2 r0_6) (k0_pay158 x0 x1 x2 x3 x4 x5 x6 x7) (k0_pay159 x0 x1 x2 x3 x4 x5 x6 x7) (k0_pay160 x0 x1 x2 x3 x4 x5 x6 x7) (View.ld x1 r0_11) (View.ld x2 r0_12)) (View.ld x4 r0_9)
    = mixed (gates (View.ld x0 r0_9) (View.ld x5 r0_0) (View.ld x6 r0_1)) (View.ld x4 r0_9)
      [times (mulf (weights (View.ld x0 r0_9) (View.ld x1 r0_5)) (kept (View.ld x7 r0_2) (View.ld x3 r0_10) 0 slices_S32x256_o0_0_S8x256)) (View.ld x2 r0_6),
       times (mulf (mulf (weights (View.ld x0 r0_9) (View.ld x1 r0_11)) (causal 512#32 512#32)) (kept (View.ld x7 r0_2) (View.ld x3 r0_10) 8 slices_S32x256_o8_0_S8x256)) (View.ld x2 r0_12)]
      [times (mulf (weights (View.ld x0 r0_9) (View.ld x1 r0_5)) (window 512#32 0#32)) (View.ld x2 r0_6),
       times (mulf (weights (View.ld x0 r0_9) (View.ld x1 r0_11)) (causal 512#32 512#32)) (View.ld x2 r0_12)] := rfl

theorem piece3 (x0 : Vec F S2048x128 .f32) (x1 : Vec F S2048x128 .bf16) (x2 : Vec F S2048x256 .bf16) (x3 : Vec F S1x32x2048 .f32) (x4 : Vec F S2048x128 .f32) (x5 : Vec F S128x8 .f32) (x6 : Vec F S1x8 .f32) (x7 : Vec F S8x512 .bf16) :
    k0_pay63 (k0_pay44 (k0_pay152 x0 x1 x2 x3 x4 x5 x6 x7) (k0_pay153 x0 x1 x2 x3 x4 x5 x6 x7) (View.ld x0 r0_13)) (k0_pay55 (k0_pay49 (F := F)) (View.ld x2 r0_6) (k0_pay163 x0 x1 x2 x3 x4 x5 x6 x7)) (k0_pay56 (k0_pay48 (F := F)) (View.ld x2 r0_6) (k0_pay163 x0 x1 x2 x3 x4 x5 x6 x7)) (k0_pay59 (View.ld x7 r0_2) (k0_pay161 x0 x1 x2 x3 x4 x5 x6 x7) (k0_pay162 x0 x1 x2 x3 x4 x5 x6 x7) (k0_pay52 (View.ld x7 r0_2) (View.ld x0 r0_13) (View.ld x3 r0_14) (View.ld x1 r0_5) (View.ld x2 r0_6)) (View.ld x1 r0_11) (View.ld x2 r0_12)) (k0_pay60 (View.ld x7 r0_2) (k0_pay161 x0 x1 x2 x3 x4 x5 x6 x7) (k0_pay162 x0 x1 x2 x3 x4 x5 x6 x7) (k0_pay47 (F := F)) (k0_pay53 (View.ld x7 r0_2) (View.ld x0 r0_13) (View.ld x3 r0_14) (View.ld x1 r0_5) (View.ld x2 r0_6)) (View.ld x1 r0_11) (View.ld x2 r0_12)) (k0_pay61 (k0_pay161 x0 x1 x2 x3 x4 x5 x6 x7) (View.ld x1 r0_11) (View.ld x2 r0_12)) (k0_pay62 (k0_pay161 x0 x1 x2 x3 x4 x5 x6 x7) (View.ld x1 r0_11) (View.ld x2 r0_12)) (View.ld x4 r0_13)
    = mixed (gates (View.ld x0 r0_13) (View.ld x5 r0_0) (View.ld x6 r0_1)) (View.ld x4 r0_13)
      [times (mulf (weights (View.ld x0 r0_13) (View.ld x1 r0_5)) (kept (View.ld x7 r0_2) (View.ld x3 r0_14) 0 slices_S32x256_o0_0_S8x256)) (View.ld x2 r0_6),
       times (mulf (mulf (weights (View.ld x0 r0_13) (View.ld x1 r0_11)) (causal 768#32 512#32)) (kept (View.ld x7 r0_2) (View.ld x3 r0_14) 8 slices_S32x256_o8_0_S8x256)) (View.ld x2 r0_12)]
      [times (mulf (weights (View.ld x0 r0_13) (View.ld x1 r0_5)) (window 768#32 0#32)) (View.ld x2 r0_6),
       times (mulf (weights (View.ld x0 r0_13) (View.ld x1 r0_11)) (causal 768#32 512#32)) (View.ld x2 r0_12)] := rfl

theorem piece4 (x0 : Vec F S2048x128 .f32) (x1 : Vec F S2048x128 .bf16) (x2 : Vec F S2048x256 .bf16) (x3 : Vec F S1x32x2048 .f32) (x4 : Vec F S2048x128 .f32) (x5 : Vec F S128x8 .f32) (x6 : Vec F S1x8 .f32) (x7 : Vec F S8x512 .bf16) :
    k0_pay82 (View.ld x7 r0_2) (k0_pay65 (k0_pay152 x0 x1 x2 x3 x4 x5 x6 x7) (k0_pay153 x0 x1 x2 x3 x4 x5 x6 x7) (View.ld x0 r0_15)) (k0_pay164 x0 x1 x2 x3 x4 x5 x6 x7) (k0_pay165 x0 x1 x2 x3 x4 x5 x6 x7) (k0_pay77 (View.ld x7 r0_2) (k0_pay164 x0 x1 x2 x3 x4 x5 x6 x7) (k0_pay165 x0 x1 x2 x3 x4 x5 x6 x7) (k0_pay70 (F := F)) (View.ld x2 r0_6) (k0_pay166 x0 x1 x2 x3 x4 x5 x6 x7) (k0_pay167 x0 x1 x2 x3 x4 x5 x6 x7) (View.ld x1 r0_11) (View.ld x2 r0_12)) (k0_pay78 (View.ld x7 r0_2) (k0_pay164 x0 x1 x2 x3 x4 x5 x6 x7) (k0_pay165 x0 x1 x2 x3 x4 x5 x6 x7) (k0_pay68 (F := F)) (View.ld x2 r0_6) (k0_pay166 x0 x1 x2 x3 x4 x5 x6 x7) (k0_pay167 x0 x1 x2 x3 x4 x5 x6 x7) (View.ld x1 r0_11) (View.ld x2 r0_12)) (k0_pay80 (k0_pay164 x0 x1 x2 x3 x4 x5 x6 x7) (k0_pay71 (F := F)) (View.ld x1 r0_11) (View.ld x2 r0_12)) (k0_pay81 (k0_pay164 x0 x1 x2 x3 x4 x5 x6 x7) (k0_pay69 (F := F)) (View.ld x1 r0_11) (View.ld x2 r0_12)) (View.ld x1 r0_17) (View.ld x2 r0_18) (constant S256x512 .f32 0x00000000#32) (View.ld x4 r0_15)
    = mixed (gates (View.ld x0 r0_15) (View.ld x5 r0_0) (View.ld x6 r0_1)) (View.ld x4 r0_15)
      [times (mulf (weights (View.ld x0 r0_15) (View.ld x1 r0_5)) (kept (View.ld x7 r0_2) (View.ld x3 r0_16) 0 slices_S32x256_o0_0_S8x256)) (View.ld x2 r0_6),
       times (mulf (weights (View.ld x0 r0_15) (View.ld x1 r0_11)) (kept (View.ld x7 r0_2) (View.ld x3 r0_16) 8 slices_S32x256_o8_0_S8x256)) (View.ld x2 r0_12),
       times (mulf (mulf (weights (View.ld x0 r0_15) (View.ld x1 r0_17)) (causal 1024#32 1024#32)) (kept (View.ld x7 r0_2) (View.ld x3 r0_16) 16 slices_S32x256_o16_0_S8x256)) (View.ld x2 r0_18)]
      [times (mulf (weights (View.ld x0 r0_15) (View.ld x1 r0_11)) (window 1024#32 512#32)) (View.ld x2 r0_12),
       times (mulf (weights (View.ld x0 r0_15) (View.ld x1 r0_17)) (causal 1024#32 1024#32)) (View.ld x2 r0_18)] := rfl

theorem piece5 (x0 : Vec F S2048x128 .f32) (x1 : Vec F S2048x128 .bf16) (x2 : Vec F S2048x256 .bf16) (x3 : Vec F S1x32x2048 .f32) (x4 : Vec F S2048x128 .f32) (x5 : Vec F S128x8 .f32) (x6 : Vec F S1x8 .f32) (x7 : Vec F S8x512 .bf16) :
    k0_pay106 (k0_pay86 (k0_pay84 (k0_pay152 x0 x1 x2 x3 x4 x5 x6 x7) (View.ld x0 r0_19)) (k0_pay85 (k0_pay153 x0 x1 x2 x3 x4 x5 x6 x7))) (k0_pay98 (k0_pay90 (F := F)) (View.ld x2 r0_12) (k0_pay171 x0 x1 x2 x3 x4 x5 x6 x7)) (k0_pay99 (k0_pay89 (F := F)) (View.ld x2 r0_12) (k0_pay171 x0 x1 x2 x3 x4 x5 x6 x7)) (k0_pay102 (View.ld x7 r0_2) (k0_pay169 x0 x1 x2 x3 x4 x5 x6 x7) (k0_pay170 x0 x1 x2 x3 x4 x5 x6 x7) (k0_pay95 (View.ld x7 r0_2) (k0_pay168 x0 x1 x2 x3 x4 x5 x6 x7) (View.ld x3 r0_20) (View.ld x1 r0_5) (View.ld x2 r0_6) (View.ld x1 r0_11) (View.ld x2 r0_12)) (View.ld x1 r0_17) (View.ld x2 r0_18)) (k0_pay103 (View.ld x7 r0_2) (k0_pay169 x0 x1 x2 x3 x4 x5 x6 x7) (k0_pay170 x0 x1 x2 x3 x4 x5 x6 x7) (k0_pay92 (View.ld x7 r0_2) (k0_pay168 x0 x1 x2 x3 x4 x5 x6 x7) (View.ld x3 r0_20) (View.ld x1 r0_5) (View.ld x2 r0_6)) (k0_pay96 (View.ld x7 r0_2) (k0_pay168 x0 x1 x2 x3 x4 x5 x6 x7) (View.ld x3 r0_20) (View.ld x1 r0_11) (View.ld x2 r0_12)) (View.ld x1 r0_17) (View.ld x2 r0_18)) (k0_pay104 (k0_pay169 x0 x1 x2 x3 x4 x5 x6 x7) (View.ld x1 r0_17) (View.ld x2 r0_18)) (k0_pay105 (k0_pay169 x0 x1 x2 x3 x4 x5 x6 x7) (View.ld x1 r0_17) (View.ld x2 r0_18)) (View.ld x4 r0_19)
    = mixed (gates (View.ld x0 r0_19) (View.ld x5 r0_0) (View.ld x6 r0_1)) (View.ld x4 r0_19)
      [times (mulf (weights (View.ld x0 r0_19) (View.ld x1 r0_5)) (kept (View.ld x7 r0_2) (View.ld x3 r0_20) 0 slices_S32x256_o0_0_S8x256)) (View.ld x2 r0_6),
       times (mulf (weights (View.ld x0 r0_19) (View.ld x1 r0_11)) (kept (View.ld x7 r0_2) (View.ld x3 r0_20) 8 slices_S32x256_o8_0_S8x256)) (View.ld x2 r0_12),
       times (mulf (mulf (weights (View.ld x0 r0_19) (View.ld x1 r0_17)) (causal 1280#32 1024#32)) (kept (View.ld x7 r0_2) (View.ld x3 r0_20) 16 slices_S32x256_o16_0_S8x256)) (View.ld x2 r0_18)]
      [times (mulf (weights (View.ld x0 r0_19) (View.ld x1 r0_11)) (window 1280#32 512#32)) (View.ld x2 r0_12),
       times (mulf (weights (View.ld x0 r0_19) (View.ld x1 r0_17)) (causal 1280#32 1024#32)) (View.ld x2 r0_18)] := rfl

theorem piece6 (x0 : Vec F S2048x128 .f32) (x1 : Vec F S2048x128 .bf16) (x2 : Vec F S2048x256 .bf16) (x3 : Vec F S1x32x2048 .f32) (x4 : Vec F S2048x128 .f32) (x5 : Vec F S128x8 .f32) (x6 : Vec F S1x8 .f32) (x7 : Vec F S8x512 .bf16) :
    k0_pay133 (k0_pay172 x0 x1 x2 x3 x4 x5 x6 x7) (k0_pay128 (View.ld x7 r0_2) (k0_pay173 x0 x1 x2 x3 x4 x5 x6 x7) (k0_pay174 x0 x1 x2 x3 x4 x5 x6 x7) (k0_pay121 (View.ld x7 r0_2) (k0_pay173 x0 x1 x2 x3 x4 x5 x6 x7) (k0_pay174 x0 x1 x2 x3 x4 x5 x6 x7) (k0_pay113 (F := F)) (View.ld x2 r0_6) (k0_pay175 x0 x1 x2 x3 x4 x5 x6 x7) (k0_pay176 x0 x1 x2 x3 x4 x5 x6 x7) (View.ld x1 r0_11) (View.ld x2 r0_12) (View.ld x1 r0_17) (View.ld x2 r0_18)) (View.ld x1 r0_23) (View.ld x2 r0_24)) (k0_pay130 (k0_pay173 x0 x1 x2 x3 x4 x5 x6 x7) (k0_pay114 (F := F)) (View.ld x2 r0_18) (k0_pay177 x0 x1 x2 x3 x4 x5 x6 x7) (k0_pay178 x0 x1 x2 x3 x4 x5 x6 x7) (k0_pay179 x0 x1 x2 x3 x4 x5 x6 x7) (View.ld x1 r0_23) (View.ld x2 r0_24)) (k0_pay131 (View.ld x7 r0_2) (k0_pay172 x0 x1 x2 x3 x4 x5 x6 x7) (k0_pay173 x0 x1 x2 x3 x4 x5 x6 x7) (k0_pay174 x0 x1 x2 x3 x4 x5 x6 x7) (k0_pay122 (View.ld x7 r0_2) (k0_pay173 x0 x1 x2 x3 x4 x5 x6 x7) (k0_pay174 x0 x1 x2 x3 x4 x5 x6 x7) (k0_pay111 (F := F)) (View.ld x2 r0_6) (k0_pay175 x0 x1 x2 x3 x4 x5 x6 x7) (k0_pay176 x0 x1 x2 x3 x4 x5 x6 x7) (View.ld x1 r0_11) (View.ld x2 r0_12) (View.ld x1 r0_17) (View.ld x2 r0_18)) (View.ld x1 r0_23) (View.ld x2 r0_24)) (k0_pay132 (k0_pay172 x0 x1 x2 x3 x4 x5 x6 x7) (k0_pay173 x0 x1 x2 x3 x4 x5 x6 x7) (k0_pay112 (F := F)) (View.ld x2 r0_18) (k0_pay177 x0 x1 x2 x3 x4 x5 x6 x7) (k0_pay178 x0 x1 x2 x3 x4 x5 x6 x7) (k0_pay179 x0 x1 x2 x3 x4 x5 x6 x7) (View.ld x1 r0_23) (View.ld x2 r0_24)) (View.ld x4 r0_21)
    = mixed (gates (View.ld x0 r0_21) (View.ld x5 r0_0) (View.ld x6 r0_1)) (View.ld x4 r0_21)
      [times (mulf (weights (View.ld x0 r0_21) (View.ld x1 r0_5)) (kept (View.ld x7 r0_2) (View.ld x3 r0_22) 0 slices_S32x256_o0_0_S8x256)) (View.ld x2 r0_6),
       times (mulf (weights (View.ld x0 r0_21) (View.ld x1 r0_11)) (kept (View.ld x7 r0_2) (View.ld x3 r0_22) 8 slices_S32x256_o8_0_S8x256)) (View.ld x2 r0_12),
       times (mulf (weights (View.ld x0 r0_21) (View.ld x1 r0_17)) (kept (View.ld x7 r0_2) (View.ld x3 r0_22) 16 slices_S32x256_o16_0_S8x256)) (View.ld x2 r0_18),
       times (mulf (mulf (weights (View.ld x0 r0_21) (View.ld x1 r0_23)) (causal 1536#32 1536#32)) (kept (View.ld x7 r0_2) (View.ld x3 r0_22) 24 slices_S32x256_o24_0_S8x256)) (View.ld x2 r0_24)]
      [times (mulf (weights (View.ld x0 r0_21) (View.ld x1 r0_17)) (window 1536#32 1024#32)) (View.ld x2 r0_18),
       times (mulf (weights (View.ld x0 r0_21) (View.ld x1 r0_23)) (causal 1536#32 1536#32)) (View.ld x2 r0_24)] := rfl

theorem piece7 (x0 : Vec F S2048x128 .f32) (x1 : Vec F S2048x128 .bf16) (x2 : Vec F S2048x256 .bf16) (x3 : Vec F S1x32x2048 .f32) (x4 : Vec F S2048x128 .f32) (x5 : Vec F S128x8 .f32) (x6 : Vec F S1x8 .f32) (x7 : Vec F S8x512 .bf16) :
    k0_pay1 (k0_pay150 (View.ld x7 r0_2) (k0_pay180 x0 x1 x2 x3 x4 x5 x6 x7) (k0_pay181 x0 x1 x2 x3 x4 x5 x6 x7) (k0_pay182 x0 x1 x2 x3 x4 x5 x6 x7) (k0_pay139 (F := F)) (k0_pay140 (F := F)) (View.ld x2 r0_18) (k0_pay147 (View.ld x7 r0_2) (k0_pay181 x0 x1 x2 x3 x4 x5 x6 x7) (k0_pay182 x0 x1 x2 x3 x4 x5 x6 x7) (k0_pay142 (View.ld x7 r0_2) (View.ld x0 r0_25) (View.ld x3 r0_26) (View.ld x1 r0_5) (View.ld x2 r0_6)) (View.ld x1 r0_11) (View.ld x2 r0_12) (View.ld x1 r0_17) (View.ld x2 r0_18)) (k0_pay148 (View.ld x7 r0_2) (k0_pay181 x0 x1 x2 x3 x4 x5 x6 x7) (k0_pay182 x0 x1 x2 x3 x4 x5 x6 x7) (k0_pay138 (F := F)) (k0_pay143 (View.ld x7 r0_2) (View.ld x0 r0_25) (View.ld x3 r0_26) (View.ld x1 r0_5) (View.ld x2 r0_6)) (View.ld x1 r0_11) (View.ld x2 r0_12) (View.ld x1 r0_17) (View.ld x2 r0_18)) (k0_pay149 (k0_pay181 x0 x1 x2 x3 x4 x5 x6 x7) (View.ld x1 r0_17)) (constant S256x256 .f32 0x00000000#32) (View.ld x1 r0_23) (View.ld x2 r0_24)) (k0_pay151 (k0_pay180 x0 x1 x2 x3 x4 x5 x6 x7) (View.ld x4 r0_25))
    = mixed (gates (View.ld x0 r0_25) (View.ld x5 r0_0) (View.ld x6 r0_1)) (View.ld x4 r0_25)
      [times (mulf (weights (View.ld x0 r0_25) (View.ld x1 r0_5)) (kept (View.ld x7 r0_2) (View.ld x3 r0_26) 0 slices_S32x256_o0_0_S8x256)) (View.ld x2 r0_6),
       times (mulf (weights (View.ld x0 r0_25) (View.ld x1 r0_11)) (kept (View.ld x7 r0_2) (View.ld x3 r0_26) 8 slices_S32x256_o8_0_S8x256)) (View.ld x2 r0_12),
       times (mulf (weights (View.ld x0 r0_25) (View.ld x1 r0_17)) (kept (View.ld x7 r0_2) (View.ld x3 r0_26) 16 slices_S32x256_o16_0_S8x256)) (View.ld x2 r0_18),
       times (mulf (mulf (weights (View.ld x0 r0_25) (View.ld x1 r0_23)) (causal 1792#32 1536#32)) (kept (View.ld x7 r0_2) (View.ld x3 r0_26) 24 slices_S32x256_o24_0_S8x256)) (View.ld x2 r0_24)]
      [times (mulf (weights (View.ld x0 r0_25) (View.ld x1 r0_17)) (window 1792#32 1024#32)) (View.ld x2 r0_18),
       times (mulf (weights (View.ld x0 r0_25) (View.ld x1 r0_23)) (causal 1792#32 1536#32)) (View.ld x2 r0_24)] := rfl

end Cert.KernelIdeal.Main

end
-- ==== Proof.Main.Tiles.lean ====
/- The eight stored tiles read at an entry: each is the three branches over all 2048 keys. -/
module

public import proofs.«01_k».proof.Proof.Main.Blocks
public import proofs.«01_k».proof.Proof.Main.Pieces

@[expose] public section

set_option maxRecDepth 16384

noncomputable section

namespace Cert.KernelIdeal.Main

open Idealize.ShloMosaic Idealize.ShloMosaic.TcCoe Idealize.SL.Sem
open Cert.KernelIdeal Cert.KernelIdeal.Gen

/-- A tile whose two lists sum to the two branches' weighted sums is the three branches together. -/
theorem mixed_eq (q : FVec Ideal S2048x128 .f32) (k : FVec Ideal S2048x128 .bf16) (v : FVec Ideal S2048x256 .bf16)
    (b : FVec Ideal S1x32x2048 .f32) (cmp : FVec Ideal S2048x128 .f32) (wg : FVec Ideal S128x8 .f32)
    (bg : FVec Ideal S1x8 .f32) (R : Fin 2048) (r : Fin 256) (d : Fin 128)
    (g : FVec Ideal S256x8 .f32) (cmp' : FVec Ideal S256x128 .f32) (LS LW : List (FVec Ideal S256x256 .f32))
    (hS : ∀ c, (LS.map fun p => p (ix2 r c)).sum = ∑ J : Fin 2048, wsel q k b R J * v (ix2 J c))
    (hW : ∀ c, (LW.map fun p => p (ix2 r c)).sum = ∑ J : Fin 2048, wwin q k R J * v (ix2 J c))
    (hg : ∀ n, g (ix2 r n) = gate q wg bg R n) (hc : cmp' (ix2 r d) = cmp (ix2 R d)) :
    mixed (F := Ideal) g cmp' LS LW (ix2 r d) = outAt q k v b cmp wg bg R d := by
  rw [mixed_at, numer_at, numer_at, denom_at, denom_at, hS, hW, hS, hW, hg, hg, hg, hc]
  rfl

theorem gates_eq (q : FVec Ideal S2048x128 .f32) (wg : FVec Ideal S128x8 .f32) (bg : FVec Ideal S1x8 .f32)
    (q' : FVec Ideal S256x128 .f32) (wg' : FVec Ideal S128x8 .f32) (bg' : FVec Ideal S1x8 .f32) (R : Fin 2048) (r : Fin 256)
    (hq : ∀ d, q' (ix2 r d) = q (ix2 R d)) (hw : ∀ d n, wg' (ix2 d n) = wg (ix2 d n)) (hb : ∀ n, bg' (ix2 0 n) = bg (ix2 0 n))
    (n : Fin 8) : gates (F := Ideal) q' wg' bg' (ix2 r n) = gate q wg bg R n := by
  rw [gates_at, gate, hb]
  congr 1
  exact Finset.sum_congr rfl fun d _ => by rw [hq, hw]

section
variable (x0 : FVec Ideal S2048x128 .f32) (x1 : FVec Ideal S2048x128 .bf16) (x2 : FVec Ideal S2048x256 .bf16) (x3 : FVec Ideal S1x32x2048 .f32) (x4 : FVec Ideal S2048x128 .f32) (x5 : FVec Ideal S128x8 .f32) (x6 : FVec Ideal S1x8 .f32) (x7 : FVec Ideal S8x512 .bf16)

theorem read_wg (d : Fin 128) (n : Fin 8) : View.ld (Val := Elt Ideal) (e' := .f32) x5 r0_0 (ix2 d n) = x5 (ix2 d n) := by pointwise

theorem read_bg (n : Fin 8) : View.ld (Val := Elt Ideal) (e' := .f32) x6 r0_1 (ix2 0 n) = x6 (ix2 0 n) := by pointwise

theorem read_e (i : Fin 8) (l : Fin 512) : View.ld (Val := Elt Ideal) (e' := .bf16) x7 r0_2 (ix2 i l) = x7 (ix2 i l) := by pointwise

theorem read_k0 (l : Fin 512) (d : Fin 128) : View.ld (Val := Elt Ideal) (e' := .bf16) x1 r0_5 (ix2 l d) = x1 (ix2 (key 0 l) d) := by
  pointwise
  congr 2
  exact Fin.ext (by simp [key])

theorem read_v0 (l : Fin 512) (c : Fin 256) : View.ld (Val := Elt Ideal) (e' := .bf16) x2 r0_6 (ix2 l c) = x2 (ix2 (key 0 l) c) := by
  pointwise
  congr 2
  exact Fin.ext (by simp [key])

theorem read_k1 (l : Fin 512) (d : Fin 128) : View.ld (Val := Elt Ideal) (e' := .bf16) x1 r0_11 (ix2 l d) = x1 (ix2 (key 1 l) d) := by
  pointwise
  rfl

theorem read_v1 (l : Fin 512) (c : Fin 256) : View.ld (Val := Elt Ideal) (e' := .bf16) x2 r0_12 (ix2 l c) = x2 (ix2 (key 1 l) c) := by
  pointwise
  rfl

theorem read_k2 (l : Fin 512) (d : Fin 128) : View.ld (Val := Elt Ideal) (e' := .bf16) x1 r0_17 (ix2 l d) = x1 (ix2 (key 2 l) d) := by
  pointwise
  rfl

theorem read_v2 (l : Fin 512) (c : Fin 256) : View.ld (Val := Elt Ideal) (e' := .bf16) x2 r0_18 (ix2 l c) = x2 (ix2 (key 2 l) c) := by
  pointwise
  rfl

theorem read_k3 (l : Fin 512) (d : Fin 128) : View.ld (Val := Elt Ideal) (e' := .bf16) x1 r0_23 (ix2 l d) = x1 (ix2 (key 3 l) d) := by
  pointwise
  rfl

theorem read_v3 (l : Fin 512) (c : Fin 256) : View.ld (Val := Elt Ideal) (e' := .bf16) x2 r0_24 (ix2 l c) = x2 (ix2 (key 3 l) c) := by
  pointwise
  rfl

theorem read_q0 (r : Fin 256) (d : Fin 128) : View.ld (Val := Elt Ideal) (e' := .f32) x0 r0_3 (ix2 r d) = x0 (ix2 ⟨0 + (r : ℕ), by omega⟩ d) := by
  pointwise <;> rfl

theorem read_b0 (i : Fin 32) (r : Fin 256) : View.ld (Val := Elt Ideal) (e' := .f32) x3 r0_4 (ix3 0 i r) = x3 (ix3 0 i ⟨0 + (r : ℕ), by omega⟩) := by
  pointwise <;> rfl

theorem read_q1 (r : Fin 256) (d : Fin 128) : View.ld (Val := Elt Ideal) (e' := .f32) x0 r0_7 (ix2 r d) = x0 (ix2 ⟨256 + (r : ℕ), by omega⟩ d) := by
  pointwise <;> rfl

theorem read_b1 (i : Fin 32) (r : Fin 256) : View.ld (Val := Elt Ideal) (e' := .f32) x3 r0_8 (ix3 0 i r) = x3 (ix3 0 i ⟨256 + (r : ℕ), by omega⟩) := by
  pointwise <;> rfl

theorem read_q2 (r : Fin 256) (d : Fin 128) : View.ld (Val := Elt Ideal) (e' := .f32) x0 r0_9 (ix2 r d) = x0 (ix2 ⟨512 + (r : ℕ), by omega⟩ d) := by
  pointwise <;> rfl

theorem read_b2 (i : Fin 32) (r : Fin 256) : View.ld (Val := Elt Ideal) (e' := .f32) x3 r0_10 (ix3 0 i r) = x3 (ix3 0 i ⟨512 + (r : ℕ), by omega⟩) := by
  pointwise <;> rfl

theorem read_q3 (r : Fin 256) (d : Fin 128) : View.ld (Val := Elt Ideal) (e' := .f32) x0 r0_13 (ix2 r d) = x0 (ix2 ⟨768 + (r : ℕ), by omega⟩ d) := by
  pointwise <;> rfl

theorem read_b3 (i : Fin 32) (r : Fin 256) : View.ld (Val := Elt Ideal) (e' := .f32) x3 r0_14 (ix3 0 i r) = x3 (ix3 0 i ⟨768 + (r : ℕ), by omega⟩) := by
  pointwise <;> rfl

theorem read_q4 (r : Fin 256) (d : Fin 128) : View.ld (Val := Elt Ideal) (e' := .f32) x0 r0_15 (ix2 r d) = x0 (ix2 ⟨1024 + (r : ℕ), by omega⟩ d) := by
  pointwise <;> rfl

theorem read_b4 (i : Fin 32) (r : Fin 256) : View.ld (Val := Elt Ideal) (e' := .f32) x3 r0_16 (ix3 0 i r) = x3 (ix3 0 i ⟨1024 + (r : ℕ), by omega⟩) := by
  pointwise <;> rfl

theorem read_q5 (r : Fin 256) (d : Fin 128) : View.ld (Val := Elt Ideal) (e' := .f32) x0 r0_19 (ix2 r d) = x0 (ix2 ⟨1280 + (r : ℕ), by omega⟩ d) := by
  pointwise <;> rfl

theorem read_b5 (i : Fin 32) (r : Fin 256) : View.ld (Val := Elt Ideal) (e' := .f32) x3 r0_20 (ix3 0 i r) = x3 (ix3 0 i ⟨1280 + (r : ℕ), by omega⟩) := by
  pointwise <;> rfl

theorem read_q6 (r : Fin 256) (d : Fin 128) : View.ld (Val := Elt Ideal) (e' := .f32) x0 r0_21 (ix2 r d) = x0 (ix2 ⟨1536 + (r : ℕ), by omega⟩ d) := by
  pointwise <;> rfl

theorem read_b6 (i : Fin 32) (r : Fin 256) : View.ld (Val := Elt Ideal) (e' := .f32) x3 r0_22 (ix3 0 i r) = x3 (ix3 0 i ⟨1536 + (r : ℕ), by omega⟩) := by
  pointwise <;> rfl

theorem read_q7 (r : Fin 256) (d : Fin 128) : View.ld (Val := Elt Ideal) (e' := .f32) x0 r0_25 (ix2 r d) = x0 (ix2 ⟨1792 + (r : ℕ), by omega⟩ d) := by
  pointwise <;> rfl

theorem read_b7 (i : Fin 32) (r : Fin 256) : View.ld (Val := Elt Ideal) (e' := .f32) x3 r0_26 (ix3 0 i r) = x3 (ix3 0 i ⟨1792 + (r : ℕ), by omega⟩) := by
  pointwise <;> rfl

theorem tile0 (he : ∀ i l, x7 (ix2 i l) = if (l : ℕ) / 64 = (i : ℕ) then 1 else 0) (r : Fin 256) (d : Fin 128) :
    mixed (F := Ideal) (gates (View.ld (Val := Elt Ideal) (e' := .f32) x0 r0_3) (View.ld (Val := Elt Ideal) (e' := .f32) x5 r0_0) (View.ld (Val := Elt Ideal) (e' := .f32) x6 r0_1)) (View.ld (Val := Elt Ideal) (e' := .f32) x4 r0_3)
      [times (mulf (mulf (weights (View.ld (Val := Elt Ideal) (e' := .f32) x0 r0_3) (View.ld (Val := Elt Ideal) (e' := .bf16) x1 r0_5)) (causal 0#32 0#32)) (kept (View.ld (Val := Elt Ideal) (e' := .bf16) x7 r0_2) (View.ld (Val := Elt Ideal) (e' := .f32) x3 r0_4) 0 slices_S32x256_o0_0_S8x256)) (View.ld (Val := Elt Ideal) (e' := .bf16) x2 r0_6)]
      [times (mulf (weights (View.ld (Val := Elt Ideal) (e' := .f32) x0 r0_3) (View.ld (Val := Elt Ideal) (e' := .bf16) x1 r0_5)) (causal 0#32 0#32)) (View.ld (Val := Elt Ideal) (e' := .bf16) x2 r0_6)] (ix2 r d)
      = outAt x0 x1 x2 x3 x4 x5 x6 ⟨0 + (r : ℕ), by omega⟩ d := by
  have he' : ∀ (i : Fin 8) (l : Fin 512), View.ld (Val := Elt Ideal) (e' := .bf16) x7 r0_2 (ix2 i l) = if (l : ℕ) / 64 = (i : ℕ) then 1 else 0 := fun i l => (read_e x7 i l).trans (he i l)
  refine mixed_eq x0 x1 x2 x3 x4 x5 x6 _ r d _ _ _ _ (fun c => ?_) (fun c => ?_)
    (gates_eq x0 x5 x6 _ _ _ _ r (read_q0 x0 r) (read_wg x5) (read_bg x6)) (read_q0 x4 r d)
  · rw [sum_parts]
    simp only [List.map_cons, List.map_nil, List.sum_cons, List.sum_nil]
    rw [sel_last x0 x1 x2 x3 ⟨0 + (r : ℕ), by omega⟩ 0 c _ _ _ _ _ r (read_q0 x0 r) (read_k0 x1) (fun l => read_v0 x2 l c) (fun b => read_b0 x3 b r) he' _ _ (by norm_num) 0 0 rfl (by norm_num)]
    rw [sel_after x0 x1 x2 x3 ⟨0 + (r : ℕ), by omega⟩ 1 c (by simp <;> omega)]
    rw [sel_after x0 x1 x2 x3 ⟨0 + (r : ℕ), by omega⟩ 2 c (by simp <;> omega)]
    rw [sel_after x0 x1 x2 x3 ⟨0 + (r : ℕ), by omega⟩ 3 c (by simp <;> omega)]
    simp only [add_zero, zero_add, add_assoc]
  · rw [sum_parts]
    simp only [List.map_cons, List.map_nil, List.sum_cons, List.sum_nil]
    rw [win_last x0 x1 x2 ⟨0 + (r : ℕ), by omega⟩ 0 c _ _ _ r (read_q0 x0 r) (read_k0 x1) (fun l => read_v0 x2 l c) 0 0 rfl (by norm_num) (by simp <;> omega)]
    rw [win_after x0 x1 x2 ⟨0 + (r : ℕ), by omega⟩ 1 c (by simp <;> omega)]
    rw [win_after x0 x1 x2 ⟨0 + (r : ℕ), by omega⟩ 2 c (by simp <;> omega)]
    rw [win_after x0 x1 x2 ⟨0 + (r : ℕ), by omega⟩ 3 c (by simp <;> omega)]
    simp only [add_zero, zero_add, add_assoc]

theorem tile1 (he : ∀ i l, x7 (ix2 i l) = if (l : ℕ) / 64 = (i : ℕ) then 1 else 0) (r : Fin 256) (d : Fin 128) :
    mixed (F := Ideal) (gates (View.ld (Val := Elt Ideal) (e' := .f32) x0 r0_7) (View.ld (Val := Elt Ideal) (e' := .f32) x5 r0_0) (View.ld (Val := Elt Ideal) (e' := .f32) x6 r0_1)) (View.ld (Val := Elt Ideal) (e' := .f32) x4 r0_7)
      [times (mulf (mulf (weights (View.ld (Val := Elt Ideal) (e' := .f32) x0 r0_7) (View.ld (Val := Elt Ideal) (e' := .bf16) x1 r0_5)) (causal 256#32 0#32)) (kept (View.ld (Val := Elt Ideal) (e' := .bf16) x7 r0_2) (View.ld (Val := Elt Ideal) (e' := .f32) x3 r0_8) 0 slices_S32x256_o0_0_S8x256)) (View.ld (Val := Elt Ideal) (e' := .bf16) x2 r0_6)]
      [times (mulf (weights (View.ld (Val := Elt Ideal) (e' := .f32) x0 r0_7) (View.ld (Val := Elt Ideal) (e' := .bf16) x1 r0_5)) (causal 256#32 0#32)) (View.ld (Val := Elt Ideal) (e' := .bf16) x2 r0_6)] (ix2 r d)
      = outAt x0 x1 x2 x3 x4 x5 x6 ⟨256 + (r : ℕ), by omega⟩ d := by
  have he' : ∀ (i : Fin 8) (l : Fin 512), View.ld (Val := Elt Ideal) (e' := .bf16) x7 r0_2 (ix2 i l) = if (l : ℕ) / 64 = (i : ℕ) then 1 else 0 := fun i l => (read_e x7 i l).trans (he i l)
  refine mixed_eq x0 x1 x2 x3 x4 x5 x6 _ r d _ _ _ _ (fun c => ?_) (fun c => ?_)
    (gates_eq x0 x5 x6 _ _ _ _ r (read_q1 x0 r) (read_wg x5) (read_bg x6)) (read_q1 x4 r d)
  · rw [sum_parts]
    simp only [List.map_cons, List.map_nil, List.sum_cons, List.sum_nil]
    rw [sel_last x0 x1 x2 x3 ⟨256 + (r : ℕ), by omega⟩ 0 c _ _ _ _ _ r (read_q1 x0 r) (read_k0 x1) (fun l => read_v0 x2 l c) (fun b => read_b1 x3 b r) he' _ _ (by norm_num) 256 0 rfl (by norm_num)]
    rw [sel_after x0 x1 x2 x3 ⟨256 + (r : ℕ), by omega⟩ 1 c (by simp <;> omega)]
    rw [sel_after x0 x1 x2 x3 ⟨256 + (r : ℕ), by omega⟩ 2 c (by simp <;> omega)]
    rw [sel_after x0 x1 x2 x3 ⟨256 + (r : ℕ), by omega⟩ 3 c (by simp <;> omega)]
    simp only [add_zero, zero_add, add_assoc]
  · rw [sum_parts]
    simp only [List.map_cons, List.map_nil, List.sum_cons, List.sum_nil]
    rw [win_last x0 x1 x2 ⟨256 + (r : ℕ), by omega⟩ 0 c _ _ _ r (read_q1 x0 r) (read_k0 x1) (fun l => read_v0 x2 l c) 256 0 rfl (by norm_num) (by simp <;> omega)]
    rw [win_after x0 x1 x2 ⟨256 + (r : ℕ), by omega⟩ 1 c (by simp <;> omega)]
    rw [win_after x0 x1 x2 ⟨256 + (r : ℕ), by omega⟩ 2 c (by simp <;> omega)]
    rw [win_after x0 x1 x2 ⟨256 + (r : ℕ), by omega⟩ 3 c (by simp <;> omega)]
    simp only [add_zero, zero_add, add_assoc]

theorem tile2 (he : ∀ i l, x7 (ix2 i l) = if (l : ℕ) / 64 = (i : ℕ) then 1 else 0) (r : Fin 256) (d : Fin 128) :
    mixed (F := Ideal) (gates (View.ld (Val := Elt Ideal) (e' := .f32) x0 r0_9) (View.ld (Val := Elt Ideal) (e' := .f32) x5 r0_0) (View.ld (Val := Elt Ideal) (e' := .f32) x6 r0_1)) (View.ld (Val := Elt Ideal) (e' := .f32) x4 r0_9)
      [times (mulf (weights (View.ld (Val := Elt Ideal) (e' := .f32) x0 r0_9) (View.ld (Val := Elt Ideal) (e' := .bf16) x1 r0_5)) (kept (View.ld (Val := Elt Ideal) (e' := .bf16) x7 r0_2) (View.ld (Val := Elt Ideal) (e' := .f32) x3 r0_10) 0 slices_S32x256_o0_0_S8x256)) (View.ld (Val := Elt Ideal) (e' := .bf16) x2 r0_6),
       times (mulf (mulf (weights (View.ld (Val := Elt Ideal) (e' := .f32) x0 r0_9) (View.ld (Val := Elt Ideal) (e' := .bf16) x1 r0_11)) (causal 512#32 512#32)) (kept (View.ld (Val := Elt Ideal) (e' := .bf16) x7 r0_2) (View.ld (Val := Elt Ideal) (e' := .f32) x3 r0_10) 8 slices_S32x256_o8_0_S8x256)) (View.ld (Val := Elt Ideal) (e' := .bf16) x2 r0_12)]
      [times (mulf (weights (View.ld (Val := Elt Ideal) (e' := .f32) x0 r0_9) (View.ld (Val := Elt Ideal) (e' := .bf16) x1 r0_5)) (window 512#32 0#32)) (View.ld (Val := Elt Ideal) (e' := .bf16) x2 r0_6),
       times (mulf (weights (View.ld (Val := Elt Ideal) (e' := .f32) x0 r0_9) (View.ld (Val := Elt Ideal) (e' := .bf16) x1 r0_11)) (causal 512#32 512#32)) (View.ld (Val := Elt Ideal) (e' := .bf16) x2 r0_12)] (ix2 r d)
      = outAt x0 x1 x2 x3 x4 x5 x6 ⟨512 + (r : ℕ), by omega⟩ d := by
  have he' : ∀ (i : Fin 8) (l : Fin 512), View.ld (Val := Elt Ideal) (e' := .bf16) x7 r0_2 (ix2 i l) = if (l : ℕ) / 64 = (i : ℕ) then 1 else 0 := fun i l => (read_e x7 i l).trans (he i l)
  refine mixed_eq x0 x1 x2 x3 x4 x5 x6 _ r d _ _ _ _ (fun c => ?_) (fun c => ?_)
    (gates_eq x0 x5 x6 _ _ _ _ r (read_q2 x0 r) (read_wg x5) (read_bg x6)) (read_q2 x4 r d)
  · rw [sum_parts]
    simp only [List.map_cons, List.map_nil, List.sum_cons, List.sum_nil]
    rw [sel_full x0 x1 x2 x3 ⟨512 + (r : ℕ), by omega⟩ 0 c _ _ _ _ _ r (read_q2 x0 r) (read_k0 x1) (fun l => read_v0 x2 l c) (fun b => read_b2 x3 b r) he' _ _ (by norm_num) (by simp <;> omega)]
    rw [sel_last x0 x1 x2 x3 ⟨512 + (r : ℕ), by omega⟩ 1 c _ _ _ _ _ r (read_q2 x0 r) (read_k1 x1) (fun l => read_v1 x2 l c) (fun b => read_b2 x3 b r) he' _ _ (by norm_num) 512 512 rfl (by norm_num)]
    rw [sel_after x0 x1 x2 x3 ⟨512 + (r : ℕ), by omega⟩ 2 c (by simp <;> omega)]
    rw [sel_after x0 x1 x2 x3 ⟨512 + (r : ℕ), by omega⟩ 3 c (by simp <;> omega)]
    simp only [add_zero, zero_add, add_assoc]
  · rw [sum_parts]
    simp only [List.map_cons, List.map_nil, List.sum_cons, List.sum_nil]
    rw [win_first x0 x1 x2 ⟨512 + (r : ℕ), by omega⟩ 0 c _ _ _ r (read_q2 x0 r) (read_k0 x1) (fun l => read_v0 x2 l c) 512 0 rfl (by norm_num) (by norm_num) (by simp <;> omega)]
    rw [win_last x0 x1 x2 ⟨512 + (r : ℕ), by omega⟩ 1 c _ _ _ r (read_q2 x0 r) (read_k1 x1) (fun l => read_v1 x2 l c) 512 512 rfl (by norm_num) (by simp <;> omega)]
    rw [win_after x0 x1 x2 ⟨512 + (r : ℕ), by omega⟩ 2 c (by simp <;> omega)]
    rw [win_after x0 x1 x2 ⟨512 + (r : ℕ), by omega⟩ 3 c (by simp <;> omega)]
    simp only [add_zero, zero_add, add_assoc]

theorem tile3 (he : ∀ i l, x7 (ix2 i l) = if (l : ℕ) / 64 = (i : ℕ) then 1 else 0) (r : Fin 256) (d : Fin 128) :
    mixed (F := Ideal) (gates (View.ld (Val := Elt Ideal) (e' := .f32) x0 r0_13) (View.ld (Val := Elt Ideal) (e' := .f32) x5 r0_0) (View.ld (Val := Elt Ideal) (e' := .f32) x6 r0_1)) (View.ld (Val := Elt Ideal) (e' := .f32) x4 r0_13)
      [times (mulf (weights (View.ld (Val := Elt Ideal) (e' := .f32) x0 r0_13) (View.ld (Val := Elt Ideal) (e' := .bf16) x1 r0_5)) (kept (View.ld (Val := Elt Ideal) (e' := .bf16) x7 r0_2) (View.ld (Val := Elt Ideal) (e' := .f32) x3 r0_14) 0 slices_S32x256_o0_0_S8x256)) (View.ld (Val := Elt Ideal) (e' := .bf16) x2 r0_6),
       times (mulf (mulf (weights (View.ld (Val := Elt Ideal) (e' := .f32) x0 r0_13) (View.ld (Val := Elt Ideal) (e' := .bf16) x1 r0_11)) (causal 768#32 512#32)) (kept (View.ld (Val := Elt Ideal) (e' := .bf16) x7 r0_2) (View.ld (Val := Elt Ideal) (e' := .f32) x3 r0_14) 8 slices_S32x256_o8_0_S8x256)) (View.ld (Val := Elt Ideal) (e' := .bf16) x2 r0_12)]
      [times (mulf (weights (View.ld (Val := Elt Ideal) (e' := .f32) x0 r0_13) (View.ld (Val := Elt Ideal) (e' := .bf16) x1 r0_5)) (window 768#32 0#32)) (View.ld (Val := Elt Ideal) (e' := .bf16) x2 r0_6),
       times (mulf (weights (View.ld (Val := Elt Ideal) (e' := .f32) x0 r0_13) (View.ld (Val := Elt Ideal) (e' := .bf16) x1 r0_11)) (causal 768#32 512#32)) (View.ld (Val := Elt Ideal) (e' := .bf16) x2 r0_12)] (ix2 r d)
      = outAt x0 x1 x2 x3 x4 x5 x6 ⟨768 + (r : ℕ), by omega⟩ d := by
  have he' : ∀ (i : Fin 8) (l : Fin 512), View.ld (Val := Elt Ideal) (e' := .bf16) x7 r0_2 (ix2 i l) = if (l : ℕ) / 64 = (i : ℕ) then 1 else 0 := fun i l => (read_e x7 i l).trans (he i l)
  refine mixed_eq x0 x1 x2 x3 x4 x5 x6 _ r d _ _ _ _ (fun c => ?_) (fun c => ?_)
    (gates_eq x0 x5 x6 _ _ _ _ r (read_q3 x0 r) (read_wg x5) (read_bg x6)) (read_q3 x4 r d)
  · rw [sum_parts]
    simp only [List.map_cons, List.map_nil, List.sum_cons, List.sum_nil]
    rw [sel_full x0 x1 x2 x3 ⟨768 + (r : ℕ), by omega⟩ 0 c _ _ _ _ _ r (read_q3 x0 r) (read_k0 x1) (fun l => read_v0 x2 l c) (fun b => read_b3 x3 b r) he' _ _ (by norm_num) (by simp <;> omega)]
    rw [sel_last x0 x1 x2 x3 ⟨768 + (r : ℕ), by omega⟩ 1 c _ _ _ _ _ r (read_q3 x0 r) (read_k1 x1) (fun l => read_v1 x2 l c) (fun b => read_b3 x3 b r) he' _ _ (by norm_num) 768 512 rfl (by norm_num)]
    rw [sel_after x0 x1 x2 x3 ⟨768 + (r : ℕ), by omega⟩ 2 c (by simp <;> omega)]
    rw [sel_after x0 x1 x2 x3 ⟨768 + (r : ℕ), by omega⟩ 3 c (by simp <;> omega)]
    simp only [add_zero, zero_add, add_assoc]
  · rw [sum_parts]
    simp only [List.map_cons, List.map_nil, List.sum_cons, List.sum_nil]
    rw [win_first x0 x1 x2 ⟨768 + (r : ℕ), by omega⟩ 0 c _ _ _ r (read_q3 x0 r) (read_k0 x1) (fun l => read_v0 x2 l c) 768 0 rfl (by norm_num) (by norm_num) (by simp <;> omega)]
    rw [win_last x0 x1 x2 ⟨768 + (r : ℕ), by omega⟩ 1 c _ _ _ r (read_q3 x0 r) (read_k1 x1) (fun l => read_v1 x2 l c) 768 512 rfl (by norm_num) (by simp <;> omega)]
    rw [win_after x0 x1 x2 ⟨768 + (r : ℕ), by omega⟩ 2 c (by simp <;> omega)]
    rw [win_after x0 x1 x2 ⟨768 + (r : ℕ), by omega⟩ 3 c (by simp <;> omega)]
    simp only [add_zero, zero_add, add_assoc]

theorem tile4 (he : ∀ i l, x7 (ix2 i l) = if (l : ℕ) / 64 = (i : ℕ) then 1 else 0) (r : Fin 256) (d : Fin 128) :
    mixed (F := Ideal) (gates (View.ld (Val := Elt Ideal) (e' := .f32) x0 r0_15) (View.ld (Val := Elt Ideal) (e' := .f32) x5 r0_0) (View.ld (Val := Elt Ideal) (e' := .f32) x6 r0_1)) (View.ld (Val := Elt Ideal) (e' := .f32) x4 r0_15)
      [times (mulf (weights (View.ld (Val := Elt Ideal) (e' := .f32) x0 r0_15) (View.ld (Val := Elt Ideal) (e' := .bf16) x1 r0_5)) (kept (View.ld (Val := Elt Ideal) (e' := .bf16) x7 r0_2) (View.ld (Val := Elt Ideal) (e' := .f32) x3 r0_16) 0 slices_S32x256_o0_0_S8x256)) (View.ld (Val := Elt Ideal) (e' := .bf16) x2 r0_6),
       times (mulf (weights (View.ld (Val := Elt Ideal) (e' := .f32) x0 r0_15) (View.ld (Val := Elt Ideal) (e' := .bf16) x1 r0_11)) (kept (View.ld (Val := Elt Ideal) (e' := .bf16) x7 r0_2) (View.ld (Val := Elt Ideal) (e' := .f32) x3 r0_16) 8 slices_S32x256_o8_0_S8x256)) (View.ld (Val := Elt Ideal) (e' := .bf16) x2 r0_12),
       times (mulf (mulf (weights (View.ld (Val := Elt Ideal) (e' := .f32) x0 r0_15) (View.ld (Val := Elt Ideal) (e' := .bf16) x1 r0_17)) (causal 1024#32 1024#32)) (kept (View.ld (Val := Elt Ideal) (e' := .bf16) x7 r0_2) (View.ld (Val := Elt Ideal) (e' := .f32) x3 r0_16) 16 slices_S32x256_o16_0_S8x256)) (View.ld (Val := Elt Ideal) (e' := .bf16) x2 r0_18)]
      [times (mulf (weights (View.ld (Val := Elt Ideal) (e' := .f32) x0 r0_15) (View.ld (Val := Elt Ideal) (e' := .bf16) x1 r0_11)) (window 1024#32 512#32)) (View.ld (Val := Elt Ideal) (e' := .bf16) x2 r0_12),
       times (mulf (weights (View.ld (Val := Elt Ideal) (e' := .f32) x0 r0_15) (View.ld (Val := Elt Ideal) (e' := .bf16) x1 r0_17)) (causal 1024#32 1024#32)) (View.ld (Val := Elt Ideal) (e' := .bf16) x2 r0_18)] (ix2 r d)
      = outAt x0 x1 x2 x3 x4 x5 x6 ⟨1024 + (r : ℕ), by omega⟩ d := by
  have he' : ∀ (i : Fin 8) (l : Fin 512), View.ld (Val := Elt Ideal) (e' := .bf16) x7 r0_2 (ix2 i l) = if (l : ℕ) / 64 = (i : ℕ) then 1 else 0 := fun i l => (read_e x7 i l).trans (he i l)
  refine mixed_eq x0 x1 x2 x3 x4 x5 x6 _ r d _ _ _ _ (fun c => ?_) (fun c => ?_)
    (gates_eq x0 x5 x6 _ _ _ _ r (read_q4 x0 r) (read_wg x5) (read_bg x6)) (read_q4 x4 r d)
  · rw [sum_parts]
    simp only [List.map_cons, List.map_nil, List.sum_cons, List.sum_nil]
    rw [sel_full x0 x1 x2 x3 ⟨1024 + (r : ℕ), by omega⟩ 0 c _ _ _ _ _ r (read_q4 x0 r) (read_k0 x1) (fun l => read_v0 x2 l c) (fun b => read_b4 x3 b r) he' _ _ (by norm_num) (by simp <;> omega)]
    rw [sel_full x0 x1 x2 x3 ⟨1024 + (r : ℕ), by omega⟩ 1 c _ _ _ _ _ r (read_q4 x0 r) (read_k1 x1) (fun l => read_v1 x2 l c) (fun b => read_b4 x3 b r) he' _ _ (by norm_num) (by simp <;> omega)]
    rw [sel_last x0 x1 x2 x3 ⟨1024 + (r : ℕ), by omega⟩ 2 c _ _ _ _ _ r (read_q4 x0 r) (read_k2 x1) (fun l => read_v2 x2 l c) (fun b => read_b4 x3 b r) he' _ _ (by norm_num) 1024 1024 rfl (by norm_num)]
    rw [sel_after x0 x1 x2 x3 ⟨1024 + (r : ℕ), by omega⟩ 3 c (by simp <;> omega)]
    simp only [add_zero, zero_add, add_assoc]
  · rw [sum_parts]
    simp only [List.map_cons, List.map_nil, List.sum_cons, List.sum_nil]
    rw [win_before x0 x1 x2 ⟨1024 + (r : ℕ), by omega⟩ 0 c (by simp <;> omega)]
    rw [win_first x0 x1 x2 ⟨1024 + (r : ℕ), by omega⟩ 1 c _ _ _ r (read_q4 x0 r) (read_k1 x1) (fun l => read_v1 x2 l c) 1024 512 rfl (by norm_num) (by norm_num) (by simp <;> omega)]
    rw [win_last x0 x1 x2 ⟨1024 + (r : ℕ), by omega⟩ 2 c _ _ _ r (read_q4 x0 r) (read_k2 x1) (fun l => read_v2 x2 l c) 1024 1024 rfl (by norm_num) (by simp <;> omega)]
    rw [win_after x0 x1 x2 ⟨1024 + (r : ℕ), by omega⟩ 3 c (by simp <;> omega)]
    simp only [add_zero, zero_add, add_assoc]

theorem tile5 (he : ∀ i l, x7 (ix2 i l) = if (l : ℕ) / 64 = (i : ℕ) then 1 else 0) (r : Fin 256) (d : Fin 128) :
    mixed (F := Ideal) (gates (View.ld (Val := Elt Ideal) (e' := .f32) x0 r0_19) (View.ld (Val := Elt Ideal) (e' := .f32) x5 r0_0) (View.ld (Val := Elt Ideal) (e' := .f32) x6 r0_1)) (View.ld (Val := Elt Ideal) (e' := .f32) x4 r0_19)
      [times (mulf (weights (View.ld (Val := Elt Ideal) (e' := .f32) x0 r0_19) (View.ld (Val := Elt Ideal) (e' := .bf16) x1 r0_5)) (kept (View.ld (Val := Elt Ideal) (e' := .bf16) x7 r0_2) (View.ld (Val := Elt Ideal) (e' := .f32) x3 r0_20) 0 slices_S32x256_o0_0_S8x256)) (View.ld (Val := Elt Ideal) (e' := .bf16) x2 r0_6),
       times (mulf (weights (View.ld (Val := Elt Ideal) (e' := .f32) x0 r0_19) (View.ld (Val := Elt Ideal) (e' := .bf16) x1 r0_11)) (kept (View.ld (Val := Elt Ideal) (e' := .bf16) x7 r0_2) (View.ld (Val := Elt Ideal) (e' := .f32) x3 r0_20) 8 slices_S32x256_o8_0_S8x256)) (View.ld (Val := Elt Ideal) (e' := .bf16) x2 r0_12),
       times (mulf (mulf (weights (View.ld (Val := Elt Ideal) (e' := .f32) x0 r0_19) (View.ld (Val := Elt Ideal) (e' := .bf16) x1 r0_17)) (causal 1280#32 1024#32)) (kept (View.ld (Val := Elt Ideal) (e' := .bf16) x7 r0_2) (View.ld (Val := Elt Ideal) (e' := .f32) x3 r0_20) 16 slices_S32x256_o16_0_S8x256)) (View.ld (Val := Elt Ideal) (e' := .bf16) x2 r0_18)]
      [times (mulf (weights (View.ld (Val := Elt Ideal) (e' := .f32) x0 r0_19) (View.ld (Val := Elt Ideal) (e' := .bf16) x1 r0_11)) (window 1280#32 512#32)) (View.ld (Val := Elt Ideal) (e' := .bf16) x2 r0_12),
       times (mulf (weights (View.ld (Val := Elt Ideal) (e' := .f32) x0 r0_19) (View.ld (Val := Elt Ideal) (e' := .bf16) x1 r0_17)) (causal 1280#32 1024#32)) (View.ld (Val := Elt Ideal) (e' := .bf16) x2 r0_18)] (ix2 r d)
      = outAt x0 x1 x2 x3 x4 x5 x6 ⟨1280 + (r : ℕ), by omega⟩ d := by
  have he' : ∀ (i : Fin 8) (l : Fin 512), View.ld (Val := Elt Ideal) (e' := .bf16) x7 r0_2 (ix2 i l) = if (l : ℕ) / 64 = (i : ℕ) then 1 else 0 := fun i l => (read_e x7 i l).trans (he i l)
  refine mixed_eq x0 x1 x2 x3 x4 x5 x6 _ r d _ _ _ _ (fun c => ?_) (fun c => ?_)
    (gates_eq x0 x5 x6 _ _ _ _ r (read_q5 x0 r) (read_wg x5) (read_bg x6)) (read_q5 x4 r d)
  · rw [sum_parts]
    simp only [List.map_cons, List.map_nil, List.sum_cons, List.sum_nil]
    rw [sel_full x0 x1 x2 x3 ⟨1280 + (r : ℕ), by omega⟩ 0 c _ _ _ _ _ r (read_q5 x0 r) (read_k0 x1) (fun l => read_v0 x2 l c) (fun b => read_b5 x3 b r) he' _ _ (by norm_num) (by simp <;> omega)]
    rw [sel_full x0 x1 x2 x3 ⟨1280 + (r : ℕ), by omega⟩ 1 c _ _ _ _ _ r (read_q5 x0 r) (read_k1 x1) (fun l => read_v1 x2 l c) (fun b => read_b5 x3 b r) he' _ _ (by norm_num) (by simp <;> omega)]
    rw [sel_last x0 x1 x2 x3 ⟨1280 + (r : ℕ), by omega⟩ 2 c _ _ _ _ _ r (read_q5 x0 r) (read_k2 x1) (fun l => read_v2 x2 l c) (fun b => read_b5 x3 b r) he' _ _ (by norm_num) 1280 1024 rfl (by norm_num)]
    rw [sel_after x0 x1 x2 x3 ⟨1280 + (r : ℕ), by omega⟩ 3 c (by simp <;> omega)]
    simp only [add_zero, zero_add, add_assoc]
  · rw [sum_parts]
    simp only [List.map_cons, List.map_nil, List.sum_cons, List.sum_nil]
    rw [win_before x0 x1 x2 ⟨1280 + (r : ℕ), by omega⟩ 0 c (by simp <;> omega)]
    rw [win_first x0 x1 x2 ⟨1280 + (r : ℕ), by omega⟩ 1 c _ _ _ r (read_q5 x0 r) (read_k1 x1) (fun l => read_v1 x2 l c) 1280 512 rfl (by norm_num) (by norm_num) (by simp <;> omega)]
    rw [win_last x0 x1 x2 ⟨1280 + (r : ℕ), by omega⟩ 2 c _ _ _ r (read_q5 x0 r) (read_k2 x1) (fun l => read_v2 x2 l c) 1280 1024 rfl (by norm_num) (by simp <;> omega)]
    rw [win_after x0 x1 x2 ⟨1280 + (r : ℕ), by omega⟩ 3 c (by simp <;> omega)]
    simp only [add_zero, zero_add, add_assoc]

theorem tile6 (he : ∀ i l, x7 (ix2 i l) = if (l : ℕ) / 64 = (i : ℕ) then 1 else 0) (r : Fin 256) (d : Fin 128) :
    mixed (F := Ideal) (gates (View.ld (Val := Elt Ideal) (e' := .f32) x0 r0_21) (View.ld (Val := Elt Ideal) (e' := .f32) x5 r0_0) (View.ld (Val := Elt Ideal) (e' := .f32) x6 r0_1)) (View.ld (Val := Elt Ideal) (e' := .f32) x4 r0_21)
      [times (mulf (weights (View.ld (Val := Elt Ideal) (e' := .f32) x0 r0_21) (View.ld (Val := Elt Ideal) (e' := .bf16) x1 r0_5)) (kept (View.ld (Val := Elt Ideal) (e' := .bf16) x7 r0_2) (View.ld (Val := Elt Ideal) (e' := .f32) x3 r0_22) 0 slices_S32x256_o0_0_S8x256)) (View.ld (Val := Elt Ideal) (e' := .bf16) x2 r0_6),
       times (mulf (weights (View.ld (Val := Elt Ideal) (e' := .f32) x0 r0_21) (View.ld (Val := Elt Ideal) (e' := .bf16) x1 r0_11)) (kept (View.ld (Val := Elt Ideal) (e' := .bf16) x7 r0_2) (View.ld (Val := Elt Ideal) (e' := .f32) x3 r0_22) 8 slices_S32x256_o8_0_S8x256)) (View.ld (Val := Elt Ideal) (e' := .bf16) x2 r0_12),
       times (mulf (weights (View.ld (Val := Elt Ideal) (e' := .f32) x0 r0_21) (View.ld (Val := Elt Ideal) (e' := .bf16) x1 r0_17)) (kept (View.ld (Val := Elt Ideal) (e' := .bf16) x7 r0_2) (View.ld (Val := Elt Ideal) (e' := .f32) x3 r0_22) 16 slices_S32x256_o16_0_S8x256)) (View.ld (Val := Elt Ideal) (e' := .bf16) x2 r0_18),
       times (mulf (mulf (weights (View.ld (Val := Elt Ideal) (e' := .f32) x0 r0_21) (View.ld (Val := Elt Ideal) (e' := .bf16) x1 r0_23)) (causal 1536#32 1536#32)) (kept (View.ld (Val := Elt Ideal) (e' := .bf16) x7 r0_2) (View.ld (Val := Elt Ideal) (e' := .f32) x3 r0_22) 24 slices_S32x256_o24_0_S8x256)) (View.ld (Val := Elt Ideal) (e' := .bf16) x2 r0_24)]
      [times (mulf (weights (View.ld (Val := Elt Ideal) (e' := .f32) x0 r0_21) (View.ld (Val := Elt Ideal) (e' := .bf16) x1 r0_17)) (window 1536#32 1024#32)) (View.ld (Val := Elt Ideal) (e' := .bf16) x2 r0_18),
       times (mulf (weights (View.ld (Val := Elt Ideal) (e' := .f32) x0 r0_21) (View.ld (Val := Elt Ideal) (e' := .bf16) x1 r0_23)) (causal 1536#32 1536#32)) (View.ld (Val := Elt Ideal) (e' := .bf16) x2 r0_24)] (ix2 r d)
      = outAt x0 x1 x2 x3 x4 x5 x6 ⟨1536 + (r : ℕ), by omega⟩ d := by
  have he' : ∀ (i : Fin 8) (l : Fin 512), View.ld (Val := Elt Ideal) (e' := .bf16) x7 r0_2 (ix2 i l) = if (l : ℕ) / 64 = (i : ℕ) then 1 else 0 := fun i l => (read_e x7 i l).trans (he i l)
  refine mixed_eq x0 x1 x2 x3 x4 x5 x6 _ r d _ _ _ _ (fun c => ?_) (fun c => ?_)
    (gates_eq x0 x5 x6 _ _ _ _ r (read_q6 x0 r) (read_wg x5) (read_bg x6)) (read_q6 x4 r d)
  · rw [sum_parts]
    simp only [List.map_cons, List.map_nil, List.sum_cons, List.sum_nil]
    rw [sel_full x0 x1 x2 x3 ⟨1536 + (r : ℕ), by omega⟩ 0 c _ _ _ _ _ r (read_q6 x0 r) (read_k0 x1) (fun l => read_v0 x2 l c) (fun b => read_b6 x3 b r) he' _ _ (by norm_num) (by simp <;> omega)]
    rw [sel_full x0 x1 x2 x3 ⟨1536 + (r : ℕ), by omega⟩ 1 c _ _ _ _ _ r (read_q6 x0 r) (read_k1 x1) (fun l => read_v1 x2 l c) (fun b => read_b6 x3 b r) he' _ _ (by norm_num) (by simp <;> omega)]
    rw [sel_full x0 x1 x2 x3 ⟨1536 + (r : ℕ), by omega⟩ 2 c _ _ _ _ _ r (read_q6 x0 r) (read_k2 x1) (fun l => read_v2 x2 l c) (fun b => read_b6 x3 b r) he' _ _ (by norm_num) (by simp <;> omega)]
    rw [sel_last x0 x1 x2 x3 ⟨1536 + (r : ℕ), by omega⟩ 3 c _ _ _ _ _ r (read_q6 x0 r) (read_k3 x1) (fun l => read_v3 x2 l c) (fun b => read_b6 x3 b r) he' _ _ (by norm_num) 1536 1536 rfl (by norm_num)]
    simp only [add_zero, zero_add, add_assoc]
  · rw [sum_parts]
    simp only [List.map_cons, List.map_nil, List.sum_cons, List.sum_nil]
    rw [win_before x0 x1 x2 ⟨1536 + (r : ℕ), by omega⟩ 0 c (by simp <;> omega)]
    rw [win_before x0 x1 x2 ⟨1536 + (r : ℕ), by omega⟩ 1 c (by simp <;> omega)]
    rw [win_first x0 x1 x2 ⟨1536 + (r : ℕ), by omega⟩ 2 c _ _ _ r (read_q6 x0 r) (read_k2 x1) (fun l => read_v2 x2 l c) 1536 1024 rfl (by norm_num) (by norm_num) (by simp <;> omega)]
    rw [win_last x0 x1 x2 ⟨1536 + (r : ℕ), by omega⟩ 3 c _ _ _ r (read_q6 x0 r) (read_k3 x1) (fun l => read_v3 x2 l c) 1536 1536 rfl (by norm_num) (by simp <;> omega)]
    simp only [add_zero, zero_add, add_assoc]

theorem tile7 (he : ∀ i l, x7 (ix2 i l) = if (l : ℕ) / 64 = (i : ℕ) then 1 else 0) (r : Fin 256) (d : Fin 128) :
    mixed (F := Ideal) (gates (View.ld (Val := Elt Ideal) (e' := .f32) x0 r0_25) (View.ld (Val := Elt Ideal) (e' := .f32) x5 r0_0) (View.ld (Val := Elt Ideal) (e' := .f32) x6 r0_1)) (View.ld (Val := Elt Ideal) (e' := .f32) x4 r0_25)
      [times (mulf (weights (View.ld (Val := Elt Ideal) (e' := .f32) x0 r0_25) (View.ld (Val := Elt Ideal) (e' := .bf16) x1 r0_5)) (kept (View.ld (Val := Elt Ideal) (e' := .bf16) x7 r0_2) (View.ld (Val := Elt Ideal) (e' := .f32) x3 r0_26) 0 slices_S32x256_o0_0_S8x256)) (View.ld (Val := Elt Ideal) (e' := .bf16) x2 r0_6),
       times (mulf (weights (View.ld (Val := Elt Ideal) (e' := .f32) x0 r0_25) (View.ld (Val := Elt Ideal) (e' := .bf16) x1 r0_11)) (kept (View.ld (Val := Elt Ideal) (e' := .bf16) x7 r0_2) (View.ld (Val := Elt Ideal) (e' := .f32) x3 r0_26) 8 slices_S32x256_o8_0_S8x256)) (View.ld (Val := Elt Ideal) (e' := .bf16) x2 r0_12),
       times (mulf (weights (View.ld (Val := Elt Ideal) (e' := .f32) x0 r0_25) (View.ld (Val := Elt Ideal) (e' := .bf16) x1 r0_17)) (kept (View.ld (Val := Elt Ideal) (e' := .bf16) x7 r0_2) (View.ld (Val := Elt Ideal) (e' := .f32) x3 r0_26) 16 slices_S32x256_o16_0_S8x256)) (View.ld (Val := Elt Ideal) (e' := .bf16) x2 r0_18),
       times (mulf (mulf (weights (View.ld (Val := Elt Ideal) (e' := .f32) x0 r0_25) (View.ld (Val := Elt Ideal) (e' := .bf16) x1 r0_23)) (causal 1792#32 1536#32)) (kept (View.ld (Val := Elt Ideal) (e' := .bf16) x7 r0_2) (View.ld (Val := Elt Ideal) (e' := .f32) x3 r0_26) 24 slices_S32x256_o24_0_S8x256)) (View.ld (Val := Elt Ideal) (e' := .bf16) x2 r0_24)]
      [times (mulf (weights (View.ld (Val := Elt Ideal) (e' := .f32) x0 r0_25) (View.ld (Val := Elt Ideal) (e' := .bf16) x1 r0_17)) (window 1792#32 1024#32)) (View.ld (Val := Elt Ideal) (e' := .bf16) x2 r0_18),
       times (mulf (weights (View.ld (Val := Elt Ideal) (e' := .f32) x0 r0_25) (View.ld (Val := Elt Ideal) (e' := .bf16) x1 r0_23)) (causal 1792#32 1536#32)) (View.ld (Val := Elt Ideal) (e' := .bf16) x2 r0_24)] (ix2 r d)
      = outAt x0 x1 x2 x3 x4 x5 x6 ⟨1792 + (r : ℕ), by omega⟩ d := by
  have he' : ∀ (i : Fin 8) (l : Fin 512), View.ld (Val := Elt Ideal) (e' := .bf16) x7 r0_2 (ix2 i l) = if (l : ℕ) / 64 = (i : ℕ) then 1 else 0 := fun i l => (read_e x7 i l).trans (he i l)
  refine mixed_eq x0 x1 x2 x3 x4 x5 x6 _ r d _ _ _ _ (fun c => ?_) (fun c => ?_)
    (gates_eq x0 x5 x6 _ _ _ _ r (read_q7 x0 r) (read_wg x5) (read_bg x6)) (read_q7 x4 r d)
  · rw [sum_parts]
    simp only [List.map_cons, List.map_nil, List.sum_cons, List.sum_nil]
    rw [sel_full x0 x1 x2 x3 ⟨1792 + (r : ℕ), by omega⟩ 0 c _ _ _ _ _ r (read_q7 x0 r) (read_k0 x1) (fun l => read_v0 x2 l c) (fun b => read_b7 x3 b r) he' _ _ (by norm_num) (by simp <;> omega)]
    rw [sel_full x0 x1 x2 x3 ⟨1792 + (r : ℕ), by omega⟩ 1 c _ _ _ _ _ r (read_q7 x0 r) (read_k1 x1) (fun l => read_v1 x2 l c) (fun b => read_b7 x3 b r) he' _ _ (by norm_num) (by simp <;> omega)]
    rw [sel_full x0 x1 x2 x3 ⟨1792 + (r : ℕ), by omega⟩ 2 c _ _ _ _ _ r (read_q7 x0 r) (read_k2 x1) (fun l => read_v2 x2 l c) (fun b => read_b7 x3 b r) he' _ _ (by norm_num) (by simp <;> omega)]
    rw [sel_last x0 x1 x2 x3 ⟨1792 + (r : ℕ), by omega⟩ 3 c _ _ _ _ _ r (read_q7 x0 r) (read_k3 x1) (fun l => read_v3 x2 l c) (fun b => read_b7 x3 b r) he' _ _ (by norm_num) 1792 1536 rfl (by norm_num)]
    simp only [add_zero, zero_add, add_assoc]
  · rw [sum_parts]
    simp only [List.map_cons, List.map_nil, List.sum_cons, List.sum_nil]
    rw [win_before x0 x1 x2 ⟨1792 + (r : ℕ), by omega⟩ 0 c (by simp <;> omega)]
    rw [win_before x0 x1 x2 ⟨1792 + (r : ℕ), by omega⟩ 1 c (by simp <;> omega)]
    rw [win_first x0 x1 x2 ⟨1792 + (r : ℕ), by omega⟩ 2 c _ _ _ r (read_q7 x0 r) (read_k2 x1) (fun l => read_v2 x2 l c) 1792 1024 rfl (by norm_num) (by norm_num) (by simp <;> omega)]
    rw [win_last x0 x1 x2 ⟨1792 + (r : ℕ), by omega⟩ 3 c _ _ _ r (read_q7 x0 r) (read_k3 x1) (fun l => read_v3 x2 l c) 1792 1536 rfl (by norm_num) (by simp <;> omega)]
    simp only [add_zero, zero_add, add_assoc]

end

end Cert.KernelIdeal.Main

end
-- ==== Proof.Main.Whole.lean ====
/- The block that one grid point stores, read at an entry. -/
module

public import proofs.«01_k».proof.Proof.Main.Tiles
public import Idealize.ShloMosaic.Lib.Pipeline.ValueKit

@[expose] public section

set_option maxRecDepth 16384

noncomputable section

namespace Cert.KernelIdeal.Main

open Idealize.ShloMosaic Idealize.ShloMosaic.TcCoe Idealize.SL.Sem
open Cert.KernelIdeal Cert.KernelIdeal.Gen

set_option maxHeartbeats 1600000 in
theorem out_at (a0 : FVec Ideal S2048x128 .f32) (a1 : FVec Ideal S2048x128 .bf16) (a2 : FVec Ideal S2048x256 .bf16)
    (a3 : FVec Ideal S1x32x2048 .f32) (a4 : FVec Ideal S2048x128 .f32) (a5 : FVec Ideal S128x8 .f32)
    (a6 : FVec Ideal S1x8 .f32) (a7 : FVec Ideal S8x512 .bf16)
    (he : ∀ i l, a7 (ix2 i l) = if (l : ℕ) / 64 = (i : ℕ) then 1 else 0) (y : S2048x128.Idx) :
    out0_8 (F := Ideal) a0 a1 a2 a3 a4 a5 a6 a7 y = outAt a0 a1 a2 a3 a4 a5 a6 (y 0) (y 1) := by
  canon_tiles x h
  case piece0 =>
    idx_vars x
    refine (congrFun (piece7 (F := Ideal) a0 a1 a2 a3 a4 a5 a6 a7) _).trans ?_
    refine (tile7 a0 a1 a2 a3 a4 a5 a6 a7 he _ _).trans ?_
    exact congrArg₂ (outAt a0 a1 a2 a3 a4 a5 a6) (Fin.ext (by simpa using h0.symm)) (Fin.ext (by simpa using h1.symm))
  case piece1 =>
    idx_vars x
    refine (congrFun (piece6 (F := Ideal) a0 a1 a2 a3 a4 a5 a6 a7) _).trans ?_
    refine (tile6 a0 a1 a2 a3 a4 a5 a6 a7 he _ _).trans ?_
    exact congrArg₂ (outAt a0 a1 a2 a3 a4 a5 a6) (Fin.ext (by simpa using h0.symm)) (Fin.ext (by simpa using h1.symm))
  case piece2 =>
    idx_vars x
    refine (congrFun (piece5 (F := Ideal) a0 a1 a2 a3 a4 a5 a6 a7) _).trans ?_
    refine (tile5 a0 a1 a2 a3 a4 a5 a6 a7 he _ _).trans ?_
    exact congrArg₂ (outAt a0 a1 a2 a3 a4 a5 a6) (Fin.ext (by simpa using h0.symm)) (Fin.ext (by simpa using h1.symm))
  case piece3 =>
    idx_vars x
    refine (congrFun (piece4 (F := Ideal) a0 a1 a2 a3 a4 a5 a6 a7) _).trans ?_
    refine (tile4 a0 a1 a2 a3 a4 a5 a6 a7 he _ _).trans ?_
    exact congrArg₂ (outAt a0 a1 a2 a3 a4 a5 a6) (Fin.ext (by simpa using h0.symm)) (Fin.ext (by simpa using h1.symm))
  case piece4 =>
    idx_vars x
    refine (congrFun (piece3 (F := Ideal) a0 a1 a2 a3 a4 a5 a6 a7) _).trans ?_
    refine (tile3 a0 a1 a2 a3 a4 a5 a6 a7 he _ _).trans ?_
    exact congrArg₂ (outAt a0 a1 a2 a3 a4 a5 a6) (Fin.ext (by simpa using h0.symm)) (Fin.ext (by simpa using h1.symm))
  case piece5 =>
    idx_vars x
    refine (congrFun (piece2 (F := Ideal) a0 a1 a2 a3 a4 a5 a6 a7) _).trans ?_
    refine (tile2 a0 a1 a2 a3 a4 a5 a6 a7 he _ _).trans ?_
    exact congrArg₂ (outAt a0 a1 a2 a3 a4 a5 a6) (Fin.ext (by simpa using h0.symm)) (Fin.ext (by simpa using h1.symm))
  case piece6 =>
    idx_vars x
    refine (congrFun (piece1 (F := Ideal) a0 a1 a2 a3 a4 a5 a6 a7) _).trans ?_
    refine (tile1 a0 a1 a2 a3 a4 a5 a6 a7 he _ _).trans ?_
    exact congrArg₂ (outAt a0 a1 a2 a3 a4 a5 a6) (Fin.ext (by simpa using h0.symm)) (Fin.ext (by simpa using h1.symm))
  case piece7 =>
    idx_vars x
    refine (congrFun (piece0 (F := Ideal) a0 a1 a2 a3 a4 a5 a6 a7) _).trans ?_
    refine (tile0 a0 a1 a2 a3 a4 a5 a6 a7 he _ _).trans ?_
    exact congrArg₂ (outAt a0 a1 a2 a3 a4 a5 a6) (Fin.ext (by simpa using h0.symm)) (Fin.ext (by simpa using h1.symm))

end Cert.KernelIdeal.Main

end
-- ==== Proof.Main.Operands.lean ====
/- What the main call's blocks hold: each grid point is one query head, and its blocks are the head's columns of the
   arguments (the padded gate weights and the block table are computed before the launch). -/
module

public import proofs.«01_k».proof.Proof.Main.Whole
public import proofs.«01_k».proof.Proof.Gen.KernelIdeal.Value
public import Idealize.ShloMosaic.Lib.IdealHost
public import Idealize.ShloMosaic.Lib.Routing.OpsSet
public import Idealize.ShloMosaic.Lib.Claim

@[expose] public section

set_option maxRecDepth 16384

noncomputable section

namespace Cert.KernelIdeal.Main

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The windows' block indices: point `t` is query head `t`, whose keys and values are head `t / 4`. -/
theorem idx : ∀ t : Fin cfg0.N, win0_0.index t = ![0, t.val] ∧ win0_1.index t = ![0, t.val / 4]
    ∧ win0_2.index t = ![0, t.val / 4] ∧ win0_3.index t = ![t.val / 4, 0, 0] ∧ win0_4.index t = ![0, t.val]
    ∧ win0_5.index t = ![0, 0] ∧ win0_6.index t = ![0, 0] ∧ win0_7.index t = ![0, 0] ∧ win0_8.index t = ![0, t.val]
    ∧ t.val < 16 :=
  (by decide +kernel : ∀ t : Fin grid0.N, _)

/-- Query head `a`. -/
def qh (Q : FVec Ideal S2048x16x128 .f32) (a : Fin 16) : FVec Ideal S2048x128 .f32 := fun i => Q (ix3 (i 0) a (i 1))

/-- The keys of query head `a`. -/
def kh (K : FVec Ideal S2048x512 .bf16) (a : Fin 16) : FVec Ideal S2048x128 .bf16 :=
  fun i => K (ix2 (i 0) ⟨(a : ℕ) / 4 * 128 + (i 1 : ℕ), by have : (i 1 : ℕ) < 128 := (i 1).isLt; omega⟩)

/-- The values and the ones column of query head `a`. -/
def vh (W : FVec Ideal S2048x1024 .bf16) (a : Fin 16) : FVec Ideal S2048x256 .bf16 :=
  fun i => W (ix2 (i 0) ⟨(a : ℕ) / 4 * 256 + (i 1 : ℕ), by have : (i 1 : ℕ) < 256 := (i 1).isLt; omega⟩)

/-- The block mask of query head `a`. -/
def bh (B : FVec Ideal S4x32x2048 .f32) (a : Fin 16) : FVec Ideal S1x32x2048 .f32 :=
  fun i => B (ix3 ⟨(a : ℕ) / 4, by omega⟩ (i 1) (i 2))

/-- The compressed branch of query head `a`. -/
def ch (C : FVec Ideal S2048x2048 .f32) (a : Fin 16) : FVec Ideal S2048x128 .f32 :=
  fun i => C (ix2 (i 0) ⟨(a : ℕ) * 128 + (i 1 : ℕ), by have : (i 1 : ℕ) < 128 := (i 1).isLt; omega⟩)

/-- The gate of branch `n` for query head `a`. -/
def gh (Q : FVec Ideal S2048x16x128 .f32) (Wg : FVec Ideal S128x3 .f32) (bg : FVec Ideal S3 .f32) (a : Fin 16)
    (R : Fin 2048) (n : Fin 3) : EReal := (∑ d : Fin 128, Q (ix3 R a d) * Wg (ix2 d n)) + bg (ix1 n)

/-- The result at row `R`, query head `a`, column `d`. -/
def res (Q : FVec Ideal S2048x16x128 .f32) (K : FVec Ideal S2048x512 .bf16) (W : FVec Ideal S2048x1024 .bf16)
    (B : FVec Ideal S4x32x2048 .f32) (C : FVec Ideal S2048x2048 .f32) (Wg : FVec Ideal S128x3 .f32) (bg : FVec Ideal S3 .f32)
    (R : Fin 2048) (a : Fin 16) (d : Fin 128) : EReal :=
  branch (wsel (qh Q a) (kh K a) (bh B a) R) (vh W a) (gh Q Wg bg a R 0) d
    + branch (wwin (qh Q a) (kh K a) R) (vh W a) (gh Q Wg bg a R 1) d + gh Q Wg bg a R 2 * ch C a (ix2 R d)

/-! ## What the operands hold at the launch -/

theorem v0_at (c : Dev nD) (R : Fin 2048) (a : Fin 16) (d : Fin 128) (j : Fin 2048) (hj : (j : ℕ) = (a : ℕ) * 128 + (d : ℕ)) :
    (V m c main_v0 : FVec Ideal S2048x2048 .f32) (ix2 R j) = (m ((c : Thread nD τ).loc main_arg0) : FVec Ideal S2048x16x128 .f32) (ix3 R a d) := by
  entry_read
  pointwise
  have e1 : (⟨(j : ℕ) / 128, by omega⟩ : Fin 16) = a := Fin.ext (by simp; omega)
  have e2 : (⟨(j : ℕ) % 128, by omega⟩ : Fin 128) = d := Fin.ext (by simp; omega)
  rw [e1, e2]

theorem start_zero {s si u : Shape} (D : ScatterDims s si u) (j : u.Idx) (I : IVec si 32) (h : ∀ i, I i = 0#32) (a : Fin s.rank) :
    D.start j I a = 0 := by
  unfold ScatterDims.start
  split
  · rw [h]; rfl
  · rfl

/-- An update whose start and window coordinates add up to `o` on every axis lands at `o`. -/
theorem lands_of {s si u : Shape} (D : ScatterDims s si u) (j : u.Idx) (I : IVec si 32) (o : s.Idx)
    (h : ∀ a, D.start j I a + D.window j a = ((o a).val : ℤ)) : D.resultIdx? j I = some o := by
  unfold ScatterDims.resultIdx?
  rw [dif_pos fun a => by rw [h a]; exact ⟨by omega, by exact_mod_cast (o a).isLt⟩]
  congr 1
  funext a
  apply Fin.ext
  show (D.start j I a + D.window j a).toNat = _
  rw [h a]
  rfl

/-- A three-column update starting at column 0 lands at its own place. -/
theorem lands_wg (I : IVec S1 32) (h : ∀ i, I i = 0#32) (j : S128x3.Idx) :
    scatter_S128x8_S1_S128x3_01_n_1_0.resultIdx? j I
      = some (ix2 (j 0) (Fin.castLE (by decide : 3 ≤ 8) (j 1)) : S128x8.Idx) := by
  have key : ∀ a : Fin 2, scatter_S128x8_S1_S128x3_01_n_1_0.start j I a + scatter_S128x8_S1_S128x3_01_n_1_0.window j a
      = ((ix2 (j 0) (Fin.castLE (by decide : 3 ≤ 8) (j 1)) : S128x8.Idx) a).val := by
    intro a
    rw [start_zero _ j I h, zero_add]
    fin_cases a
    · rfl
    · rfl
  exact lands_of _ j I _ key

/-- A row of three starting at entry (0, 0) lands at its own place. -/
theorem lands_bg (I : IVec S2 32) (h : ∀ i, I i = 0#32) (j : S3.Idx) :
    scatter_S1x8_S2_S3_0_0_01_0.resultIdx? j I
      = some (ix2 0 (Fin.castLE (by decide : 3 ≤ 8) (j 0)) : S1x8.Idx) := by
  have key : ∀ a : Fin 2, scatter_S1x8_S2_S3_0_0_01_0.start j I a + scatter_S1x8_S2_S3_0_0_01_0.window j a
      = ((ix2 0 (Fin.castLE (by decide : 3 ≤ 8) (j 0)) : S1x8.Idx) a).val := by
    intro a
    rw [start_zero _ j I h, zero_add]
    fin_cases a
    · rfl
    · rfl
  exact lands_of _ j I _ key

theorem v3_at (c : Dev nD) (d : Fin 128) (n : Fin 3) :
    (V m c main_v3 : FVec Ideal S128x8 .f32) (ix2 d (Fin.castLE (by decide) n)) = (m ((c : Thread nD τ).loc main_arg5) : FVec Ideal S128x3 .f32) (ix2 d n) := by
  entry_read
  have h : ∀ i, (broadcastInDim S1 ![] bcast_S_S1 (constantI S_ 32 0#32) : IVec S1 32) i = 0#32 := fun i => rfl
  refine Routing.scatter_set_hit _ _ _ _ _ _ (fun k hk => ?_) (ix2 d n) (lands_wg _ h _)
  rw [lands_wg _ h] at hk
  have hk := Option.some.inj hk
  idx_vars k
  have e0 := congrFun hk 0
  have e1 := congrFun hk 1
  have f0 : k0 = d := e0
  have f1 : k1 = n := Fin.ext (congrArg Fin.val e1 : _)
  rw [f0, f1]

theorem v8_at (c : Dev nD) (n : Fin 3) :
    (V m c main_v8 : FVec Ideal S1x8 .f32) (ix2 0 (Fin.castLE (by decide) n)) = (m ((c : Thread nD τ).loc main_arg6) : FVec Ideal S3 .f32) (ix1 n) := by
  entry_read
  have h : ∀ i, (concatenate S2 0
        [⟨S1, broadcastInDim S1 ![] bcast_S_S1 (constantI S_ 32 0#32)⟩,
          ⟨S1, broadcastInDim S1 ![] bcast_S_S1 (constantI S_ 32 0#32)⟩]
        concatenates_S1_S1_S2_d0 : IVec S2 32) i = 0#32 := fun i => by
    idx_vars i
    pointwise
    exact ite_self _
  refine Routing.scatter_set_hit _ _ _ _ _ _ (fun k hk => ?_) (ix1 n) (lands_bg _ h _)
  rw [lands_bg _ h] at hk
  have hk := Option.some.inj hk
  idx_vars k
  have e1 := congrFun hk 1
  have f1 : k0 = n := Fin.ext (congrArg Fin.val e1 : _)
  rw [f1]

theorem table : ∀ (i : Fin 8) (l : Fin 512), lit0 (S8x512.rowMajor (ix2 i l)) = if (l : ℕ) / 64 = (i : ℕ) then 0x3F80#16 else 0x0000#16 := by
  decide +kernel

theorem cst_at (c : Dev nD) (i : Fin 8) (l : Fin 512) :
    (V m c main_cst : FVec Ideal S8x512 .bf16) (ix2 i l) = if (l : ℕ) / 64 = (i : ℕ) then (1 : EReal) else (0 : EReal) := by
  entry_read
  rw [table]
  split
  · exact Ideal.ofBits_one_bf16
  · exact Ideal.ofBits_zero_bf16

theorem blk0 (c : Dev nD) (t : Fin cfg0.N) (R : Fin 2048) (d : Fin 128) :
    (iblk m c 0 t : FVec Ideal S2048x128 .f32) (ix2 R d) = (V m c main_v0 : FVec Ideal S2048x2048 .f32) (ix2 R ⟨t.val * 128 + d.val, by have := (idx t).2.2.2.2.2.2.2.2.2; omega⟩) := by
  blk_ext [iblk, idx t]

theorem blk1 (c : Dev nD) (t : Fin cfg0.N) (a : Fin 16) (ha : (a : ℕ) = t.val) :
    (iblk m c 1 t : FVec Ideal S2048x128 .bf16) = kh (m ((c : Thread nD τ).loc main_arg1)) a := by
  funext i
  unfold kh
  blk_ext [iblk, V, idx t]

theorem blk2 (c : Dev nD) (t : Fin cfg0.N) (a : Fin 16) (ha : (a : ℕ) = t.val) :
    (iblk m c 2 t : FVec Ideal S2048x256 .bf16) = vh (m ((c : Thread nD τ).loc main_arg2)) a := by
  funext i
  unfold vh
  blk_ext [iblk, V, idx t]

theorem blk3 (c : Dev nD) (t : Fin cfg0.N) (a : Fin 16) (ha : (a : ℕ) = t.val) :
    (iblk m c 3 t : FVec Ideal S1x32x2048 .f32) = bh (m ((c : Thread nD τ).loc main_arg3)) a := by
  funext i
  unfold bh
  blk_ext [iblk, V, idx t]

theorem blk4 (c : Dev nD) (t : Fin cfg0.N) (a : Fin 16) (ha : (a : ℕ) = t.val) :
    (iblk m c 4 t : FVec Ideal S2048x128 .f32) = ch (m ((c : Thread nD τ).loc main_arg4)) a := by
  funext i
  unfold ch
  blk_ext [iblk, V, idx t]

theorem blk5 (c : Dev nD) (t : Fin cfg0.N) (d : Fin 128) (n : Fin 8) :
    (iblk m c 5 t : FVec Ideal S128x8 .f32) (ix2 d n) = (V m c main_v3 : FVec Ideal S128x8 .f32) (ix2 d n) := by
  blk_ext [iblk, idx t]

theorem blk6 (c : Dev nD) (t : Fin cfg0.N) (n : Fin 8) :
    (iblk m c 6 t : FVec Ideal S1x8 .f32) (ix2 0 n) = (V m c main_v8 : FVec Ideal S1x8 .f32) (ix2 0 n) := by
  blk_ext [iblk, idx t]

theorem blk7 (c : Dev nD) (t : Fin cfg0.N) (i : Fin 8) (l : Fin 512) :
    (iblk m c 7 t : FVec Ideal S8x512 .bf16) (ix2 i l) = (V m c main_cst : FVec Ideal S8x512 .bf16) (ix2 i l) := by
  blk_ext [iblk, idx t]

end Cert.KernelIdeal.Main

end
-- ==== Proof.Main.Final.lean ====
/- The result array after the run of the main call, as a function of the arguments. -/
module

public import proofs.«01_k».proof.Proof.Main.Operands

@[expose] public section

set_option maxRecDepth 16384

noncomputable section

namespace Cert.KernelIdeal.Main

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Two branches with the same values, weights and gates. -/
theorem outAt_eq (q q₂ : FVec Ideal S2048x128 .f32) (k k₂ : FVec Ideal S2048x128 .bf16) (v v₂ : FVec Ideal S2048x256 .bf16)
    (b b₂ : FVec Ideal S1x32x2048 .f32) (cmp cmp₂ : FVec Ideal S2048x128 .f32) (wg : FVec Ideal S128x8 .f32)
    (bg : FVec Ideal S1x8 .f32) (R : Fin 2048) (d : Fin 128) (g : Fin 3 → EReal)
    (hq : q = q₂) (hk : k = k₂) (hv : v = v₂) (hb : b = b₂) (hc : cmp = cmp₂)
    (hg : ∀ n : Fin 3, gate q₂ wg bg R (Fin.castLE (by decide) n) = g n) :
    outAt q k v b cmp wg bg R d = branch (wsel q₂ k₂ b₂ R) v₂ (g 0) d + branch (wwin q₂ k₂ R) v₂ (g 1) d + g 2 * cmp₂ (ix2 R d) := by
  subst hq hk hv hb hc
  rw [outAt, ← hg 0, ← hg 1, ← hg 2]
  rfl

theorem blk0' (c : Dev nD) (t : Fin cfg0.N) (a : Fin 16) (ha : (a : ℕ) = t.val) :
    (iblk m c 0 t : FVec Ideal S2048x128 .f32) = qh (m ((c : Thread nD τ).loc main_arg0)) a := by
  funext i
  idx_vars i
  exact (blk0 m c t _ _).trans (v0_at m c _ a _ _ (by simp [ha]))

theorem point (c : Dev nD) (t : Fin cfg0.N) (y : S2048x128.Idx) (R : Fin 2048) (a : Fin 16) (d : Fin 128)
    (hR : (R : ℕ) = y 0) (ha : (a : ℕ) = t.val) (hd : (d : ℕ) = y 1) :
    out0_8 (F := Ideal) (iblk m c 0 t) (iblk m c 1 t) (iblk m c 2 t) (iblk m c 3 t) (iblk m c 4 t) (iblk m c 5 t) (iblk m c 6 t) (iblk m c 7 t) y
      = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) R a d := by
  obtain rfl : R = y 0 := Fin.ext hR
  obtain rfl : d = y 1 := Fin.ext hd
  refine (out_at _ _ _ _ _ _ _ _ (fun i l => (blk7 m c t i l).trans (cst_at m c i l)) y).trans ?_
  refine outAt_eq _ _ _ _ _ _ _ _ _ _ _ _ _ _ (gh (m ((c : Thread nD τ).loc main_arg0)) (m ((c : Thread nD τ).loc main_arg5)) (m ((c : Thread nD τ).loc main_arg6)) a (y 0))
    (blk0' m c t a ha) (blk1 m c t a ha) (blk2 m c t a ha) (blk3 m c t a ha) (blk4 m c t a ha) (fun n => ?_)
  refine congrArg₂ (fun x y : EReal => x + y) (Finset.sum_congr rfl fun e _ => congrArg₂ (fun x y : EReal => x * y) rfl ?_) ?_
  · exact (blk5 m c t e _).trans (v3_at m c e n)
  · exact (blk6 m c t _).trans (v8_at m c n)

/-- The array the main call leaves. -/
def G (Q : FVec Ideal S2048x16x128 .f32) (K : FVec Ideal S2048x512 .bf16) (W : FVec Ideal S2048x1024 .bf16)
    (B : FVec Ideal S4x32x2048 .f32) (C : FVec Ideal S2048x2048 .f32) (Wg : FVec Ideal S128x3 .f32) (bg : FVec Ideal S3 .f32) :
    FVec Ideal S2048x2048 .f32 := fun j =>
  res Q K W B C Wg bg (j 0) ⟨(j 1 : ℕ) / 128, by have : (j 1 : ℕ) < 2048 := (j 1).isLt; omega⟩
    ⟨(j 1 : ℕ) % 128, by omega⟩

theorem final (c : Dev nD) : (dats m 0 c).arrAt 8 (cfgs 0).N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  have h := (idx t).2.2.2.2.2.2.2.2
  refine point m c t y _ _ _ ?_ ?_ ?_
  all_goals (blk_simp [h.1] <;> try omega)
  all_goals
    have hy : (y 1 : ℕ) < 128 := (y 1).isLt
    simp only []
    omega

end Cert.KernelIdeal.Main

end
-- ==== Proof.Main.Softmax.lean ====
/- A row of masked softmax probabilities: with finite logits and a mask that keeps at least one key, the
   probabilities are the exponentiated logits times the mask over their sum, whatever finite number is subtracted. -/
module

public import Idealize.ShloMosaic.Lib.IdealHost
public import Idealize.ShloMosaic.PureOps.Ideal.Laws
public import Idealize.ShloMosaic.PureOps.Reduce

@[expose] public section

set_option maxRecDepth 16384
set_option backward.proofsInPublic true

noncomputable section

namespace Cert.ReferenceIdeal.Main

open Idealize.ShloMosaic Idealize.ShloMosaic.TcCoe Idealize.SL.Sem

/-- A sum times a nonnegative real is the sum of the products. -/
theorem sum_mul_coe {n : ℕ} (a : Fin n → EReal) (c : ℝ) (hc : 0 ≤ c) :
    (∑ j, a j) * (c : EReal) = ∑ j, a j * (c : EReal) := by
  have h0 : (0 : EReal) ≤ (c : EReal) := by exact_mod_cast hc
  induction (Finset.univ : Finset (Fin n)) using Finset.cons_induction with
  | empty => simp
  | cons i s hi ih =>
    rw [Finset.sum_cons, Finset.sum_cons, EReal.right_distrib_of_nonneg_of_ne_top h0 (EReal.coe_ne_top c), ih]

theorem coe_sum {n : ℕ} (a : Fin n → ℝ) : ((∑ j, a j : ℝ) : EReal) = ∑ j, (a j : EReal) := by
  induction (Finset.univ : Finset (Fin n)) using Finset.cons_induction with
  | empty => simp
  | cons i s hi ih => rw [Finset.sum_cons, Finset.sum_cons, EReal.coe_add, ih]

/-- Softmax-weighted values against the quotient of two weighted sums. -/
theorem soft {n : ℕ} (L : Fin n → ℝ) (p : Fin n → Prop) [DecidablePred p] (M : ℝ) (i : Fin n) (hi : p i)
    (g : EReal) (v : Fin n → EReal) :
    g * ∑ j, v j * Ideal.div (Ideal.exp ((if p j then (L j : EReal) else ⊥) - (M : EReal)))
        (∑ x, Ideal.exp ((if p x then (L x : EReal) else ⊥) - (M : EReal)))
      = (∑ j, (Ideal.exp (L j : EReal) * (if p j then 1 else 0)) * v j)
        * Ideal.div g (∑ j, Ideal.exp (L j : EReal) * (if p j then 1 else 0)) := by
  have hw : ∀ j, Ideal.exp (L j : EReal) * (if p j then 1 else 0)
      = ((if p j then Real.exp (L j) else 0 : ℝ) : EReal) := fun j => by
    by_cases h : p j <;> simp [h]
  have he : ∀ j, Ideal.exp ((if p j then (L j : EReal) else ⊥) - (M : EReal))
      = (((if p j then Real.exp (L j) else 0) * Real.exp (-M) : ℝ) : EReal) := fun j => by
    by_cases h : p j
    · rw [if_pos h, if_pos h, ← EReal.coe_sub, Ideal.exp_coe, sub_eq_add_neg, Real.exp_add]
    · rw [if_neg h, if_neg h, sub_eq_add_neg, EReal.bot_add, Ideal.exp_bot, zero_mul, EReal.coe_zero]
  simp only [hw, he, ← coe_sum]
  set w : Fin n → ℝ := fun j => if p j then Real.exp (L j) else 0 with hwdef
  have hpos : 0 < ∑ j, w j := by
    refine Finset.sum_pos' (fun j _ => ?_) ⟨i, Finset.mem_univ _, ?_⟩
    · simp only [hwdef]; split_ifs; exacts [(Real.exp_pos _).le, le_refl _]
    · simp only [hwdef, if_pos hi]; exact Real.exp_pos _
  have hc : Real.exp (-M) ≠ 0 := (Real.exp_pos _).ne'
  have hs : ∑ x, (w x * Real.exp (-M)) = (∑ x, w x) * Real.exp (-M) := (Finset.sum_mul ..).symm
  have hs' : (∑ x, (if p x then Real.exp (L x) else 0) * Real.exp (-M)) = (∑ x, w x) * Real.exp (-M) := hs
  rw [hs', Ideal.div_coe hpos.ne']
  simp only [Ideal.div_coe (mul_ne_zero hpos.ne' hc)]
  have hq : ∀ j, v j * (((w j * Real.exp (-M) : ℝ) : EReal) * ((1 / ((∑ x, w x) * Real.exp (-M)) : ℝ) : EReal))
      = ((w j : EReal) * v j) * ((1 / (∑ x, w x) : ℝ) : EReal) := fun j => by
    rw [← EReal.coe_mul, show w j * Real.exp (-M) * (1 / ((∑ x, w x) * Real.exp (-M))) = w j * (1 / (∑ x, w x)) by
      field_simp, EReal.coe_mul, ← mul_assoc, mul_comm (v j)]
  refine (congrArg (g * ·) (Finset.sum_congr rfl fun j _ => hq j)).trans ?_
  show g * ∑ j, _ = _
  rw [← sum_mul_coe _ _ (by positivity), mul_left_comm]

/-- The maximum a reduction takes is a real number when no element is `⊤` and some element of its row is not `⊥`. -/
theorem max_real {s t u : Shape} {axes : List (Fin s.rank)} (x : FVec Ideal s .f32) (init : FVec Ideal u .f32)
    (h : s.ReducesTo axes t) (hu : 0 < u.numel) (j : t.Idx) (hx : ∀ i, x i ≠ ⊤)
    (h0 : init (Shape.Idx.first hu) = ⊥) (i : s.Idx) (hi : h.drop i = j) (hb : x i ≠ ⊥) :
    ∃ r : ℝ, max ⊥ (Host.reduce (FloatOps.maximumf (F := Ideal) (φ := .f32)) x init h hu j) = (r : EReal) := by
  have key : ∀ (l : List s.Idx) (z : EReal), z ≠ ⊤ →
      (l.foldl (fun r k => max r (x k)) z ≠ ⊤) ∧ z ≤ l.foldl (fun r k => max r (x k)) z
        ∧ ∀ k ∈ l, x k ≤ l.foldl (fun r k => max r (x k)) z := by
    intro l
    induction l with
    | nil => intro z hz; simpa using hz
    | cons a l ih =>
      intro z hz
      obtain ⟨h1, h2, h3⟩ := ih (max z (x a)) (by
        rcases max_choice z (x a) with e | e <;> rw [e]; exacts [hz, hx a])
      refine ⟨h1, (le_max_left _ _).trans h2, fun k hk => ?_⟩
      rcases List.mem_cons.1 hk with rfl | hk
      exacts [(le_max_right _ _).trans h2, h3 k hk]
  rw [Host.reduce_eq_foldl, h0]
  obtain ⟨h1, h2, h3⟩ := key (((List.finRange s.numel).map s.rowMajor.symm).filter fun i => h.drop i = j) ⊥ bot_ne_top
  have h4 := h3 i (by
    rw [List.mem_filter]
    exact ⟨List.mem_map.2 ⟨s.rowMajor i, List.mem_finRange _, Equiv.symm_apply_apply _ _⟩, by simp [hi]⟩)
  refine ⟨_, (max_eq_right bot_le).trans (EReal.coe_toReal h1 fun e => hb (le_bot_iff.1 ?_)).symm⟩
  exact h4.trans (le_of_eq e)

/-- A sum of products of reals, scaled by a real. -/
theorem scaled_sum {n : ℕ} (q k : Fin n → ℝ) (c : ℝ) :
    (∑ d, ((q d : EReal) * (c : EReal)) * (k d : EReal)) = ((∑ d, k d * q d) * c : ℝ)
      ∧ (∑ d, (k d : EReal) * (q d : EReal)) * (c : EReal) = ((∑ d, k d * q d) * c : ℝ) := by
  constructor
  · simp only [← EReal.coe_mul, ← coe_sum]
    rw [Finset.sum_mul]
    exact congrArg _ (Finset.sum_congr rfl fun d _ => by ring)
  · simp only [← EReal.coe_mul, ← coe_sum]

end Cert.ReferenceIdeal.Main

end
-- ==== Proof.Main.RefLogits.lean ====
/- The reference's logits and masked logits of the main call, read at an index. -/
module

public import proofs.«01_k».proof.Proof.Gen.ReferenceIdeal.Read
public import Idealize.ShloMosaic.Lib.Pointwise
public import Idealize.ShloMosaic.Lib.IdealHost
public import Idealize.ShloMosaic.Lib.WordCmp

@[expose] public section

set_option maxRecDepth 16384
set_option backward.proofsInPublic true

noncomputable section

namespace Cert.ReferenceIdeal.Main

open Idealize.ShloMosaic Idealize.ShloMosaic.TcCoe Idealize.SL.Sem
open Cert.ReferenceIdeal Cert.ReferenceIdeal.Gen Cert.ReferenceIdeal.Read

variable (Q : FVec Ideal S2048x16x128 .f32) (K : FVec Ideal S2048x512 .bf16) (W : FVec Ideal S2048x1024 .bf16)
    (B : FVec Ideal S4x32x2048 .f32) (C : FVec Ideal S2048x2048 .f32) (Wg : FVec Ideal S128x3 .f32) (bg : FVec Ideal S3 .f32)

theorem minus_inf : Ideal.ofBits .f32 0xFF800000#32 = ⊥ := by simp [Ideal.ofBits, Ideal.ieee]

theorem sgt_sub (j s : ℕ) (hj : j < 2048) (hs : s < 2048) :
    IntOp.cmpi .sgt (BitVec.ofNat 32 j) (IntOp.subi (BitVec.ofNat 32 s) 512#32) = BitVec.ofBool (decide (s < j + 512)) := by
  simp only [IntOp.cmpi, IntOp.subi, BitVec.slt, BitVec.toInt_eq_toNat_bmod, BitVec.toNat_sub, BitVec.toNat_ofNat]
  congr 2
  simp only [Int.bmod_def, eq_iff_iff]
  omega

theorem base_at (s : Fin 2048) (h g : Fin 4) (j : Fin 2048) :
    (val_main_v21 (F := Ideal) Q K : FVec Ideal S2048x4x4x2048 .f32) (ix4 s h g j)
      = Ideal.div (∑ x : Fin 128, K (ix2 j ⟨(h : ℕ) * 128 + x, by omega⟩) * Q (ix3 s ⟨(h : ℕ) * 4 + g, by omega⟩ x)) (Ideal.sqrt (Ideal.ofBits .f32 0x43000000#32)) := by
  pointwise [val_main_v21, val_main_v20, val_main_v19, val_main_cst_0, val_main_v18, val_main_v17, val_main_v2, val_main_v1, val_main_v0]
  all_goals rfl

theorem msel_at (s : Fin 2048) (h g : Fin 4) (j : Fin 2048) :
    (val_main_v31 (F := Ideal) Q K B : FVec Ideal S2048x4x4x2048 .f32) (ix4 s h g j)
      = if Ideal.ofBits .f32 0x3F000000#32 < B (ix3 h ⟨(j : ℕ) / 64, by omega⟩ s) ∧ (j : ℕ) ≤ s
        then (val_main_v21 (F := Ideal) Q K : FVec Ideal S2048x4x4x2048 .f32) (ix4 s h g j) else ⊥ := by
  pointwise [val_main_v31, val_main_call0_v0, val_main_call0_v1, val_main_call0_v2, val_main_cst_1, val_main_v30, val_main_v29, val_main_v28, val_main_v27, val_main_v26, val_main_v25, val_main_v24, val_main_v23, val_main_v22, val_main_v16, val_main_v15, val_main_v14, val_main_v13, val_main_v12, val_main_cst, val_main_v11]
  rw [WordCmp.cmpi_sle_ofNat (by omega) (by omega)]
  by_cases h1 : Ideal.ofBits .f32 0x3F000000#32 < B (ix3 h ⟨(j : ℕ) / 64, by omega⟩ s) <;> by_cases h2 : (j : ℕ) ≤ s <;>
    simp [h1, h2, Scalar.select, IntOp.andi, constant, minus_inf]

theorem mwin_at (s : Fin 2048) (h g : Fin 4) (j : Fin 2048) :
    (val_main_v54 (F := Ideal) Q K : FVec Ideal S2048x4x4x2048 .f32) (ix4 s h g j)
      = if (j : ℕ) ≤ s ∧ (s : ℕ) < j + 512
        then (val_main_v21 (F := Ideal) Q K : FVec Ideal S2048x4x4x2048 .f32) (ix4 s h g j) else ⊥ := by
  pointwise [val_main_v54, val_main_call1_v0, val_main_call1_v1, val_main_call1_v2, val_main_cst_5, val_main_v53, val_main_v52, val_main_v51, val_main_v50, val_main_v49, val_main_v48, val_main_v47, val_main_c, val_main_v46, val_main_v45, val_main_v26, val_main_v25, val_main_v24, val_main_v23, val_main_v22, val_main_v11]
  rw [WordCmp.cmpi_sle_ofNat (by omega) (by omega), sgt_sub _ _ (by omega) (by omega)]
  by_cases h1 : (j : ℕ) ≤ s <;> by_cases h2 : (s : ℕ) < j + 512 <;>
    simp [h1, h2, Scalar.select, IntOp.andi, constant, minus_inf]

end Cert.ReferenceIdeal.Main

end
-- ==== Proof.Main.RefProbs.lean ====
/- The reference's probabilities of the main call, read at an index. -/
module

public import proofs.«01_k».proof.Proof.Gen.ReferenceIdeal.Read
public import Idealize.ShloMosaic.Lib.Pointwise
public import proofs.«01_k».proof.Proof.Main.Softmax
public import proofs.«01_k».proof.Proof.Main.RefLogits

@[expose] public section

set_option maxRecDepth 16384
set_option backward.proofsInPublic true

noncomputable section

namespace Cert.ReferenceIdeal.Main

open Idealize.ShloMosaic Idealize.ShloMosaic.TcCoe Idealize.SL.Sem
open Cert.ReferenceIdeal Cert.ReferenceIdeal.Gen Cert.ReferenceIdeal.Read

variable (Q : FVec Ideal S2048x16x128 .f32) (K : FVec Ideal S2048x512 .bf16) (W : FVec Ideal S2048x1024 .bf16)
    (B : FVec Ideal S4x32x2048 .f32) (C : FVec Ideal S2048x2048 .f32) (Wg : FVec Ideal S128x3 .f32) (bg : FVec Ideal S3 .f32)

theorem psel_at (s : Fin 2048) (h g : Fin 4) (j : Fin 2048) :
    (val_main_v42 (F := Ideal) Q K B : FVec Ideal S2048x4x4x2048 .f32) (ix4 s h g j)
      = Ideal.div (Ideal.exp ((val_main_v31 (F := Ideal) Q K B : FVec Ideal S2048x4x4x2048 .f32) (ix4 s h g j) - (val_main_v34 (F := Ideal) Q K B : FVec Ideal S2048x4x4 .f32) (ix3 s h g)))
          (∑ x : Fin 2048, Ideal.exp ((val_main_v31 (F := Ideal) Q K B : FVec Ideal S2048x4x4x2048 .f32) (ix4 s h g x) - (val_main_v34 (F := Ideal) Q K B : FVec Ideal S2048x4x4 .f32) (ix3 s h g))) := by
  pointwise [val_main_v42, val_main_v41, val_main_v40, val_main_v39, val_main_cst_4, val_main_v38, val_main_v37, val_main_v36, val_main_v35]
  all_goals rfl

theorem pwin_at (s : Fin 2048) (h g : Fin 4) (j : Fin 2048) :
    (val_main_v65 (F := Ideal) Q K : FVec Ideal S2048x4x4x2048 .f32) (ix4 s h g j)
      = Ideal.div (Ideal.exp ((val_main_v54 (F := Ideal) Q K : FVec Ideal S2048x4x4x2048 .f32) (ix4 s h g j) - (val_main_v57 (F := Ideal) Q K : FVec Ideal S2048x4x4 .f32) (ix3 s h g)))
          (∑ x : Fin 2048, Ideal.exp ((val_main_v54 (F := Ideal) Q K : FVec Ideal S2048x4x4x2048 .f32) (ix4 s h g x) - (val_main_v57 (F := Ideal) Q K : FVec Ideal S2048x4x4 .f32) (ix3 s h g))) := by
  pointwise [val_main_v65, val_main_v64, val_main_v63, val_main_v62, val_main_cst_8, val_main_v61, val_main_v60, val_main_v59, val_main_v58]
  all_goals rfl

theorem drop_at (s : Fin 2048) (h g : Fin 4) (j : Fin 2048) :
    reducesTo_S2048x4x4x2048_S2048x4x4_d3.drop (ix4 s h g j) = ix3 s h g := by
  funext a
  match a with
  | ⟨0, _⟩ => rfl
  | ⟨1, _⟩ => rfl
  | ⟨2, _⟩ => rfl

/-- The number subtracted in the selected-block branch is real. -/
theorem sel_max (s : Fin 2048) (h g : Fin 4) (j : Fin 2048)
    (hx : ∀ i, (val_main_v31 (F := Ideal) Q K B : FVec Ideal S2048x4x4x2048 .f32) i ≠ ⊤)
    (hb : (val_main_v31 (F := Ideal) Q K B : FVec Ideal S2048x4x4x2048 .f32) (ix4 s h g j) ≠ ⊥) :
    ∃ r : ℝ, (val_main_v34 (F := Ideal) Q K B : FVec Ideal S2048x4x4 .f32) (ix3 s h g) = (r : EReal) := by
  rw [val_main_v34_apply, val_main_v33_apply, val_main_cst_3_apply, val_main_v32]
  generalize val_main_v31 (F := Ideal) Q K B = y at hx hb ⊢
  obtain ⟨r, hr⟩ := max_real y (val_main_cst_2 (F := Ideal)) reducesTo_S2048x4x4x2048_S2048x4x4_d3 h_S_ (ix3 s h g) hx minus_inf _ (drop_at s h g j) hb
  refine ⟨r, Eq.trans ?_ hr⟩
  rw [Ideal.maximumf_def, Ideal.ofBits_def, minus_inf]

/-- The number subtracted in the window branch is real. -/
theorem win_max (s : Fin 2048) (h g : Fin 4) (j : Fin 2048)
    (hx : ∀ i, (val_main_v54 (F := Ideal) Q K : FVec Ideal S2048x4x4x2048 .f32) i ≠ ⊤)
    (hb : (val_main_v54 (F := Ideal) Q K : FVec Ideal S2048x4x4x2048 .f32) (ix4 s h g j) ≠ ⊥) :
    ∃ r : ℝ, (val_main_v57 (F := Ideal) Q K : FVec Ideal S2048x4x4 .f32) (ix3 s h g) = (r : EReal) := by
  rw [val_main_v57_apply, val_main_v56_apply, val_main_cst_7_apply, val_main_v55]
  generalize val_main_v54 (F := Ideal) Q K = y at hx hb ⊢
  obtain ⟨r, hr⟩ := max_real y (val_main_cst_6 (F := Ideal)) reducesTo_S2048x4x4x2048_S2048x4x4_d3 h_S_ (ix3 s h g) hx minus_inf _ (drop_at s h g j) hb
  refine ⟨r, Eq.trans ?_ hr⟩
  rw [Ideal.maximumf_def, Ideal.ofBits_def, minus_inf]

end Cert.ReferenceIdeal.Main

end
-- ==== Proof.Main.RefOut.lean ====
/- The reference's result of the main call, read at an index from its probabilities and gates. -/
module

public import proofs.«01_k».proof.Proof.Gen.ReferenceIdeal.Read
public import Idealize.ShloMosaic.Lib.Pointwise

@[expose] public section

set_option maxRecDepth 16384
set_option backward.proofsInPublic true

noncomputable section

namespace Cert.ReferenceIdeal.Main

open Idealize.ShloMosaic Idealize.ShloMosaic.TcCoe Idealize.SL.Sem
open Cert.ReferenceIdeal Cert.ReferenceIdeal.Gen Cert.ReferenceIdeal.Read

variable (Q : FVec Ideal S2048x16x128 .f32) (K : FVec Ideal S2048x512 .bf16) (W : FVec Ideal S2048x1024 .bf16)
    (B : FVec Ideal S4x32x2048 .f32) (C : FVec Ideal S2048x2048 .f32) (Wg : FVec Ideal S128x3 .f32) (bg : FVec Ideal S3 .f32)

theorem osel_at (s : Fin 2048) (h g : Fin 4) (d : Fin 128) :
    (val_main_v44 (F := Ideal) Q K W B : FVec Ideal S2048x4x4x128 .f32) (ix4 s h g d)
      = ∑ x : Fin 2048, W (ix2 x ⟨(h : ℕ) * 256 + d, by omega⟩) * (val_main_v42 (F := Ideal) Q K B : FVec Ideal S2048x4x4x2048 .f32) (ix4 s h g x) := by
  pointwise [val_main_v44, val_main_v43, val_main_v5, val_main_v4, val_main_v3]
  all_goals rfl

theorem owin_at (s : Fin 2048) (h g : Fin 4) (d : Fin 128) :
    (val_main_v67 (F := Ideal) Q K W : FVec Ideal S2048x4x4x128 .f32) (ix4 s h g d)
      = ∑ x : Fin 2048, W (ix2 x ⟨(h : ℕ) * 256 + d, by omega⟩) * (val_main_v65 (F := Ideal) Q K : FVec Ideal S2048x4x4x2048 .f32) (ix4 s h g x) := by
  pointwise [val_main_v67, val_main_v66, val_main_v5, val_main_v4, val_main_v3]
  all_goals rfl

theorem gate_at (s : Fin 2048) (h g : Fin 4) (n : Fin 3) :
    (val_main_v10 (F := Ideal) Q Wg bg : FVec Ideal S2048x4x4x3 .f32) (ix4 s h g n)
      = (∑ d : Fin 128, Q (ix3 s ⟨(h : ℕ) * 4 + g, by omega⟩ d) * Wg (ix2 d n)) + bg (ix1 n) := by
  pointwise [val_main_v10, val_main_v9, val_main_v8, val_main_v7, val_main_v6]
  all_goals rfl

theorem mix_at (s : Fin 2048) (h g : Fin 4) (d : Fin 128) :
    (val_main_v79 (F := Ideal) Q K W B C Wg bg : FVec Ideal S2048x4x4x128 .f32) (ix4 s h g d)
      = (val_main_v10 (F := Ideal) Q Wg bg : FVec Ideal S2048x4x4x3 .f32) (ix4 s h g 0) * (val_main_v44 (F := Ideal) Q K W B : FVec Ideal S2048x4x4x128 .f32) (ix4 s h g d)
        + (val_main_v10 (F := Ideal) Q Wg bg : FVec Ideal S2048x4x4x3 .f32) (ix4 s h g 1) * (val_main_v67 (F := Ideal) Q K W : FVec Ideal S2048x4x4x128 .f32) (ix4 s h g d)
        + (val_main_v10 (F := Ideal) Q Wg bg : FVec Ideal S2048x4x4x3 .f32) (ix4 s h g 2) * C (ix2 s ⟨(h : ℕ) * 512 + g * 128 + d, by omega⟩) := by
  pointwise [val_main_v79, val_main_v78, val_main_v77, val_main_v76, val_main_v75, val_main_v74, val_main_v73, val_main_v72, val_main_v71, val_main_v70, val_main_v69, val_main_v68]
  all_goals rfl

theorem row_at (s : Fin 2048) (a : Fin 2048) :
    (val_main_v80 (F := Ideal) Q K W B C Wg bg : FVec Ideal S2048x2048 .f32) (ix2 s a)
      = (val_main_v79 (F := Ideal) Q K W B C Wg bg : FVec Ideal S2048x4x4x128 .f32)
          (ix4 s ⟨(a : ℕ) / 512, by omega⟩ ⟨(a : ℕ) / 128 % 4, by omega⟩ ⟨(a : ℕ) % 128, by omega⟩) := by
  pointwise [val_main_v80]
  all_goals rfl

end Cert.ReferenceIdeal.Main

end
-- ==== Proof.Main.Compare.lean ====
/- The main call's array is the reference's: a head's two softmax branches and its share of the compressed branch. -/
module

public import proofs.«01_k».proof.Proof.Main.Final
public import proofs.«01_k».proof.Proof.Main.Softmax
public import proofs.«01_k».proof.Proof.Main.RefLogits
public import proofs.«01_k».proof.Proof.Main.RefProbs
public import proofs.«01_k».proof.Proof.Main.RefOut

@[expose] public section

set_option maxRecDepth 16384
set_option backward.proofsInPublic true

noncomputable section

namespace Cert.ReferenceIdeal.Main

open Idealize.ShloMosaic Idealize.ShloMosaic.TcCoe Idealize.SL.Sem
open Cert.ReferenceIdeal Cert.ReferenceIdeal.Gen Cert.ReferenceIdeal.Read

variable (Q : FVec Ideal S2048x16x128 .f32) (K : FVec Ideal S2048x512 .bf16) (W : FVec Ideal S2048x1024 .bf16)
    (B : FVec Ideal S4x32x2048 .f32) (C : FVec Ideal S2048x2048 .f32) (Wg : FVec Ideal S128x3 .f32) (bg : FVec Ideal S3 .f32)

open Cert.KernelIdeal.Main (wt cau near wsel wwin branch qh kh vh bh ch gh res G blk)

theorem width : Ideal.ofBits .f32 0x43000000#32 = ((128 : ℝ) : EReal) := by
  simp [Ideal.ofBits, Ideal.ieee, -EReal.coe_mul]; norm_num

/-- Dividing by the square root of the width is multiplying by the softmax scale. -/
theorem scale_real : ∃ c : ℝ, Cert.KernelIdeal.Main.scale = (c : EReal)
    ∧ ∀ x : EReal, Ideal.div x (Ideal.sqrt (Ideal.ofBits .f32 0x43000000#32)) = x * (c : EReal) := by
  refine ⟨_, Cert.KernelIdeal.Main.scale_eq, fun x => ?_⟩
  have h0 : Real.sqrt 128 ≠ 0 := by positivity
  rw [width, Ideal.sqrt_coe, if_neg (by norm_num), Ideal.div_coe h0, one_div]

theorem half : Ideal.ofBits .f32 0x3F000000#32 = ((1 / 2 : ℝ) : EReal) := by
  simp [Ideal.ofBits, Ideal.ieee, -EReal.coe_mul]; norm_num

/-- One branch: the quotient of the two weighted sums is the softmax-weighted sum. -/
theorem branch_soft (w : Fin 2048 → EReal) (v : FVec Ideal Cert.KernelIdeal.S2048x256 .bf16) (g : EReal) (d : Fin 128)
    (L : Fin 2048 → ℝ) (p : Fin 2048 → Prop) [DecidablePred p] (M : ℝ) (i : Fin 2048) (hi : p i)
    (hw : ∀ J, w J = Ideal.exp (L J : EReal) * (if p J then 1 else 0)) (hv : ∀ J, v (ix2 J (128 : Fin 256)) = 1) :
    branch w v g d = g * ∑ j, v (ix2 j (Fin.castLE (by decide) d))
      * Ideal.div (Ideal.exp ((if p j then (L j : EReal) else ⊥) - (M : EReal)))
        (∑ x, Ideal.exp ((if p x then (L x : EReal) else ⊥) - (M : EReal))) := by
  rw [soft L p M i hi g, branch]
  simp only [hw, hv, mul_one]

variable (q : S2048x16x128.Idx → ℝ) (hq : ∀ i, Q i = (q i : EReal)) (k : S2048x512.Idx → ℝ) (hk : ∀ i, K i = (k i : EReal))
    (hW : ∀ (j : Fin 2048) (h : Fin 4), W (ix2 j ⟨(h : ℕ) * 256 + 128, by omega⟩) = 1)
    (hB : ∀ i, B i = 0 ∨ B i = 1) (hB0 : ∀ (h : Fin 4) (s : Fin 2048), B (ix3 h 0 s) = 1)
    (c : ℝ) (hc : Cert.KernelIdeal.Main.scale = (c : EReal)
      ∧ ∀ x : EReal, Ideal.div x (Ideal.sqrt (Ideal.ofBits .f32 0x43000000#32)) = x * (c : EReal))
    (s : Fin 2048) (h g : Fin 4) (d : Fin 128)

/-- The query head of a group member. -/
abbrev head (h g : Fin 4) : Fin 16 := ⟨(h : ℕ) * 4 + g, by omega⟩

/-- A real logit. -/
def logit (j : Fin 2048) : ℝ :=
  (∑ x : Fin 128, k (ix2 j ⟨(h : ℕ) * 128 + x, by omega⟩) * q (ix3 s (head h g) x)) * c

include hq hk hc in
theorem base_real (j : Fin 2048) : (val_main_v21 (F := Ideal) Q K : FVec Ideal S2048x4x4x2048 .f32) (ix4 s h g j)
    = (logit q k c s h g j : EReal) := by
  rw [base_at, hc.2]
  simp only [hq, hk]
  exact (scaled_sum (fun x => q (ix3 s (head h g) x)) (fun x : Fin 128 => k (ix2 j ⟨(h : ℕ) * 128 + x, by omega⟩)) c).2

theorem kv_head : (head h g : ℕ) / 4 = h := by simp only [head]; omega

include hq hk hc in
theorem wt_real (j : Fin 2048) : wt (qh Q (head h g)) (kh K (head h g)) s j = Ideal.exp (logit q k c s h g j : EReal) := by
  have e : ∀ x : Fin 128, kh K (head h g) (ix2 j x) = K (ix2 j ⟨(h : ℕ) * 128 + x, by omega⟩) := fun x =>
    congrArg K (congrArg (ix2 j) (Fin.ext (by
      show (head h g : ℕ) / 4 * 128 + x = (h : ℕ) * 128 + x
      rw [kv_head])))
  have e' : ∀ x : Fin 128, qh Q (head h g) (ix2 s x) = Q (ix3 s (head h g) x) := fun x => rfl
  rw [wt]
  simp only [e, e', hq, hk, hc.1]
  exact congrArg Ideal.exp (scaled_sum (fun x => q (ix3 s (head h g) x)) (fun x : Fin 128 => k (ix2 j ⟨(h : ℕ) * 128 + x, by omega⟩)) c).1

include hW in
theorem ones (j : Fin 2048) : vh W (head h g) (ix2 j (128 : Fin 256)) = 1 :=
  (congrArg W (congrArg (ix2 j) (Fin.ext (by
    show (head h g : ℕ) / 4 * 256 + 128 = (h : ℕ) * 256 + 128
    rw [kv_head])))).trans (hW j h)

theorem vals (j : Fin 2048) : vh W (head h g) (ix2 j (Fin.castLE (by decide) d)) = W (ix2 j ⟨(h : ℕ) * 256 + d, by omega⟩) :=
  congrArg W (congrArg (ix2 j) (Fin.ext (by
    show (head h g : ℕ) / 4 * 256 + d = (h : ℕ) * 256 + d
    rw [kv_head])))

include hq hk hW hB hB0 hc in
theorem sel_same (γ : EReal) :
    branch (wsel (qh Q (head h g)) (kh K (head h g)) (bh B (head h g)) s) (vh W (head h g)) γ d
      = γ * (val_main_v44 (F := Ideal) Q K W B : FVec Ideal S2048x4x4x128 .f32) (ix4 s h g d) := by
  have hm : ∀ j, (val_main_v31 (F := Ideal) Q K B : FVec Ideal S2048x4x4x2048 .f32) (ix4 s h g j)
      = if Ideal.ofBits .f32 0x3F000000#32 < B (ix3 h (blk j) s) ∧ (j : ℕ) ≤ s then (logit q k c s h g j : EReal) else ⊥ :=
    fun j => by rw [msel_at, base_real Q K q hq k hk c hc]
  have h0 : Ideal.ofBits .f32 0x3F000000#32 < B (ix3 h (blk 0) s) ∧ ((0 : Fin 2048) : ℕ) ≤ s :=
    ⟨by rw [show blk 0 = 0 from rfl, hB0, half]; exact_mod_cast (by norm_num : (1 / 2 : ℝ) < 1), Nat.zero_le _⟩
  obtain ⟨M, hM⟩ := sel_max Q K B s h g 0 (fun i => by
    idx_vars i
    rw [msel_at, base_real Q K q hq k hk c hc]
    split_ifs <;> simp) (by rw [hm, if_pos h0]; exact EReal.coe_ne_bot _)
  rw [branch_soft _ _ _ _ (logit q k c s h g) (fun j => Ideal.ofBits .f32 0x3F000000#32 < B (ix3 h (blk j) s) ∧ (j : ℕ) ≤ s) M 0 h0 ?_ (ones W hW h g)]
  · rw [osel_at]
    refine congrArg (γ * ·) (Finset.sum_congr rfl fun j _ => ?_)
    rw [vals, psel_at, hM]
    simp only [hm]
  · intro j
    have e : bh B (head h g) (ix3 0 (blk j) s) = B (ix3 h (blk j) s) :=
      congrArg (fun a => B (ix3 a (blk j) s)) (Fin.ext (kv_head h g))
    rw [wsel, wt_real Q K q hq k hk c hc, e, mul_assoc]
    refine congrArg (fun x : EReal => Ideal.exp (logit q k c s h g j : EReal) * x) ?_
    rw [cau, half]
    rcases hB (ix3 h (blk j) s) with hb | hb
    · rw [hb, mul_zero, if_neg]
      rintro ⟨hlt, -⟩
      exact absurd hlt (not_lt.2 (by exact_mod_cast (by norm_num : (0 : ℝ) ≤ 1 / 2)))
    · rw [hb, mul_one]
      refine if_congr ⟨fun hj => ⟨?_, hj⟩, fun hj => hj.2⟩ rfl rfl
      exact_mod_cast (by norm_num : (1 / 2 : ℝ) < 1)

include hq hk hW hc in
theorem win_same (γ : EReal) :
    branch (wwin (qh Q (head h g)) (kh K (head h g)) s) (vh W (head h g)) γ d
      = γ * (val_main_v67 (F := Ideal) Q K W : FVec Ideal S2048x4x4x128 .f32) (ix4 s h g d) := by
  have hm : ∀ j, (val_main_v54 (F := Ideal) Q K : FVec Ideal S2048x4x4x2048 .f32) (ix4 s h g j)
      = if (j : ℕ) ≤ s ∧ (s : ℕ) < j + 512 then (logit q k c s h g j : EReal) else ⊥ :=
    fun j => by rw [mwin_at, base_real Q K q hq k hk c hc]
  have h0 : (s : ℕ) ≤ s ∧ (s : ℕ) < s + 512 := ⟨le_refl _, by omega⟩
  obtain ⟨M, hM⟩ := win_max Q K s h g s (fun i => by
    idx_vars i
    rw [mwin_at, base_real Q K q hq k hk c hc]
    split_ifs <;> simp) (by rw [hm, if_pos h0]; exact EReal.coe_ne_bot _)
  rw [branch_soft _ _ _ _ (logit q k c s h g) (fun j => (j : ℕ) ≤ s ∧ (s : ℕ) < j + 512) M s h0 ?_ (ones W hW h g)]
  · rw [owin_at]
    refine congrArg (γ * ·) (Finset.sum_congr rfl fun j _ => ?_)
    rw [vals, pwin_at, hM]
    simp only [hm]
  · intro j
    rw [wwin, wt_real Q K q hq k hk c hc, near]

include hq hk hW hB hB0 hc in
theorem head_same : res Q K W B C Wg bg s (head h g) d
    = (val_main_v79 (F := Ideal) Q K W B C Wg bg : FVec Ideal S2048x4x4x128 .f32) (ix4 s h g d) := by
  rw [mix_at, res, sel_same Q K W B q hq k hk hW hB hB0 c hc, win_same Q K W q hq k hk hW c hc, gate_at, gate_at, gate_at]
  refine congrArg₂ (fun x y : EReal => x + y) rfl (congrArg₂ (fun x y : EReal => x * y) rfl ?_)
  refine congrArg C (congrArg (ix2 s) (Fin.ext ?_))
  show ((h : ℕ) * 4 + g) * 128 + d = h * 512 + g * 128 + d
  omega

/-- The whole array. -/
theorem same (hQ : ∀ i, ∃ r : ℝ, Q i = (r : EReal)) (hK : ∀ i, ∃ r : ℝ, K i = (r : EReal))
    (hW : ∀ (j : Fin 2048) (h : Fin 4), W (ix2 j ⟨(h : ℕ) * 256 + 128, by omega⟩) = 1)
    (hB : ∀ i, B i = 0 ∨ B i = 1) (hB0 : ∀ (h : Fin 4) (s : Fin 2048), B (ix3 h 0 s) = 1) :
    (val_main_v80 (F := Ideal) Q K W B C Wg bg : FVec Ideal S2048x2048 .f32) = G Q K W B C Wg bg := by
  choose q hq using hQ
  choose k hk using hK
  obtain ⟨c, hc⟩ := scale_real
  funext i
  idx_vars i
  refine (row_at Q K W B C Wg bg _ _).trans ?_
  refine (head_same Q K W B C Wg bg q hq k hk hW hB hB0 c hc _ _ _ _).symm.trans ?_
  refine congrArg (fun n => res Q K W B C Wg bg _ n _) (Fin.ext ?_)
  show (i1 : ℕ) / 512 * 4 + (i1 : ℕ) / 128 % 4 = (i1 : ℕ) / 128
  omega

end Cert.ReferenceIdeal.Main

end
-- ==== Proof.Compress.Steps.lean ====
/- The compression call's steps under names: the blocks' rows, one row's product with its slab of the weights, and the sum
   of sixteen of them; the stored tile is the first half's sum plus the shifted second half's. -/
module

public import proofs.«01_k».proof.Proof.Gen.CompressIdeal.Value
public import Idealize.ShloMosaic.Lib.Pointwise

@[expose] public section

set_option maxRecDepth 16384
set_option backward.proofsInPublic true

noncomputable section

namespace Cert.CompressIdeal.Compress

open Idealize.ShloMosaic Idealize.ShloMosaic.TcCoe Idealize.SL.Sem
open Cert.CompressIdeal Cert.CompressIdeal.Gen

variable {F : FTy → Type} [FloatOps F]

/-- Row `r` of every run of sixteen. -/
def rows (x : FVec F S2048x128 .f32) (r : Fin 16) : FVec F S128x128 .f32 :=
  shapeCast S128x128
    (extractStridedSlice S128x1x128 ![0, (r : ℕ), 0] (shapeCast S128x16x128 (shapeCast S2048x128 x shapeCasts_S2048x128_S2048x128) shapeCasts_S2048x128_S128x16x128)
      ((by decide : ∀ r : Fin 16, S128x16x128.Slices ![0, (r : ℕ), 0] S128x1x128) r)) shapeCasts_S128x1x128_S128x128

/-- Slab `j` of the weights, as the kernel loads it. -/
def slab (w : FVec F S4096x128 .f32) (j : Fin 32) : FVec F S128x128 .f32 :=
  View.ld (Val := Elt F) (e' := .f32) w (Rect.unit (s := S4096x128) ![(j : ℕ) * 128, 0] S128x128.size
    ((by decide : ∀ j : Fin 32, ∀ a, (![(j : ℕ) * 128, 0] : Fin 2 → ℕ) a + S128x128.size a ≤ S4096x128.size a) j))

/-- A product of two tiles. -/
def prod (a b : FVec F S128x128 .f32) : FVec F S128x128 .f32 :=
  matmul dot_S128x128_S128x128_S128x128_1_0_0_1_n_n none a b (constant S128x128 .f32 0x00000000#32)

/-- Row `r`'s share of the half that begins at slab `o`. -/
def share (x : FVec F S2048x128 .f32) (w : FVec F S4096x128 .f32) (o : ℕ) (r : ℕ) : FVec F S128x128 .f32 :=
  prod (rows (View.ld (Val := Elt F) (e' := .f32) x r0_1) ⟨r % 16, Nat.mod_lt _ (by decide)⟩) (slab w ⟨(o + r) % 32, Nat.mod_lt _ (by decide)⟩)

/-- The sum of the first `n + 1` shares. -/
def upTo (f : ℕ → FVec F S128x128 .f32) : ℕ → FVec F S128x128 .f32
  | 0 => f 0
  | n + 1 => addf (upTo f n) (f (n + 1))

/-- The stored tile: the first half's sum plus the shift of the second half's. -/
def tile (x : FVec F S2048x128 .f32) (w : FVec F S4096x128 .f32) (sh : FVec F S128x128 .f32) : FVec F S1x128x128 .f32 :=
  shapeCast S1x128x128
    (addf (upTo (share x w 0) 15) (prod (View.ld (Val := Elt F) (e' := .f32) sh r0_0) (upTo (share x w 16) 15))) shapeCasts_S128x128_S1x128x128

theorem out5_eq (x0 : Vec F S2048x128 .f32) (x1 : Vec F S2048x128 .f32) (x2 : Vec F S4096x128 .f32) (x3 : Vec F S4096x128 .f32) (x4 : Vec F S128x128 .f32) :
    out0_5 x0 x1 x2 x3 x4 = View.canon [⟨r0_36, tile x0 x2 x4⟩] := rfl

theorem out6_eq (x0 : Vec F S2048x128 .f32) (x1 : Vec F S2048x128 .f32) (x2 : Vec F S4096x128 .f32) (x3 : Vec F S4096x128 .f32) (x4 : Vec F S128x128 .f32) :
    out0_6 x0 x1 x2 x3 x4 = View.canon [⟨r0_36, tile x1 x3 x4⟩] := rfl

/-! ## The steps at an index -/

theorem rows_at (x : FVec Ideal S2048x128 .f32) (r : Fin 16) (n d : Fin 128) :
    rows (F := Ideal) x r (ix2 n d) = x (ix2 ⟨(n : ℕ) * 16 + (r : ℕ), by omega⟩ d) := by
  pointwise [rows]

theorem slab_at (w : FVec Ideal S4096x128 .f32) (j : Fin 32) (d e : Fin 128) :
    slab (F := Ideal) w j (ix2 d e) = w (ix2 ⟨(j : ℕ) * 128 + (d : ℕ), by omega⟩ e) := by
  pointwise [slab]

theorem prod_at (a b : FVec Ideal S128x128 .f32) (n e : Fin 128) :
    prod (F := Ideal) a b (ix2 n e) = ∑ d : Fin 128, a (ix2 n d) * b (ix2 d e) := by
  pointwise [prod]

theorem upTo_at (f : ℕ → FVec Ideal S128x128 .f32) (n : ℕ) (i : S128x128.Idx) :
    upTo (F := Ideal) f n i = ∑ r ∈ Finset.range (n + 1), (f r i : EReal) := by
  induction n with
  | zero => rw [Finset.sum_range_one]; rfl
  | succ n ih => rw [Finset.sum_range_succ, ← ih]; rfl

end Cert.CompressIdeal.Compress

end
-- ==== Proof.Compress.Tile.lean ====
/- The compression call's stored blocks read at an index. -/
module

public import proofs.«01_k».proof.Proof.Compress.Steps
public import Idealize.ShloMosaic.Lib.Pipeline.ValueKit
public import Idealize.ShloMosaic.Lib.WordCmp

@[expose] public section

set_option maxRecDepth 16384
set_option backward.proofsInPublic true

noncomputable section

namespace Cert.CompressIdeal.Compress

open Idealize.ShloMosaic Idealize.ShloMosaic.TcCoe Idealize.SL.Sem
open Cert.CompressIdeal Cert.CompressIdeal.Gen

/-- The half of run `n`'s product that begins at slab `o`. -/
def half (x : FVec Ideal S2048x128 .f32) (w : FVec Ideal S4096x128 .f32) (o : ℕ) (ho : o ≤ 16) (n e : Fin 128) : EReal :=
  ∑ r : Fin 16, ∑ d : Fin 128, x (ix2 ⟨(n : ℕ) * 16 + (r : ℕ), by omega⟩ d) * w (ix2 ⟨(o + (r : ℕ)) * 128 + (d : ℕ), by omega⟩ e)

/-- Block `n` of the compression: its own run of sixteen rows and, but for the last, the run after it. -/
def comp (x : FVec Ideal S2048x128 .f32) (w : FVec Ideal S4096x128 .f32) (n e : Fin 128) : EReal :=
  half x w 0 (by decide) n e + if h : (n : ℕ) + 1 < 128 then half x w 16 (by decide) ⟨(n : ℕ) + 1, h⟩ e else 0

theorem half_at (x : FVec Ideal S2048x128 .f32) (w : FVec Ideal S4096x128 .f32) (o : ℕ) (ho : o ≤ 16) (n e : Fin 128) :
    upTo (F := Ideal) (share x w o) 15 (ix2 n e) = half x w o ho n e := by
  rw [upTo_at, Finset.sum_range]
  refine Finset.sum_congr rfl fun r _ => ?_
  rw [share, prod_at]
  refine Finset.sum_congr rfl fun d _ => ?_
  rw [rows_at, slab_at]
  have hr : (r : ℕ) < 16 := r.isLt
  have e1 : (View.ld (Val := Elt Ideal) (e' := .f32) x r0_1 : FVec Ideal S2048x128 .f32) = x := by
    funext i
    idx_vars i
    pointwise
  have e2 : (⟨(n : ℕ) * 16 + (r : ℕ) % 16, by omega⟩ : Fin 2048) = ⟨(n : ℕ) * 16 + (r : ℕ), by omega⟩ := Fin.ext (by simp only []; omega)
  have e3 : (⟨(o + (r : ℕ)) % 32 * 128 + (d : ℕ), by omega⟩ : Fin 4096) = ⟨(o + (r : ℕ)) * 128 + (d : ℕ), by omega⟩ :=
    Fin.ext (by simp only []; omega)
  rw [e1]
  exact congrArg₂ (fun a b : EReal => a * b) (congrArg (fun j : Fin 2048 => x (ix2 j d)) e2) (congrArg (fun j : Fin 4096 => w (ix2 j e)) e3)

theorem shifted (sh : FVec Ideal S128x128 .f32) (hs : ∀ n m, sh (ix2 n m) = if (m : ℕ) = (n : ℕ) + 1 then (1 : EReal) else 0)
    (f : Fin 128 → EReal) (n : Fin 128) :
    ∑ m : Fin 128, sh (ix2 n m) * f m = if h : (n : ℕ) + 1 < 128 then f ⟨(n : ℕ) + 1, h⟩ else 0 := by
  split
  · rename_i h
    rw [Finset.sum_eq_single ⟨(n : ℕ) + 1, h⟩]
    · rw [hs, if_pos rfl, one_mul]
    · intro m _ hm
      rw [hs, if_neg fun e => hm (Fin.ext e), zero_mul]
    · intro h'
      exact absurd (Finset.mem_univ _) h'
  · rename_i h
    refine Finset.sum_eq_zero fun m _ => ?_
    rw [hs, if_neg (by have := m.isLt; omega), zero_mul]

theorem tile_at (x : FVec Ideal S2048x128 .f32) (w : FVec Ideal S4096x128 .f32) (sh : FVec Ideal S128x128 .f32)
    (hs : ∀ n m, sh (ix2 n m) = if (m : ℕ) = (n : ℕ) + 1 then (1 : EReal) else 0) (n e : Fin 128) :
    tile (F := Ideal) x w sh (ix3 0 n e) = comp x w n e := by
  have e1 : (View.ld (Val := Elt Ideal) (e' := .f32) sh r0_0 : FVec Ideal S128x128 .f32) = sh := by
    funext i
    idx_vars i
    pointwise
  have e2 : tile (F := Ideal) x w sh (ix3 0 n e)
      = upTo (F := Ideal) (share x w 0) 15 (ix2 n e) + prod (F := Ideal) (View.ld (Val := Elt Ideal) (e' := .f32) sh r0_0) (upTo (share x w 16) 15) (ix2 n e) := by
    pointwise [tile]
  rw [e2, e1, prod_at, half_at _ _ 0 (by decide), comp]
  refine congrArg (fun z : EReal => half x w 0 (by decide) n e + z) ?_
  refine (Finset.sum_congr rfl fun m _ => ?_).trans (shifted sh hs (fun m => half x w 16 (by decide) m e) n)
  rw [half_at _ _ 16 (by decide)]

section
variable (a b : FVec Ideal S2048x128 .f32) (u v : FVec Ideal S4096x128 .f32) (s : FVec Ideal S128x128 .f32)
  (hs : ∀ n m, s (ix2 n m) = if (m : ℕ) = (n : ℕ) + 1 then (1 : EReal) else 0)

include hs in
theorem out5_at (y : S1x128x128.Idx) : out0_5 (F := Ideal) a b u v s y = comp a u (y 1) (y 2) := by
  rw [out5_eq]
  canon_tiles x h
  idx_vars x
  obtain rfl : x0 = 0 := Subsingleton.elim _ _
  have f1 : (y 1 : Fin 128) = x1 := Fin.ext h1
  have f2 : (y 2 : Fin 128) = x2 := Fin.ext h2
  rw [f1, f2]
  exact tile_at _ _ _ hs _ _

include hs in
theorem out6_at (y : S1x128x128.Idx) : out0_6 (F := Ideal) a b u v s y = comp b v (y 1) (y 2) := by
  rw [out6_eq]
  canon_tiles x h
  idx_vars x
  obtain rfl : x0 = 0 := Subsingleton.elim _ _
  have f1 : (y 1 : Fin 128) = x1 := Fin.ext h1
  have f2 : (y 2 : Fin 128) = x2 := Fin.ext h2
  rw [f1, f2]
  exact tile_at _ _ _ hs _ _

theorem out7_at (y : S2048x128.Idx) : out0_7 (F := Ideal) a b u v s y = a y := by
  canon_tiles x h
  idx_vars x
  pointwise [k0_pay2]
  refine congrArg a (funext fun i => Fin.ext ?_)
  fin_cases i
  · exact h0.symm
  · exact h1.symm

/-- Column 128 holds ones, the columns after it zeros. -/
def ones (l : Fin 256) : EReal := if (l : ℕ) = 128 then 1 else 0

/-- A comparison's bit, widened and read as a number. -/
theorem bit_at (p : Prop) [Decidable p] :
    (FloatOps.sitofp (F := Ideal) .f32 (BitVec.setWidth 32 (BitVec.ofBool (decide p))) : EReal) = if p then 1 else 0 := by
  show ((((BitVec.setWidth 32 (BitVec.ofBool (decide p))).toInt : ℝ)) : EReal) = _
  by_cases h : p <;> simp [h]

theorem lane_at (n d : Fin 128) (r : Fin 2048) : k0_pay4 (F := Ideal) (ix2 r d) = if (d : ℕ) = 0 then (1 : EReal) else 0 := by
  pointwise [k0_pay4]
  rw [show (0#32 : BitVec 32) = BitVec.ofNat 32 0 from rfl, WordCmp.cmpi_eq_ofNat (by omega) (by omega)]
  exact bit_at _

theorem out8_at (y : S2048x256.Idx) : out0_8 (F := Ideal) a b u v s y
    = if h : (y 1 : ℕ) < 128 then b (ix2 (y 0) ⟨(y 1 : ℕ), h⟩) else ones (y 1) := by
  canon_tiles x h
  case piece0 =>
    idx_vars x
    rw [dif_neg (by omega)]
    show _ = if (y 1 : ℕ) = 128 then (1 : EReal) else 0
    refine (lane_at 0 _ _).trans ?_
    congr 1
    exact propext ⟨fun e => by omega, fun e => by omega⟩
  case piece1 =>
    idx_vars x
    rw [dif_pos (by omega)]
    pointwise [k0_pay3]
    refine congrArg b (funext fun i => Fin.ext ?_)
    fin_cases i
    · exact h0.symm
    · exact h1.symm
end

end Cert.CompressIdeal.Compress

end
-- ==== Proof.Compress.Table.lean ====
/- The shift table: one where the column is the row's successor. -/
module

public import proofs.«01_k».proof.Proof.Gen.CompressIdeal.Value
public import Idealize.ShloMosaic.Lib.Pointwise

@[expose] public section

set_option maxRecDepth 16384
set_option backward.proofsInPublic true

noncomputable section

namespace Cert.CompressIdeal.Compress

open Idealize.ShloMosaic Idealize.ShloMosaic.TcCoe Idealize.SL.Sem
open Cert.CompressIdeal Cert.CompressIdeal.Gen

theorem table : ∀ n m : Fin 128, lit0 (S128x128.rowMajor (ix2 n m)) = if (m : ℕ) = (n : ℕ) + 1 then 0x3F800000#32 else 0x00000000#32 := by
  decide +kernel

end Cert.CompressIdeal.Compress

end
-- ==== Proof.Compress.Final.lean ====
/- The compression call's result arrays after the run, as functions of the arguments. -/
module

public import proofs.«01_k».proof.Proof.Compress.Tile
public import proofs.«01_k».proof.Proof.Compress.Table
public import Idealize.ShloMosaic.Lib.IdealHost
public import Idealize.ShloMosaic.Lib.Claim

@[expose] public section

set_option maxRecDepth 16384
set_option backward.proofsInPublic true

noncomputable section

namespace Cert.CompressIdeal.Compress

open Idealize.ShloMosaic Idealize.ShloMosaic.TcCoe Idealize.SL.Sem
open Idealize.ShloMosaic.Pipeline (Dat)
open Cert.CompressIdeal Cert.CompressIdeal.Gen

variable (m : (ℓ : Loc nD τ sig) → Buf (Elt Ideal) ℓ)

/-- The windows' block indices: point `t` is key head `t`. -/
theorem idx : ∀ t : Fin cfg0.N, win0_0.index t = ![0, t.val] ∧ win0_1.index t = ![0, t.val]
    ∧ win0_2.index t = ![0, 0] ∧ win0_3.index t = ![0, 0] ∧ win0_4.index t = ![0, 0]
    ∧ win0_5.index t = ![t.val, 0, 0] ∧ win0_6.index t = ![t.val, 0, 0] ∧ win0_7.index t = ![0, t.val] ∧ win0_8.index t = ![0, t.val]
    ∧ t.val < 4 :=
  (by decide +kernel : ∀ t : Fin grid0.N, _)

/-- Head `a` of the keys or values. -/
def head (X : FVec Ideal S2048x4x128 .f32) (a : Fin 4) : FVec Ideal S2048x128 .f32 := fun i => X (ix3 (i 0) a (i 1))

theorem v0_at (c : Dev nD) (R : Fin 2048) (a : Fin 4) (d : Fin 128) (j : Fin 512) (hj : (j : ℕ) = (a : ℕ) * 128 + (d : ℕ)) :
    (V m c main_v0 : FVec Ideal S2048x512 .f32) (ix2 R j) = (m ((c : Thread nD τ).loc main_arg0) : FVec Ideal S2048x4x128 .f32) (ix3 R a d) := by
  entry_read
  pointwise
  have e1 : (⟨(j : ℕ) / 128, by omega⟩ : Fin 4) = a := Fin.ext (by simp; omega)
  have e2 : (⟨(j : ℕ) % 128, by omega⟩ : Fin 128) = d := Fin.ext (by simp; omega)
  rw [e1, e2]

theorem v1_at (c : Dev nD) (R : Fin 2048) (a : Fin 4) (d : Fin 128) (j : Fin 512) (hj : (j : ℕ) = (a : ℕ) * 128 + (d : ℕ)) :
    (V m c main_v1 : FVec Ideal S2048x512 .f32) (ix2 R j) = (m ((c : Thread nD τ).loc main_arg1) : FVec Ideal S2048x4x128 .f32) (ix3 R a d) := by
  entry_read
  pointwise
  have e1 : (⟨(j : ℕ) / 128, by omega⟩ : Fin 4) = a := Fin.ext (by simp; omega)
  have e2 : (⟨(j : ℕ) % 128, by omega⟩ : Fin 128) = d := Fin.ext (by simp; omega)
  rw [e1, e2]

theorem cst_at (c : Dev nD) (n k : Fin 128) :
    (V m c main_cst : FVec Ideal S128x128 .f32) (ix2 n k) = if (k : ℕ) = (n : ℕ) + 1 then (1 : EReal) else (0 : EReal) := by
  entry_read
  rw [table]
  split
  · exact Ideal.ofBits_one_f32
  · exact Ideal.ofBits_zero_f32

theorem blk0 (c : Dev nD) (t : Fin cfg0.N) (R : Fin 2048) (d : Fin 128) :
    (iblk m c 0 t : FVec Ideal S2048x128 .f32) (ix2 R d) = (V m c main_v0 : FVec Ideal S2048x512 .f32) (ix2 R ⟨t.val * 128 + d.val, by have := (idx t).2.2.2.2.2.2.2.2.2; omega⟩) := by
  blk_ext [iblk, idx t]

theorem blk1 (c : Dev nD) (t : Fin cfg0.N) (R : Fin 2048) (d : Fin 128) :
    (iblk m c 1 t : FVec Ideal S2048x128 .f32) (ix2 R d) = (V m c main_v1 : FVec Ideal S2048x512 .f32) (ix2 R ⟨t.val * 128 + d.val, by have := (idx t).2.2.2.2.2.2.2.2.2; omega⟩) := by
  blk_ext [iblk, idx t]

theorem blk0' (c : Dev nD) (t : Fin cfg0.N) (a : Fin 4) (ha : (a : ℕ) = t.val) :
    (iblk m c 0 t : FVec Ideal S2048x128 .f32) = head (m ((c : Thread nD τ).loc main_arg0)) a := by
  funext i
  idx_vars i
  exact (blk0 m c t _ _).trans (v0_at m c _ a _ _ (by simp [ha]))

theorem blk1' (c : Dev nD) (t : Fin cfg0.N) (a : Fin 4) (ha : (a : ℕ) = t.val) :
    (iblk m c 1 t : FVec Ideal S2048x128 .f32) = head (m ((c : Thread nD τ).loc main_arg1)) a := by
  funext i
  idx_vars i
  exact (blk1 m c t _ _).trans (v1_at m c _ a _ _ (by simp [ha]))

theorem blk2 (c : Dev nD) (t : Fin cfg0.N) :
    (iblk m c 2 t : FVec Ideal S4096x128 .f32) = (m ((c : Thread nD τ).loc main_arg2) : FVec Ideal S4096x128 .f32) := by
  funext i
  blk_ext [iblk, V, idx t]

theorem blk3 (c : Dev nD) (t : Fin cfg0.N) :
    (iblk m c 3 t : FVec Ideal S4096x128 .f32) = (m ((c : Thread nD τ).loc main_arg3) : FVec Ideal S4096x128 .f32) := by
  funext i
  blk_ext [iblk, V, idx t]

theorem blk4 (c : Dev nD) (t : Fin cfg0.N) (n k : Fin 128) :
    (iblk m c 4 t : FVec Ideal S128x128 .f32) (ix2 n k) = (V m c main_cst : FVec Ideal S128x128 .f32) (ix2 n k) := by
  blk_ext [iblk, idx t]

/-- The compressed keys (or values). -/
def GC (X : FVec Ideal S2048x4x128 .f32) (W : FVec Ideal S4096x128 .f32) : FVec Ideal S4x128x128 .f32 :=
  fun j => comp (head X (j 0)) W (j 1) (j 2)

/-- The keys, heads side by side. -/
def GK (X : FVec Ideal S2048x4x128 .f32) : FVec Ideal S2048x512 .bf16 := fun j =>
  X (ix3 (j 0) ⟨(j 1 : ℕ) / 128, by have : (j 1 : ℕ) < 512 := (j 1).isLt; omega⟩ ⟨(j 1 : ℕ) % 128, by omega⟩)

/-- The values, heads side by side, each followed by a column of ones and 127 of zeros. -/
def GV (X : FVec Ideal S2048x4x128 .f32) : FVec Ideal S2048x1024 .bf16 := fun j =>
  if h : (j 1 : ℕ) % 256 < 128 then
    X (ix3 (j 0) ⟨(j 1 : ℕ) / 256, by have : (j 1 : ℕ) < 1024 := (j 1).isLt; omega⟩ ⟨(j 1 : ℕ) % 256, h⟩)
  else if (j 1 : ℕ) % 256 = 128 then (1 : EReal) else 0

theorem final5 (c : Dev nD) : (dats m 0 c).arrAt 5 (cfgs 0).N
    = GC (m ((c : Thread nD τ).loc main_arg0)) (m ((c : Thread nD τ).loc main_arg2)) := by
  refine (dats m 0 c).arrAt_eq_of_covers 5 _ (by decide +kernel) fun t _ y => ?_
  blk_simp
  rw [after0_5]
  have h := (idx t).2.2.2.2.2
  rw [out5_at _ _ _ _ _ (fun n k => (blk4 m c t n k).trans (cst_at m c n k)), blk0' m c t ⟨t.val, h.2.2.2.2⟩ rfl, blk2, GC]
  have comp_eq : ∀ (a a' : Fin 4) (n n' e e' : Fin 128), (a : ℕ) = a' → (n : ℕ) = n' → (e : ℕ) = e' →
      comp (head (m ((c : Thread nD τ).loc main_arg0)) a) (m ((c : Thread nD τ).loc main_arg2)) n e
        = comp (head (m ((c : Thread nD τ).loc main_arg0)) a') (m ((c : Thread nD τ).loc main_arg2)) n' e' := by
    intro a a' n n' e e' p q r
    rw [Fin.ext p, Fin.ext q, Fin.ext r]
  refine comp_eq _ _ _ _ _ _ ?_ ?_ ?_
  all_goals (blk_simp [h.1] <;> try omega)
  all_goals
    have hy : (y 0 : ℕ) < 1 := (y 0).isLt
    simp only []
    omega

theorem final6 (c : Dev nD) : (dats m 0 c).arrAt 6 (cfgs 0).N
    = GC (m ((c : Thread nD τ).loc main_arg1)) (m ((c : Thread nD τ).loc main_arg3)) := by
  refine (dats m 0 c).arrAt_eq_of_covers 6 _ (by decide +kernel) fun t _ y => ?_
  blk_simp
  rw [after0_6]
  have h := (idx t).2.2.2.2.2
  rw [out6_at _ _ _ _ _ (fun n k => (blk4 m c t n k).trans (cst_at m c n k)), blk1' m c t ⟨t.val, h.2.2.2.2⟩ rfl, blk3, GC]
  have comp_eq : ∀ (a a' : Fin 4) (n n' e e' : Fin 128), (a : ℕ) = a' → (n : ℕ) = n' → (e : ℕ) = e' →
      comp (head (m ((c : Thread nD τ).loc main_arg1)) a) (m ((c : Thread nD τ).loc main_arg3)) n e
        = comp (head (m ((c : Thread nD τ).loc main_arg1)) a') (m ((c : Thread nD τ).loc main_arg3)) n' e' := by
    intro a a' n n' e e' p q r
    rw [Fin.ext p, Fin.ext q, Fin.ext r]
  refine comp_eq _ _ _ _ _ _ ?_ ?_ ?_
  all_goals (blk_simp [h.2.1] <;> try omega)
  all_goals
    have hy : (y 0 : ℕ) < 1 := (y 0).isLt
    simp only []
    omega

/-- Entries of the keys or values at equal places. -/
theorem at_eq (X : FVec Ideal S2048x4x128 .f32) (R R' : Fin 2048) (a a' : Fin 4) (d d' : Fin 128)
    (p : (R : ℕ) = R') (q : (a : ℕ) = a') (r : (d : ℕ) = d') : X (ix3 R a d) = X (ix3 R' a' d') := by
  rw [Fin.ext p, Fin.ext q, Fin.ext r]

theorem final7 (c : Dev nD) : (dats m 0 c).arrAt 7 (cfgs 0).N = GK (m ((c : Thread nD τ).loc main_arg0)) := by
  refine (dats m 0 c).arrAt_eq_of_covers 7 _ (by decide +kernel) fun t _ y => ?_
  blk_simp
  rw [after0_7]
  have h := (idx t).2.2.2.2.2
  rw [out7_at, blk0' m c t ⟨t.val, h.2.2.2.2⟩ rfl, GK, head]
  refine at_eq _ _ _ _ _ _ _ ?_ ?_ ?_
  all_goals (blk_simp [h.2.2.1] <;> try omega)
  all_goals
    have hy : (y 1 : ℕ) < 128 := (y 1).isLt
    simp only []
    omega

/-- The widened values at a column known by its head and its place in the head. -/
theorem GV_at (X : FVec Ideal S2048x4x128 .f32) (j : S2048x1024.Idx) (R : Fin 2048) (a : Fin 4) (l : Fin 256)
    (p : (R : ℕ) = j 0) (q : (j 1 : ℕ) = (a : ℕ) * 256 + l) :
    (if h : (l : ℕ) < 128 then head X a (ix2 R ⟨(l : ℕ), h⟩) else ones l) = GV X j := by
  have e1 : (j 1 : ℕ) % 256 = l := by omega
  have e2 : (j 1 : ℕ) / 256 = a := by omega
  rw [GV]
  by_cases h : (l : ℕ) < 128
  · rw [dif_pos h, dif_pos (by omega)]
    exact at_eq X _ _ _ _ _ _ p e2.symm e1.symm
  · rw [dif_neg h, dif_neg (by omega)]
    show (if (l : ℕ) = 128 then (1 : EReal) else 0) = _
    rw [e1]

theorem final8 (c : Dev nD) : (dats m 0 c).arrAt 8 (cfgs 0).N = GV (m ((c : Thread nD τ).loc main_arg1)) := by
  refine (dats m 0 c).arrAt_eq_of_covers 8 _ (by decide +kernel) fun t _ y => ?_
  blk_simp
  rw [after0_8]
  have h := (idx t).2.2.2.2.2
  rw [out8_at, blk1' m c t ⟨t.val, h.2.2.2.2⟩ rfl]
  refine GV_at _ _ _ ⟨t.val, h.2.2.2.2⟩ _ ?_ ?_
  all_goals (blk_simp [h.2.2.2.1] <;> try omega)

end Cert.CompressIdeal.Compress

end
-- ==== Proof.Compress.Reference.lean ====
/- The compression reference's results at an index: block `n` holds rows `16 n` to `16 n + 31`, rows past the end being zero. -/
module

public import proofs.«01_k».proof.Proof.Gen.CompressReferenceIdeal.Read
public import Idealize.ShloMosaic.Lib.Pointwise
public import Idealize.ShloMosaic.Lib.IdealHost
public import Idealize.ShloMosaic.Lib.WordCmp

@[expose] public section

set_option maxRecDepth 16384
set_option backward.proofsInPublic true

noncomputable section

namespace Cert.CompressReferenceIdeal.Compress

open Idealize.ShloMosaic Idealize.ShloMosaic.TcCoe Idealize.SL.Sem
open Cert.CompressReferenceIdeal Cert.CompressReferenceIdeal.Gen Cert.CompressReferenceIdeal.Read

/-- A row of the padded keys or values: zero past the end. -/
def padded (X : FVec Ideal S2048x4x128 .f32) (R : ℕ) (a : Fin 4) (d : Fin 128) : EReal :=
  if h : R < 2048 then X (ix3 ⟨R, h⟩ a d) else 0

theorem v9_at (X : FVec Ideal S2048x4x128 .f32) (R : Fin 2064) (a : Fin 4) (d : Fin 128) :
    val_main_v9 (F := Ideal) X (ix3 R a d) = padded X R a d := by
  pointwise [val_main_v9, val_main_call0_v0, val_main_c_0]
  have e0 : (FloatOps.sitofp (F := Ideal) FTy.f32 (0#32 : BitVec 32) : EReal) = 0 := by
    show ((((0#32 : BitVec 32).toInt : ℝ)) : EReal) = 0
    simp
  rw [padded, e0]

theorem v16_at (n : Fin 128) (j : Fin 32) : val_main_v16 (F := Ideal) (ix3 n j 0) = BitVec.ofNat 32 ((n : ℕ) * 16 + j) := by
  rw [val_main_v16_apply, val_main_v15_apply]
  pointwise [val_main_v12, val_main_v8, val_main_v6, val_main_v7, val_main_v3, val_main_v2, val_main_v1, val_main_v0, val_main_c, val_main_v5, val_main_v4, val_main_v11, val_main_c_2, idx_main_v16]
  have e1 : IntOp.addi (IntOp.muli (BitVec.ofNat 32 (n : ℕ)) 16#32) (BitVec.ofNat 32 (j : ℕ)) = BitVec.ofNat 32 ((n : ℕ) * 16 + j) := by
    rw [IntOp.addi, IntOp.muli, BitVec.ofNat_add, BitVec.ofNat_mul]
  have e2 : IntOp.cmpi CmpIPredicate.slt (BitVec.ofNat 32 ((n : ℕ) * 16 + j)) 0#32 = 0#1 := by
    rw [show (0#32 : BitVec 32) = BitVec.ofNat 32 0 from rfl, WordCmp.cmpi_slt_ofNat (by omega) (by omega)]
    simp
  rw [e1, e2]
  rfl

theorem gathered {α : Type} (x : S2064x4x128.Idx → α) (idx : IVec S128x32x1 32)
    (n : Fin 128) (j : Fin 32) (a : Fin 4) (d : Fin 128) (b : Fin 2064) (hb : idx (ix3 n j (0 : Fin 1)) = BitVec.ofNat 32 b.val) :
    Host.gather gather_S2064x4x128_S128x32x1_S128x32x4x128_23_0_n_n_0_2_14128 x idx (ix4 n j a d) = x (ix3 b a d) := by
  unfold Host.gather
  refine congrArg x (funext fun e => Fin.ext ?_)
  have hsi : gather_S2064x4x128_S128x32x1_S128x32x4x128_23_0_n_n_0_2_14128.siIdx (ix4 n j a d) ⟨0, by decide⟩ = ix3 n j (0 : Fin 1) := by
    funext e
    fin_cases e <;> rfl
  fin_cases e
  · show gather_S2064x4x128_S128x32x1_S128x32x4x128_23_0_n_n_0_2_14128.start (ix4 n j a d) idx 0 + 0 + 0 = b.val
    unfold GatherDims.start
    rw [dif_pos (by decide)]
    have hb' : idx (gather_S2064x4x128_S128x32x1_S128x32x4x128_23_0_n_n_0_2_14128.siIdx (ix4 n j a d) ⟨0, by decide⟩) = BitVec.ofNat 32 b.val := by
      rw [hsi, hb]
    refine (congrArg (fun z : BitVec 32 => min z.toInt.toNat 2063 + 0 + 0) hb').trans ?_
    have hl := b.isLt
    rw [BitVec.toInt_eq_toNat_of_lt (by rw [BitVec.toNat_ofNat]; omega), BitVec.toNat_ofNat]
    omega
  · show 0 + 0 + (a : ℕ) = a
    omega
  · show 0 + 0 + (d : ℕ) = d
    omega

theorem v17_at (X : FVec Ideal S2048x4x128 .f32) (n : Fin 128) (j : Fin 32) (a : Fin 4) (d : Fin 128) :
    val_main_v17 (F := Ideal) X (ix4 n j a d) = padded X ((n : ℕ) * 16 + j) a d :=
  (gathered _ _ n j a d ⟨(n : ℕ) * 16 + j, by omega⟩ (v16_at n j)).trans (v9_at X _ a d)

theorem v17_tile (X : FVec Ideal S2048x4x128 .f32) (n : Fin 128) (a : Fin 4) (j : Fin 32) (d : Fin 128) (p : Fin 32) (q : Fin 128)
    (hp : (p : ℕ) = ((j : ℕ) * 128 + d) / 128) (hq : (q : ℕ) = ((j : ℕ) * 128 + d) % 128) :
    val_main_v17 (F := Ideal) X (ix4 n p a q) = padded X ((n : ℕ) * 16 + j) a d := by
  obtain rfl : p = j := Fin.ext (by omega)
  obtain rfl : q = d := Fin.ext (by omega)
  exact v17_at X n p a q

/-- One entry of a block's 4096 numbers times its weight. -/
def termOf (X : FVec Ideal S2048x4x128 .f32) (W : FVec Ideal S4096x128 .f32) (a : Fin 4) (n e : Fin 128) (k : Fin 4096) : EReal :=
  val_main_v17 (F := Ideal) X (ix4 n ⟨(k : ℕ) / 128, by omega⟩ a ⟨(k : ℕ) % 128, by omega⟩) * W (ix2 k e)

theorem v30_sum (X : FVec Ideal S2048x4x128 .f32) (W : FVec Ideal S4096x128 .f32) (a : Fin 4) (n e : Fin 128) :
    val_main_v30 (F := Ideal) X W (ix3 a n e) = ∑ k : Fin 4096, termOf X W a n e k := by
  pointwise [val_main_v30, val_main_v29, val_main_v19, val_main_v18]
  rfl

theorem v30_at (X : FVec Ideal S2048x4x128 .f32) (W : FVec Ideal S4096x128 .f32) (a : Fin 4) (n e : Fin 128) :
    val_main_v30 (F := Ideal) X W (ix3 a n e)
      = ∑ j : Fin 32, ∑ d : Fin 128, padded X ((n : ℕ) * 16 + j) a d * W (ix2 ⟨(j : ℕ) * 128 + d, by omega⟩ e) := by
  rw [v30_sum]
  refine (Fin.sum_univ_tiles 32 128 rfl (termOf X W a n e)).trans ?_
  refine Finset.sum_congr rfl fun j _ => Finset.sum_congr rfl fun d _ => ?_
  rw [termOf, v17_tile X n a j d _ _ rfl rfl]

theorem v32_eq (X : FVec Ideal S2048x4x128 .f32) (W : FVec Ideal S4096x128 .f32) :
    val_main_v32 (F := Ideal) X W = val_main_v30 (F := Ideal) X W := rfl

theorem v37_at (X : FVec Ideal S2048x4x128 .f32) (R : Fin 2048) (c : Fin 512) :
    val_main_v37 (F := Ideal) X (ix2 R c) = X (ix3 R ⟨(c : ℕ) / 128, by omega⟩ ⟨(c : ℕ) % 128, by omega⟩) := by
  pointwise [val_main_v37, val_main_v36]

theorem v39_at (X : FVec Ideal S2048x4x128 .f32) (R : Fin 2048) (c : Fin 1024) :
    val_main_v39 (F := Ideal) X (ix2 R c) = if h : (c : ℕ) % 256 < 128 then X (ix3 R ⟨(c : ℕ) / 256, by omega⟩ ⟨(c : ℕ) % 256, h⟩)
      else if (c : ℕ) % 256 = 128 then 1 else 0 := by
  pointwise [val_main_v39, val_main_v38, val_main_v35, val_main_v34, val_main_v33, val_main_cst, val_main_cst_6]
  by_cases h : (c : ℕ) % 256 < 128
  · simp only [dif_pos h]
  · simp only [dif_neg h]
    by_cases h2 : (c : ℕ) % 256 = 128
    · rw [dif_pos (by omega), if_pos h2]
    · rw [dif_neg (by omega), if_neg h2]

end Cert.CompressReferenceIdeal.Compress

end
-- ==== Proof.Compress.Compare.lean ====
/- The compression call's arrays are the reference's results. -/
module

public import proofs.«01_k».proof.Proof.Compress.Final
public import proofs.«01_k».proof.Proof.Compress.Reference

@[expose] public section

set_option maxRecDepth 16384
set_option backward.proofsInPublic true

noncomputable section

namespace Cert.CompressReferenceIdeal.Compress

open Idealize.ShloMosaic Idealize.ShloMosaic.TcCoe Idealize.SL.Sem
open Cert.CompressReferenceIdeal Cert.CompressReferenceIdeal.Gen Cert.CompressReferenceIdeal.Read

variable (X : FVec Ideal S2048x4x128 .f32) (W : FVec Ideal S4096x128 .f32)

/-- A block of the reference is its two halves: the second begins sixteen rows later. -/
theorem halves (a : Fin 4) (n e : Fin 128) :
    ∑ j : Fin 32, ∑ d : Fin 128, padded X ((n : ℕ) * 16 + j) a d * W (ix2 ⟨(j : ℕ) * 128 + d, by omega⟩ e)
      = CompressIdeal.Compress.comp (CompressIdeal.Compress.head X a) W n e := by
  refine (Fin.sum_univ_two_halves 16 16 rfl fun j : Fin 32 => ∑ d : Fin 128, padded X ((n : ℕ) * 16 + j) a d * W (ix2 ⟨(j : ℕ) * 128 + d, by omega⟩ e)).trans ?_
  rw [CompressIdeal.Compress.comp]
  refine congrArg₂ (fun x y : EReal => x + y) ?_ ?_
  · rw [CompressIdeal.Compress.half]
    refine Finset.sum_congr rfl fun r _ => Finset.sum_congr rfl fun d _ => ?_
    refine congrArg₂ (fun x y : EReal => x * y) ?_ ?_
    · rw [padded, dif_pos (by simp only []; omega)]
      rfl
    · exact congrArg (fun j : Fin 4096 => W (ix2 j e)) (Fin.ext (by simp only []; omega))
  · split
    · rename_i h
      rw [CompressIdeal.Compress.half]
      refine Finset.sum_congr rfl fun r _ => Finset.sum_congr rfl fun d _ => ?_
      refine congrArg₂ (fun x y : EReal => x * y) ?_ ?_
      · rw [padded, dif_pos (by simp only []; omega)]
        show _ = X (ix3 (⟨((n : ℕ) + 1) * 16 + (r : ℕ), by omega⟩ : Fin 2048) a d)
        exact congrArg (fun j : Fin 2048 => X (ix3 j a d)) (Fin.ext (by simp only []; omega))
      · exact congrArg (fun j : Fin 4096 => W (ix2 j e)) (Fin.ext (by simp only []))
    · rename_i h
      refine Finset.sum_eq_zero fun r _ => Finset.sum_eq_zero fun d _ => ?_
      rw [padded, dif_neg (by simp only []; omega), zero_mul]

theorem same_ck : val_main_v30 (F := Ideal) X W = CompressIdeal.Compress.GC X W := by
  funext j
  idx_vars j
  exact (v30_at X W _ _ _).trans (halves X W _ _ _)

theorem same_k : val_main_v37 (F := Ideal) X = CompressIdeal.Compress.GK X := by
  funext j
  idx_vars j
  exact v37_at X _ _

theorem same_v : val_main_v39 (F := Ideal) X = CompressIdeal.Compress.GV X := by
  funext j
  idx_vars j
  exact v39_at X _ _

end Cert.CompressReferenceIdeal.Compress

end
-- ==== Proof.CmpAttn.Picks.lean ====
/- Choosing the greatest entries of a finite row, two ways: round by round, each round taking the maximum and
   lowering it to −∞, and by a stable descending sort. Either way the entries chosen in `k` rounds are those with
   fewer than `k` entries before them. -/
module

public import Idealize.ShloMosaic.Lib.PlanTiles.StableSort
public import Idealize.ShloMosaic.Lib.SortFacts
public import Idealize.ShloMosaic.PureOps.Ideal.Laws

@[expose] public section

set_option maxRecDepth 16384
set_option backward.proofsInPublic true

noncomputable section

namespace Cert.CmpAttnIdeal.Picks

open Idealize.ShloMosaic

/-! ### Rounds of maxima -/

/-- The maximum of a row of thirty-two entries. -/
def top (w : Fin 32 → EReal) : EReal := (Finset.univ : Finset (Fin 32)).fold max ⊥ w

/-- The row after `k` rounds: every round lowers the maximum to `⊥`. -/
def work (f : Fin 32 → EReal) : ℕ → Fin 32 → EReal
  | 0 => f
  | k + 1 => fun l => if work f k l = top (work f k) then ⊥ else work f k l

/-- The entries picked in the first `k` rounds. -/
def picked (f : Fin 32 → EReal) : ℕ → Fin 32 → Prop
  | 0 => fun _ => False
  | k + 1 => fun l => picked f k l ∨ work f k l = top (work f k)

/-- How many entries are greater. -/
def rank (f : Fin 32 → EReal) (l : Fin 32) : ℕ := (Finset.univ.filter fun c => f l < f c).card

theorem le_top (w : Fin 32 → EReal) (l : Fin 32) : w l ≤ top w :=
  (Finset.le_fold_max (w l)).2 (Or.inr ⟨l, Finset.mem_univ _, le_rfl⟩)

theorem top_eq (w : Fin 32 → EReal) (l : Fin 32) (h : ∀ c, w c ≤ w l) : top w = w l :=
  le_antisymm ((Finset.fold_max_le _).2 ⟨bot_le, fun c _ => h c⟩) (le_top w l)

theorem rank_lt_of_lt (f : Fin 32 → EReal) {a b : Fin 32} (h : f a < f b) : rank f b < rank f a := by
  refine Finset.card_lt_card ⟨fun c hc => ?_, fun hs => ?_⟩
  · rw [Finset.mem_filter] at hc ⊢
    exact ⟨hc.1, h.trans hc.2⟩
  · have := hs (Finset.mem_filter.2 ⟨Finset.mem_univ b, h⟩)
    exact lt_irrefl _ (Finset.mem_filter.1 this).2

theorem rank_lt (f : Fin 32 → EReal) (l : Fin 32) : rank f l < 32 := by
  have h : (Finset.univ.filter fun c => f l < f c).card < (Finset.univ : Finset (Fin 32)).card :=
    Finset.card_lt_card ⟨Finset.filter_subset _ _, fun hs => lt_irrefl _ (Finset.mem_filter.1 (hs (Finset.mem_univ l))).2⟩
  rw [Finset.card_univ, Fintype.card_fin] at h
  exact h

theorem exists_rank (f : Fin 32 → EReal) (hf : Function.Injective f) (k : ℕ) (hk : k < 32) : ∃ l, rank f l = k := by
  have hi : Function.Injective fun l => (⟨rank f l, rank_lt f l⟩ : Fin 32) := fun a b e => by
    have e' : rank f a = rank f b := congrArg Fin.val e
    rcases lt_trichotomy (f a) (f b) with h | h | h
    · have := rank_lt_of_lt f h; omega
    · exact hf h
    · have := rank_lt_of_lt f h; omega
  obtain ⟨l, hl⟩ := Finite.injective_iff_surjective.1 hi ⟨k, hk⟩
  exact ⟨l, congrArg Fin.val hl⟩

theorem rounds (f : Fin 32 → EReal) (hf : Function.Injective f) (k : ℕ) (hk : k ≤ 31) :
    (∀ l, work f k l = if rank f l < k then ⊥ else f l) ∧ (∀ l, picked f k l ↔ rank f l < k) := by
  induction k with
  | zero => exact ⟨fun l => by simp [work], fun l => by simp [picked]⟩
  | succ k ih =>
    obtain ⟨hw, hp⟩ := ih (by omega)
    obtain ⟨m, hm⟩ := exists_rank f hf k (by omega)
    obtain ⟨b, hb⟩ := exists_rank f hf 31 (by omega)
    have hmb : f b < f m := by
      rcases lt_trichotomy (f b) (f m) with h | h | h
      · exact h
      · rw [hf h] at hb; omega
      · have := rank_lt_of_lt f h; omega
    have hmk : work f k m = f m := by rw [hw, if_neg (by omega)]
    have htop : top (work f k) = f m := by
      rw [← hmk]
      refine top_eq _ _ fun c => ?_
      rw [hmk, hw]
      split
      · exact bot_le
      · rename_i h
        by_contra hc
        have := rank_lt_of_lt f (not_le.1 hc)
        omega
    have hq : ∀ l, work f k l = top (work f k) ↔ rank f l = k := fun l => by
      rw [htop, hw]
      constructor
      · intro h
        split at h
        · rw [← h] at hmb
          exact absurd hmb not_lt_bot
        · rw [hf h, hm]
      · intro h
        rw [if_neg (by omega)]
        rcases lt_trichotomy (f l) (f m) with h' | h' | h'
        · have := rank_lt_of_lt f h'; omega
        · exact h'
        · have := rank_lt_of_lt f h'; omega
    refine ⟨fun l => ?_, fun l => ?_⟩
    · show (if work f k l = top (work f k) then ⊥ else work f k l) = _
      by_cases h : rank f l = k
      · rw [if_pos ((hq l).2 h), if_pos (by omega)]
      · rw [if_neg fun e => h ((hq l).1 e), hw]
        by_cases h' : rank f l < k
        · rw [if_pos h', if_pos (by omega)]
        · rw [if_neg h', if_neg (by omega)]
    · show (picked f k l ∨ work f k l = top (work f k)) ↔ _
      rw [hp, hq]
      omega

/-! ### A stable descending sort -/

variable {n : ℕ} (x : Fin n → EReal)

/-- Entry `c` comes before entry `l`: it is greater, or equal and further to the left. -/
def Before (c l : Fin n) : Prop := x l < x c ∨ (x c = x l ∧ c < l)

open Classical in
/-- How many entries come before. -/
def pos (l : Fin n) : ℕ := (Finset.univ.filter fun c => Before x c l).card

/-- How many entries are less, a natural number that orders as the entries do. -/
def below (l : Fin n) : ℕ := (Finset.univ.filter fun c => x c < x l).card

theorem below_lt_of_lt {a b : Fin n} (h : x a < x b) : below x a < below x b := by
  refine Finset.card_lt_card ⟨fun c hc => ?_, fun hs => ?_⟩
  · rw [Finset.mem_filter] at hc ⊢
    exact ⟨hc.1, hc.2.trans h⟩
  · have := hs (Finset.mem_filter.2 ⟨Finset.mem_univ a, h⟩)
    exact lt_irrefl _ (Finset.mem_filter.1 this).2

theorem below_lt_iff {a b : Fin n} : below x a < below x b ↔ x a < x b := by
  refine ⟨fun h => ?_, below_lt_of_lt x⟩
  rcases lt_trichotomy (x a) (x b) with h' | h' | h'
  · exact h'
  · rw [below, below, h'] at h
    exact absurd h (lt_irrefl _)
  · have := below_lt_of_lt x h'; omega

theorem below_eq_iff {a b : Fin n} : below x a = below x b ↔ x a = x b := by
  constructor
  · intro h
    rcases lt_trichotomy (x a) (x b) with h' | h' | h'
    · have := below_lt_of_lt x h'; omega
    · exact h'
    · have := below_lt_of_lt x h'; omega
  · intro h
    rw [below, below, h]

theorem sorted_before : (sortPositions n fun a b => decide (x b < x a)).Pairwise (Before x) := by
  have e : (fun a b : Fin n => decide (x b < x a)) = fun a b => decide (below x b < below x a) := by
    funext a b
    exact decide_eq_decide.2 (below_lt_iff x).symm
  rw [e]
  refine (PlanTiles.pairwise_stableSort_lex (below x) (· < ·) (List.finRange n) (List.pairwise_lt_finRange n)).imp fun {a b} h => ?_
  rcases h with h | ⟨h, h'⟩
  · exact Or.inl ((below_lt_iff x).1 h)
  · exact Or.inr ⟨(below_eq_iff x).1 h, h'⟩

theorem before_asymm {a b : Fin n} (h : Before x a b) (h' : Before x b a) : False := by
  rcases h with h | ⟨h, h1⟩ <;> rcases h' with h' | ⟨h', h2⟩
  · exact lt_asymm h h'
  · exact absurd h' (ne_of_lt h).symm.symm
  · exact absurd h (ne_of_lt h').symm.symm
  · exact lt_asymm h1 h2

theorem pos_sortedFrom (k : Fin n) : pos x (sortedFrom (fun a b => decide (x b < x a)) k) = k := by
  classical
  have hs := sorted_before x
  have hl := length_sortPositions n fun a b => decide (x b < x a)
  have hperm := perm_sortPositions n fun a b => decide (x b < x a)
  set L := sortPositions n fun a b => decide (x b < x a) with hL
  have hk : (k : ℕ) < L.length := by rw [hl]; exact k.isLt
  have hget : sortedFrom (fun a b => decide (x b < x a)) k = L[(k : ℕ)] := rfl
  rw [hget]
  have hnd : L.Nodup := hperm.nodup_iff.2 (List.nodup_finRange n)
  have hpw := List.pairwise_iff_getElem.1 hs
  have hset : (Finset.univ.filter fun c => Before x c L[(k : ℕ)])
      = (Finset.univ : Finset (Fin (k : ℕ))).image fun i : Fin (k : ℕ) => L[(i : ℕ)]'(i.isLt.trans hk) := by
    ext c
    rw [Finset.mem_filter, Finset.mem_image]
    constructor
    · rintro ⟨_, hc⟩
      obtain ⟨i, hi, rfl⟩ := List.getElem_of_mem (hperm.mem_iff.2 (List.mem_finRange c))
      rcases lt_trichotomy i (k : ℕ) with h | h | h
      · exact ⟨⟨i, h⟩, Finset.mem_univ _, rfl⟩
      · subst h
        exact (before_asymm x hc hc).elim
      · exact (before_asymm x hc (hpw _ _ hk hi h)).elim
    · rintro ⟨i, _, rfl⟩
      exact ⟨Finset.mem_univ _, hpw _ _ _ hk i.isLt⟩
  rw [pos, hset, Finset.card_image_of_injective, Finset.card_univ, Fintype.card_fin]
  intro i j e
  exact Fin.ext ((List.Nodup.getElem_inj_iff hnd).1 e)

/-- The first `k` places of the sort hold the entries with fewer than `k` entries before them. -/
theorem mem_first (m : ℕ) (l : Fin n) :
    (∃ k : Fin n, (k : ℕ) < m ∧ sortedFrom (fun a b => decide (x b < x a)) k = l) ↔ pos x l < m := by
  constructor
  · rintro ⟨k, hk, rfl⟩
    rw [pos_sortedFrom]
    exact hk
  · intro h
    obtain ⟨k, rfl⟩ := sortedFrom_surjective (fun a b => decide (x b < x a)) l
    rw [pos_sortedFrom] at h
    exact ⟨k, h, rfl⟩

end Cert.CmpAttnIdeal.Picks

end
-- ==== Proof.CmpAttn.RefPicks.lean ====
/- The reference's pooled scores and block mask, read at an index. -/
module

public import proofs.«01_k».proof.Proof.Gen.CmpAttnReferenceIdeal.Read
public import proofs.«01_k».proof.Proof.CmpAttn.Picks
public import Idealize.ShloMosaic.Lib.Pointwise
public import Idealize.ShloMosaic.Lib.IdealHost
public import Idealize.ShloMosaic.Lib.WordCmp
public import Idealize.ShloMosaic.PureOps.Reduce

@[expose] public section

set_option maxRecDepth 16384
set_option backward.proofsInPublic true

noncomputable section

namespace Cert.CmpAttnReferenceIdeal.CmpAttn

open Idealize.ShloMosaic Idealize.ShloMosaic.TcCoe Idealize.SL.Sem
open Cert.CmpAttnReferenceIdeal Cert.CmpAttnReferenceIdeal.Gen Cert.CmpAttnReferenceIdeal.Read

variable (Q : FVec Ideal S2048x16x128 .f32) (CK : FVec Ideal S4x128x128 .f32)

theorem place_at (l : Fin 31) (j : Fin 5) : val_main_v45 (F := Ideal) (ix3 l j 0) = BitVec.ofNat 32 (4 * (l : ℕ) + j) := by
  pointwise [val_main_v45, val_main_v44, val_main_v43, val_main_v42, val_main_c_7, val_main_v41, val_main_v40, val_main_c_6, val_main_v39, val_main_v38, val_main_v37, val_main_v36, val_main_v35, val_main_v34, val_main_v33, val_main_c_5, val_main_v32, val_main_v31]
  have h : ∀ (l : Fin 31) (j : Fin 5), Scalar.select (IntOp.cmpi .slt (IntOp.addi (IntOp.muli (BitVec.ofNat 32 (l : ℕ)) 4#32) (BitVec.ofNat 32 (j : ℕ))) 0#32)
      (IntOp.addi (IntOp.addi (IntOp.muli (BitVec.ofNat 32 (l : ℕ)) 4#32) (BitVec.ofNat 32 (j : ℕ))) 127#32)
      (IntOp.addi (IntOp.muli (BitVec.ofNat 32 (l : ℕ)) 4#32) (BitVec.ofNat 32 (j : ℕ))) = BitVec.ofNat 32 (4 * (l : ℕ) + j) := by decide +kernel
  exact h l j

theorem gathered {α : Type} (x : S4x2048x127.Idx → α) (idx : IVec S31x5x1 32)
    (h : Fin 4) (s : Fin 2048) (l : Fin 31) (j : Fin 5) (b : Fin 127) (hb : idx (ix3 l j (0 : Fin 1)) = BitVec.ofNat 32 b.val) :
    Host.gather gather_S4x2048x127_S31x5x1_S4x2048x31x5_01_2_n_n_2_2_420481 x idx (ix4 h s l j) = x (ix3 h s b) := by
  unfold Host.gather
  refine congrArg x (funext fun e => Fin.ext ?_)
  have hsi : gather_S4x2048x127_S31x5x1_S4x2048x31x5_01_2_n_n_2_2_420481.siIdx (ix4 h s l j) ⟨0, by decide⟩ = ix3 l j (0 : Fin 1) := by
    funext e
    fin_cases e <;> rfl
  fin_cases e
  · show 0 + 0 + (h : ℕ) = h
    omega
  · show 0 + 0 + (s : ℕ) = s
    omega
  · show gather_S4x2048x127_S31x5x1_S4x2048x31x5_01_2_n_n_2_2_420481.start (ix4 h s l j) idx 2 + 0 + 0 = b.val
    unfold GatherDims.start
    rw [dif_pos (by decide)]
    have hb' : idx (gather_S4x2048x127_S31x5x1_S4x2048x31x5_01_2_n_n_2_2_420481.siIdx (ix4 h s l j) ⟨0, by decide⟩) = BitVec.ofNat 32 b.val := by
      rw [hsi, hb]
    refine (congrArg (fun z : BitVec 32 => min z.toInt.toNat 126 + 0 + 0) hb').trans ?_
    have hl := b.isLt
    rw [BitVec.toInt_eq_toNat_of_lt (by rw [BitVec.toNat_ofNat]; omega), BitVec.toNat_ofNat]
    omega

/-- The pooled score: the mean of five blocks' summed probabilities. -/
theorem pooled_at (h : Fin 4) (s : Fin 2048) (l : Fin 31) :
    (val_main_v49 (F := Ideal) Q CK : FVec Ideal S4x2048x31 .f32) (ix3 h s l)
      = Ideal.div (∑ j : Fin 5, (val_main_v30 (F := Ideal) Q CK : FVec Ideal S4x2048x127 .f32) (ix3 h s ⟨4 * (l : ℕ) + j, by omega⟩)) (Ideal.ofBits .f32 0x40A00000#32) := by
  have e : (val_main_v49 (F := Ideal) Q CK : FVec Ideal S4x2048x31 .f32) (ix3 h s l)
      = Ideal.div (∑ j : Fin 5, (val_main_v46 (F := Ideal) Q CK : FVec Ideal S4x2048x31x5 .f32) (ix4 h s l j)) (Ideal.ofBits .f32 0x40A00000#32) := by
    generalize hp : val_main_v46 (F := Ideal) Q CK = p
    pointwise [val_main_v49, val_main_v48, val_main_cst_9, val_main_v47, val_main_cst_8, hp]
  rw [e]
  refine congrArg (fun z : EReal => Ideal.div z _) (Finset.sum_congr rfl fun j _ => ?_)
  exact gathered _ _ h s l j ⟨4 * (l : ℕ) + j, by omega⟩ (place_at l j)

/-- Where the sixteen greatest entries of a row lie: the first sixteen places of the stable descending sort. -/
theorem topk_at (x : FVec Ideal S4x2048x31 .f32) (h : Fin 4) (s : Fin 2048) (k : Fin 16) :
    ((Host.topK S4x2048x16 2 (FloatOps.cmpfTotal (F := Ideal) (φ := .f32) .gt) x sliceFits_S4x2048x31_S4x2048x16).2 : IVec S4x2048x16 32) (ix3 h s k)
      = BitVec.ofNat 32 (sortedFrom (fun a b : Fin 31 => decide (x (ix3 h s b) < x (ix3 h s a))) ⟨(k : ℕ), by omega⟩ : ℕ) := by
  have along_at : ∀ b c : Fin 31, (ix3 h s c : S4x2048x31.Idx).along (2 : Fin 3) b = ix3 h s b := fun b c => by
    funext a
    match a with
    | ⟨0, _⟩ => rfl
    | ⟨1, _⟩ => rfl
    | ⟨2, _⟩ => rfl
  have gen : ∀ b : Fin 31, iotaInDim S4x2048x31 32 2 ((ix3 h s ⟨(k : ℕ), by omega⟩ : S4x2048x31.Idx).along (2 : Fin 3) b)
      = BitVec.ofNat 32 (b : ℕ) := fun b =>
    congrArg (fun i : S4x2048x31.Idx => iotaInDim S4x2048x31 32 2 i) (along_at b _)
  have key : ∀ j : S4x2048x31.Idx, j = ix3 h s ⟨(k : ℕ), by omega⟩ →
      (Host.sort2 S4x2048x31 2 (fun l r : EReal × BitVec 32 => FloatOps.cmpfTotal (F := Ideal) (φ := .f32) .gt l.1 r.1) x (iotaInDim S4x2048x31 32 2)).2 j
        = BitVec.ofNat 32 (sortedFrom (fun a b : Fin 31 => decide (x (ix3 h s b) < x (ix3 h s a))) ⟨(k : ℕ), by omega⟩ : ℕ) := by
    rintro j rfl
    have hs : (fun a b : Fin 31 => FloatOps.cmpfTotal (F := Ideal) (φ := .f32) .gt (x ((ix3 h s ⟨(k : ℕ), by omega⟩ : S4x2048x31.Idx).along (2 : Fin 3) a))
          (x ((ix3 h s ⟨(k : ℕ), by omega⟩ : S4x2048x31.Idx).along (2 : Fin 3) b)) == 1#1)
        = fun a b : Fin 31 => decide (x (ix3 h s b) < x (ix3 h s a)) := by
      funext a b
      rw [along_at, along_at]
      show (BitVec.ofBool (decide (x (ix3 h s b) < x (ix3 h s a))) == 1#1) = _
      cases decide (x (ix3 h s b) < x (ix3 h s a)) <;> rfl
    show iotaInDim S4x2048x31 32 2 ((ix3 h s ⟨(k : ℕ), by omega⟩ : S4x2048x31.Idx).along (2 : Fin 3)
      (sortedFrom (fun a b : Fin 31 => FloatOps.cmpfTotal (F := Ideal) (φ := .f32) .gt (x ((ix3 h s ⟨(k : ℕ), by omega⟩ : S4x2048x31.Idx).along (2 : Fin 3) a))
          (x ((ix3 h s ⟨(k : ℕ), by omega⟩ : S4x2048x31.Idx).along (2 : Fin 3) b)) == 1#1) (⟨(k : ℕ), by omega⟩ : Fin 31))) = _
    rw [hs]
    exact gen _
  refine key _ ?_
  funext a
  match a with
  | ⟨0, _⟩ => exact Fin.ext (Nat.zero_add _)
  | ⟨1, _⟩ => exact Fin.ext (Nat.zero_add _)
  | ⟨2, _⟩ => exact Fin.ext (Nat.zero_add _)

theorem fold_or {ι : Type} (x : ι → BitVec 1) (l : List ι) (z : BitVec 1) :
    l.foldl (fun r k => IntOp.ori r (x k)) z = 1#1 ↔ z = 1#1 ∨ ∃ k ∈ l, x k = 1#1 := by
  induction l generalizing z with
  | nil => simp
  | cons a l ih =>
    rw [List.foldl_cons, ih, IntOp.ori_eq_one]
    constructor
    · rintro ((h | h) | ⟨k, hk, h⟩)
      exacts [Or.inl h, Or.inr ⟨a, List.mem_cons_self, h⟩, Or.inr ⟨k, List.mem_cons_of_mem _ hk, h⟩]
    · rintro (h | ⟨k, hk, h⟩)
      · exact Or.inl (Or.inl h)
      · rcases List.mem_cons.1 hk with rfl | hk
        exacts [Or.inl (Or.inr h), Or.inr ⟨k, hk, h⟩]

/-- A disjunction over the sixteen picks. -/
theorem any_at (x : IVec S4x2048x16x32 1) (h : Fin 4) (s : Fin 2048) (l : Fin 32) :
    (Host.reduce IntOp.ori x (val_main_c_10 (F := Ideal)) reducesTo_S4x2048x16x32_S4x2048x32_d2 h_S_ : IVec S4x2048x32 1) (ix3 h s l) = 1#1
      ↔ ∃ k : Fin 16, x (ix4 h s k l) = 1#1 := by
  rw [Host.reduce_eq_foldl, fold_or]
  have z : val_main_c_10 (F := Ideal) (Shape.Idx.first h_S_) = 0#1 := rfl
  rw [z]
  constructor
  · rintro (h0 | ⟨i, hi, hx⟩)
    · exact absurd h0 (by decide)
    · rw [List.mem_filter] at hi
      have hd := of_decide_eq_true hi.2
      refine ⟨i 2, ?_⟩
      have hi' : i = ix4 h s (i 2) l := by
        funext a
        match a with
        | ⟨0, _⟩ => exact congrFun hd 0
        | ⟨1, _⟩ => exact congrFun hd 1
        | ⟨2, _⟩ => rfl
        | ⟨3, _⟩ => exact congrFun hd 2
      exact (congrArg x hi').symm.trans hx
  · rintro ⟨k, hk⟩
    refine Or.inr ⟨ix4 h s k l, ?_, hk⟩
    rw [List.mem_filter]
    refine ⟨List.mem_map.2 ⟨S4x2048x16x32.rowMajor (ix4 h s k l), List.mem_finRange _, Equiv.symm_apply_apply _ _⟩, decide_eq_true ?_⟩
    funext a
    match a with
    | ⟨0, _⟩ => rfl
    | ⟨1, _⟩ => rfl
    | ⟨2, _⟩ => rfl

/-- A row of pooled scores. -/
def row (h : Fin 4) (s : Fin 2048) : Fin 31 → EReal := fun l => (val_main_v49 (F := Ideal) Q CK : FVec Ideal S4x2048x31 .f32) (ix3 h s l)

/-- The picked blocks are those with fewer than sixteen before them. -/
theorem taken_at (h : Fin 4) (s : Fin 2048) (l : Fin 32) :
    (val_main_v59 (F := Ideal) Q CK : IVec S4x2048x32 1) (ix3 h s l) = 1#1
      ↔ ∃ hl : (l : ℕ) < 31, Cert.CmpAttnIdeal.Picks.pos (row Q CK h s) ⟨(l : ℕ), hl⟩ < 16 := by
  unfold val_main_v59
  rw [any_at]
  have e : ∀ k : Fin 16, (val_main_v58 (F := Ideal) Q CK : IVec S4x2048x16x32 1) (ix4 h s k l)
      = IntOp.cmpi .eq (BitVec.ofNat 32 (sortedFrom (fun a b : Fin 31 => decide (row Q CK h s b < row Q CK h s a)) ⟨(k : ℕ), by omega⟩ : ℕ)) (BitVec.ofNat 32 (l : ℕ)) := fun k => by
    refine Eq.trans ?_ (congrArg (fun z => IntOp.cmpi .eq z (BitVec.ofNat 32 (l : ℕ))) (topk_at (val_main_v49 (F := Ideal) Q CK) h s k))
    show _ = IntOp.cmpi .eq ((val_main_indices (F := Ideal) Q CK : IVec S4x2048x16 32) (ix3 h s k)) _
    generalize hp : val_main_indices (F := Ideal) Q CK = p
    pointwise [val_main_v58, val_main_v57, val_main_v56, val_main_v55, val_main_v54, val_main_v53, hp]
  have one : ∀ k : Fin 16, (val_main_v58 (F := Ideal) Q CK : IVec S4x2048x16x32 1) (ix4 h s k l) = 1#1
      ↔ (sortedFrom (fun a b : Fin 31 => decide (row Q CK h s b < row Q CK h s a)) ⟨(k : ℕ), by omega⟩ : ℕ) = l := fun k => by
    rw [e, WordCmp.cmpi_eq_ofNat (by omega) (by omega)]
    constructor
    · intro hh
      by_contra hn
      rw [decide_eq_false hn] at hh
      exact absurd hh (by decide)
    · intro hh
      rw [decide_eq_true hh]
      rfl
  constructor
  · rintro ⟨k, hk⟩
    have h1 := (one k).1 hk
    have hl : (l : ℕ) < 31 := by rw [← h1]; exact (sortedFrom _ _).isLt
    exact ⟨hl, (Cert.CmpAttnIdeal.Picks.mem_first (row Q CK h s) 16 ⟨(l : ℕ), hl⟩).1 ⟨⟨(k : ℕ), by omega⟩, k.isLt, Fin.ext h1⟩⟩
  · rintro ⟨hl, hp⟩
    obtain ⟨k, hk, hs⟩ := (Cert.CmpAttnIdeal.Picks.mem_first (row Q CK h s) 16 ⟨(l : ℕ), hl⟩).2 hp
    exact ⟨⟨(k : ℕ), hk⟩, (one ⟨(k : ℕ), hk⟩).2 (congrArg Fin.val hs)⟩

theorem own_word : ∀ s : Fin 2048,
    Scalar.select
      (IntOp.andi
        (IntOp.cmpi .ne
          (if BitVec.ofNat 32 (s : ℕ) = 0 then (0 : BitVec 32) else if (BitVec.ofNat 32 (s : ℕ)).msb = true then -1 else 1)
          (if (64#32 : BitVec 32) = 0 then (0 : BitVec 32) else if BitVec.msb (64#32) = true then -1 else 1))
        (IntOp.cmpi .ne (IntOp.remsi .host (BitVec.ofNat 32 (s : ℕ)) 64#32) 0#32))
      (IntOp.subi (IntOp.divsi .host (BitVec.ofNat 32 (s : ℕ)) 64#32) 1#32)
      (IntOp.divsi .host (BitVec.ofNat 32 (s : ℕ)) 64#32) = BitVec.ofNat 32 ((s : ℕ) / 64) := by
  decide +kernel

theorem own_at (s : Fin 2048) : val_main_v67 (F := Ideal) (ix1 s) = BitVec.ofNat 32 ((s : ℕ) / 64) := by
  pointwise [val_main_v67, val_main_v66, val_main_c_12, val_main_call1_v0, val_main_call1_v1, val_main_call1_v2, val_main_call1_v3, val_main_call1_v4, val_main_call1_v5, val_main_call1_v6, val_main_call1_v7, val_main_call1_v8, val_main_call1_c, val_main_call1_v9, val_main_call1_v10, val_main_call1_v11, val_main_call1_c_0, val_main_call1_v12, val_main_call1_v13]
  exact own_word s

/-- A bit read as a number. -/
theorem bit_val (b : BitVec 1) (p : Prop) [Decidable p] (h : b = 1#1 ↔ p) :
    (FloatOps.uitofp (F := Ideal) .f32 b : EReal) = if p then 1 else 0 := by
  show ((((b.toNat : ℝ))) : EReal) = _
  by_cases hp : p
  · rw [h.2 hp, if_pos hp]; simp
  · rw [(BitVec.eq_zero_or_eq_one b).resolve_right fun e => hp (h.1 e), if_neg hp]; simp

theorem bit_one (p : Prop) [Decidable p] : BitVec.ofBool (decide p) = 1#1 ↔ p := by
  by_cases h : p <;> simp [h]

open Classical in
/-- The reference's block mask. -/
theorem mask_at (h : Fin 4) (l : Fin 32) (s : Fin 2048) :
    (val_main_v76 (F := Ideal) Q CK : FVec Ideal S4x32x2048 .f32) (ix3 h l s)
      = if (∃ hl : (l : ℕ) < 31, Cert.CmpAttnIdeal.Picks.pos (row Q CK h s) ⟨(l : ℕ), hl⟩ < 16) ∨ (l : ℕ) = 0 ∨ (l : ℕ) = (s : ℕ) / 64 then (1 : EReal) else 0 := by
  have ht := taken_at Q CK h s l
  have ho := own_at s
  generalize hp : val_main_v59 (F := Ideal) Q CK = p at ht
  generalize hq : val_main_v67 (F := Ideal) = q at ho
  pointwise [val_main_v76, val_main_v75, val_main_v73, val_main_v72, val_main_v71, val_main_v70, val_main_v69, val_main_v68, val_main_v65, val_main_v64, val_main_v63, val_main_v62, val_main_v61, val_main_c_11, val_main_v60, val_main_v53, hp, hq]
  rw [ho, show (0#32 : BitVec 32) = BitVec.ofNat 32 0 from rfl, WordCmp.cmpi_eq_ofNat (by omega) (by omega),
    WordCmp.cmpi_eq_ofNat (by omega) (by omega)]
  refine bit_val _ _ ?_
  rw [IntOp.ori_eq_one, IntOp.ori_eq_one, ht, bit_one, bit_one, or_assoc]

end Cert.CmpAttnReferenceIdeal.CmpAttn

end
-- ==== Proof.CmpAttn.Pre.lean ====
/- What the precondition of the compressed attention's claim says of the arguments. -/
module

public import proofs.«01_k».proof.Proof.Gen.Pre_cmp_inputs
public import proofs.«01_k».proof.Proof.Gen.Pre_kernel_inputs
public import proofs.«01_k».proof.Proof.Gen.CmpAttnReferenceIdeal.Read
public import proofs.«01_k».proof.Proof.CmpAttn.RefPicks
public import proofs.«01_k».proof.Proof.Main.Pre
public import Idealize.ShloMosaic.Lib.Pointwise
public import Idealize.ShloMosaic.Lib.IdealHost
public import Idealize.ShloMosaic.PureOps.Reduce

@[expose] public section

set_option maxRecDepth 16384
set_option backward.proofsInPublic true

noncomputable section

namespace Cert.Pre_cmp_inputs.CmpAttn

open Idealize.ShloMosaic Idealize.ShloMosaic.TcCoe Idealize.SL.Sem
open Cert.Pre_cmp_inputs Cert.Pre_cmp_inputs.Gen

variable (Q : FVec Ideal S2048x16x128 .f32) (CK CV : FVec Ideal S4x128x128 .f32)

/-- The pooled scores' differences. -/
def gap (x : FVec Ideal S4x2048x31 .f32) : FVec Ideal S4x2048x31x31 .f32 :=
  subf (broadcastInDim S4x2048x31x31 ![0, 1, 2, 3] bcast_S4x2048x31x1_S4x2048x31x31_0_1_2_3 (broadcastInDim S4x2048x31x1 ![0, 1, 2] bcast_S4x2048x31_S4x2048x31x1_0_1_2 x))
    (broadcastInDim S4x2048x31x31 ![0, 1, 2, 3] bcast_S4x2048x1x31_S4x2048x31x31_0_1_2_3 (broadcastInDim S4x2048x1x31 ![0, 1, 3] bcast_S4x2048x31_S4x2048x1x31_0_1_3 x))

/-- The index of a difference's first block. -/
def fst : IVec S31x31 32 :=
  broadcastInDim S31x31 ![0, 1] bcast_S31x1_S31x31_0_1 (broadcastInDim S31x1 ![0] bcast_S31_S31x1_0 (iotaInDim S31 32 0))

/-- The index of its second block. -/
def snd : IVec S31x31 32 :=
  broadcastInDim S31x31 ![0, 1] bcast_S1x31_S31x31_0_1 (broadcastInDim S1x31 ![1] bcast_S31_S1x31_1 (iotaInDim S31 32 0))

theorem fn_eq : fn (F := Ideal) Q CK CV
    = fn_part3 (F := Ideal) Q CK (gap (Cert.CmpAttnReferenceIdeal.Read.val_main_v49 (F := Ideal) Q CK)) fst snd := rfl

theorem gap_at (x : FVec Ideal S4x2048x31 .f32) (h : Fin 4) (s : Fin 2048) (a b : Fin 31) :
    gap x (ix4 h s a b) = x (ix3 h s a) - x (ix3 h s b) := by
  pointwise [gap]

theorem fst_at (a b : Fin 31) : fst (ix2 a b) = BitVec.ofNat 32 (a : ℕ) := by
  pointwise [fst]

theorem snd_at (a b : Fin 31) : snd (ix2 a b) = BitVec.ofNat 32 (b : ℕ) := by
  pointwise [snd]

/-- The least difference two unequal pooled scores must exceed: the tie break between the two blocks. -/
def least : FVec Ideal S31x31 .f32 :=
  mulf (sitofp .f32 (subi fst snd)) (broadcastInDim S31x31 ![] bcast_S_S31x31 (constant S_ .f32 0x2EDBE6FF#32))

theorem word_diff : ∀ a b : Fin 31, (IntOp.subi (BitVec.ofNat 32 (a : ℕ)) (BitVec.ofNat 32 (b : ℕ))).toInt = (a : ℤ) - (b : ℤ) := by
  decide +kernel

theorem least_at (a b : Fin 31) : least (ix2 a b) = ((((a : ℕ) : ℝ) - ((b : ℕ) : ℝ) : ℝ) : EReal) * Ideal.ofBits .f32 0x2EDBE6FF#32 := by
  have e : least (ix2 a b) = (((IntOp.subi (fst (ix2 a b)) (snd (ix2 a b))).toInt : ℝ) : EReal) * Ideal.ofBits .f32 0x2EDBE6FF#32 := by
    generalize hf : fst = f
    generalize hs : snd = g
    pointwise [least, hf, hs]
    rfl
  rw [e, fst_at, snd_at, word_diff]
  push_cast
  rfl

theorem le_of_cmp (x y : EReal) (h : Ideal.cmp .ole x y = 1#1) : x ≤ y := by
  by_contra e
  simp [Ideal.cmp, e] at h

theorem gt_of_cmp (x y : EReal) (h : Ideal.cmp .ogt x y = 1#1) : y < x := by
  by_contra e
  simp [Ideal.cmp, e] at h

theorem reads (e : fn (F := Ideal) Q CK CV = fun _ => 1#1) :
    (∀ i, ∃ r : ℝ, Q i = (r : EReal)) ∧ (∀ i, ∃ r : ℝ, CK i = (r : EReal))
      ∧ ∀ (h : Fin 4) (s : Fin 2048) (a b : Fin 31),
        Cert.CmpAttnReferenceIdeal.CmpAttn.row Q CK h s a - Cert.CmpAttnReferenceIdeal.CmpAttn.row Q CK h s b ≤ 0
          ∨ ((((a : ℕ) : ℝ) - ((b : ℕ) : ℝ) : ℝ) : EReal) * Ideal.ofBits .f32 0x2EDBE6FF#32
            < Cert.CmpAttnReferenceIdeal.CmpAttn.row Q CK h s a - Cert.CmpAttnReferenceIdeal.CmpAttn.row Q CK h s b := by
  rw [fn_eq] at e
  generalize hx : (Cert.CmpAttnReferenceIdeal.Read.val_main_v49 (F := Ideal) Q CK : FVec Ideal S4x2048x31 .f32) = x at e
  have hr : ∀ h s a, Cert.CmpAttnReferenceIdeal.CmpAttn.row Q CK h s a = x (ix3 h s a) := fun h s a => congrFun hx (ix3 h s a)
  generalize hg : gap x = gx at e
  have e0 := congrFun e ix0
  dsimp only [fn_part3, fn_part4] at e0
  obtain ⟨e1, h3⟩ := IntOp.andi_eq_one.1 e0
  obtain ⟨h1, h2⟩ := IntOp.andi_eq_one.1 e1
  refine ⟨fun i => ?_, fun i => ?_, fun h s a b => ?_⟩
  · have := Host.reduce_andi_all _ _ _ _ _ h1 i
    refine Cert.Pre_kernel_inputs.Main.real_of_abs _ ?_
    rw [← Cert.Pre_kernel_inputs.Main.plus_inf]
    exact this
  · have := Host.reduce_andi_all _ _ _ _ _ h2 i
    refine Cert.Pre_kernel_inputs.Main.real_of_abs _ ?_
    rw [← Cert.Pre_kernel_inputs.Main.plus_inf]
    exact this
  · rw [hr, hr, ← gap_at, hg, ← least_at]
    rcases IntOp.ori_eq_one.1 (Host.reduce_andi_all _ _ _ _ _ h3 (ix4 h s a b)) with h4 | h4
    · exact Or.inl ((le_of_cmp _ _ h4).trans (le_of_eq Ideal.ofBits_zero_f32))
    · refine Or.inr (lt_of_eq_of_lt ?_ (gt_of_cmp _ _ h4))
      generalize hl : least = y
      have hl' := hl
      rw [least] at hl'
      pointwise [hl']

end Cert.Pre_cmp_inputs.CmpAttn

end
-- ==== Proof.CmpAttn.Steps.lean ====
/- The compressed attention call's blocks as named steps: the probabilities of one head, their running sum over the
   heads of a group, and the sixteen rounds that pick blocks from the summed scores. -/
module

public import proofs.«01_k».proof.Proof.Gen.CmpAttnIdeal.Value
public import Idealize.ShloMosaic.Lib.Pointwise
public import Idealize.ShloMosaic.Lib.Pipeline.ValueKit

@[expose] public section

set_option maxRecDepth 16384
set_option backward.proofsInPublic true

noncomputable section

namespace Cert.CmpAttnIdeal.CmpAttn

open Idealize.ShloMosaic Idealize.ShloMosaic.TcCoe Idealize.SL.Sem
open Cert.CmpAttnIdeal Cert.CmpAttnIdeal.Gen

section
variable {F : FTy → Type} [FloatOps F] [Named F]

/-- Every column's maximum, down the column. -/
def highest (w : FVec F S32x2048 .f32) : FVec F S32x2048 .f32 :=
  broadcastTo S32x2048
    (shapeCast S1x2048 (multiReduction .maximumf [0] S2048 w 0xFF800000#32 reduces_S32x2048_S2048 (.inl rfl) rfl) shapeCasts_S2048_S1x2048)
    broadcasts_S1x2048_S32x2048

/-- Where a column takes its maximum. -/
def hit (w : FVec F S32x2048 .f32) : IVec S32x2048 1 := cmpf .oeq w (highest w)

/-- The block after `k` rounds. -/
def rest (w : FVec F S32x2048 .f32) : ℕ → FVec F S32x2048 .f32
  | 0 => w
  | k + 1 => select (hit (rest w k)) (broadcast S32x2048 (Named.named κ "mask" 0xF149F2CA#32)) (rest w k)

/-- What the first `k` rounds picked. -/
def chosen (w : FVec F S32x2048 .f32) : ℕ → IVec S32x2048 1
  | 0 => broadcast S32x2048 0#1
  | k + 1 => ori (chosen w k) (hit (rest w k))

def rowNo : IVec S32x2048 32 := iota .tc S32x2048 32 [0] iota_S32x2048_d0_w32

def colNo : IVec S32x2048 32 := iota .tc S32x2048 32 [1] iota_S32x2048_d1_w32

/-- The stored mask: the picked blocks, the first block, and the column's own block. -/
def mask (s : FVec F S128x2048 .f32) (p : FVec F S128x32 .f32) : FVec F S1x32x2048 .f32 :=
  k0_pay5 rowNo colNo (ori (chosen (k0_pay6 s p) 16) (cmpi .eq rowNo (broadcast S32x2048 0#32))) 64#32 (k0_pay31 colNo) (k0_pay32 colNo) k0_pay33

theorem mask_eq (s : FVec F S128x2048 .f32) (p : FVec F S128x32 .f32) :
    k0_pay5 (F := F) rowNo colNo
      (k0_pay30 rowNo (k0_pay27 (k0_pay12 s p) (k0_pay13 s p) (k0_pay14 s p) (Named.named κ "mask" 0xF149F2CA#32))
        (k0_pay28 (k0_pay12 s p) (k0_pay13 s p) (Named.named κ "mask" 0xF149F2CA#32))
        (k0_pay29 (k0_pay12 s p) (k0_pay13 s p) (Named.named κ "mask" 0xF149F2CA#32))) 64#32 (k0_pay31 colNo) (k0_pay32 colNo) k0_pay33
      = mask s p := rfl
end

variable (m : (ℓ : Loc nD τ sig) → Buf (Elt Ideal) ℓ)

theorem out_at (c : Dev nD) (t : Fin cfg0.N) :
    (outsAt0 m c t.val t.isLt).1 = k0_pay2 (F := Ideal) (iblk m c 1 t) (iblk m c 0 t) (iblk m c 4 t) (iblk m c 2 t) := by
  by_cases h0 : t.val % 4 = 0
  · rw [outsAt0_A m c t h0 (by omega) (by omega)]
    frame_out
  · by_cases h2 : t.val % 4 = 3
    · rw [outsAt0_C m c t h0 (by omega) h2]
      frame_out
    · rw [outsAt0_B m c t h0 (by omega) h2]
      frame_out

theorem sum_first (c : Dev nD) (t : Fin cfg0.N) (h0 : t.val % 4 = 0) :
    (outsAt0 m c t.val t.isLt).2.2 = k0_pay3 (F := Ideal) (iblk m c 1 t) (iblk m c 0 t) (iblk m c 4 t) := by
  rw [outsAt0_A m c t h0 (by omega) (by omega)]
  frame_out

theorem sum_next (c : Dev nD) (t : Fin cfg0.N) (h0 : ¬t.val % 4 = 0) :
    (outsAt0 m c t.val t.isLt).2.2 = k0_pay4 (F := Ideal) (iblk m c 1 t) (iblk m c 0 t) (iblk m c 4 t)
      (outsAt0 m c (t.val - 1) (Nat.lt_of_le_of_lt (Nat.sub_le _ _) t.isLt)).2.2 := by
  by_cases h2 : t.val % 4 = 3
  · rw [outsAt0_C m c t h0 (by omega) h2]
    frame_out
    rw [(Memref.isWhole_whole _).read_unread]
  · rw [outsAt0_B m c t h0 (by omega) h2]
    frame_out
    rw [(Memref.isWhole_whole _).read_unread]

theorem mask_at (c : Dev nD) (t : Fin cfg0.N) (h2 : t.val % 4 = 3) :
    (outsAt0 m c t.val t.isLt).2.1 = mask (F := Ideal)
      (k0_pay4 (F := Ideal) (iblk m c 1 t) (iblk m c 0 t) (iblk m c 4 t)
        (outsAt0 m c (t.val - 1) (Nat.lt_of_le_of_lt (Nat.sub_le _ _) t.isLt)).2.2) (iblk m c 3 t) := by
  rw [outsAt0_C m c t (by omega) (by omega) h2]
  frame_out
  rw [(Memref.isWhole_whole _).read_unread]
  exact mask_eq _ _

end Cert.CmpAttnIdeal.CmpAttn

end
-- ==== Proof.CmpAttn.Tile.lean ====
/- The compressed attention call's steps read at an index. -/
module

public import proofs.«01_k».proof.Proof.CmpAttn.Steps
public import proofs.«01_k».proof.Proof.CmpAttn.Picks
public import Idealize.ShloMosaic.Lib.WordCmp
public import Idealize.ShloMosaic.Lib.IdealHost

@[expose] public section

set_option maxRecDepth 16384
set_option backward.proofsInPublic true

noncomputable section

namespace Cert.CmpAttnIdeal.CmpAttn

open Idealize.ShloMosaic Idealize.ShloMosaic.TcCoe Idealize.SL.Sem
open Cert.CmpAttnIdeal Cert.CmpAttnIdeal.Gen

/-- The softmax scale, 1/√128. -/
abbrev scale : EReal := Named.named (F := Ideal) Cert.CmpAttnIdeal.κ "scale" (φ := .f32) 0x3DB504F3#32

/-- One fifth. -/
abbrev fifth : EReal := Named.named (F := Ideal) Cert.CmpAttnIdeal.κ "fifth" (φ := .f32) 0x3E4CCCCD#32

/-- What a picked entry is lowered to. -/
abbrev low : EReal := Named.named (F := Ideal) Cert.CmpAttnIdeal.κ "mask" (φ := .f32) 0xF149F2CA#32

/-- The number that separates equal scores. -/
abbrev tie : EReal := Ideal.ofBits .f32 0x2EDBE6FF#32

theorem scale_eq : scale = (((Real.sqrt 128)⁻¹ : ℝ) : EReal) := IdealRules.named_const.ideal_named_scalar _ _ _ _ rfl

theorem fifth_eq : fifth = ((1 / 5 : ℝ) : EReal) := IdealRules.named_const.ideal_named_scalar _ _ _ _ rfl

theorem low_eq : low = ⊥ := IdealRules.named_const.ideal_named_scalar _ _ _ _ rfl

/-- The weight of block `n` for query `R` before the softmax divides by the weights' sum. -/
def wt (ck : FVec Ideal S1x128x128 .f32) (q : FVec Ideal S2048x128 .f32) (vis : FVec Ideal S128x2048 .f32) (n : Fin 128) (R : Fin 2048) : EReal :=
  Ideal.exp (∑ d : Fin 128, (ck (ix3 0 n d) * scale) * q (ix2 R d)) * vis (ix2 n R)

theorem probs_pt (ck : FVec Ideal S1x128x128 .f32) (q : FVec Ideal S2048x128 .f32) (vis : FVec Ideal S128x2048 .f32) (n : Fin 128) (R : Fin 2048) :
    k0_pay1 (F := Ideal) ck q vis (ix2 n R) = Ideal.div (wt ck q vis n R) (∑ x : Fin 128, wt ck q vis x R) := by
  pointwise [k0_pay1, wt]

theorem out_pt (ck : FVec Ideal S1x128x128 .f32) (q : FVec Ideal S2048x128 .f32) (vis : FVec Ideal S128x2048 .f32) (cv : FVec Ideal S1x128x128 .f32)
    (R : Fin 2048) (e : Fin 128) :
    k0_pay2 (F := Ideal) ck q vis cv (ix2 R e) = ∑ n : Fin 128, k0_pay1 (F := Ideal) ck q vis (ix2 n R) * cv (ix3 0 n e) := by
  generalize hp : k0_pay1 (F := Ideal) ck q vis = p
  pointwise [k0_pay2, hp]

theorem first_pt (ck : FVec Ideal S1x128x128 .f32) (q : FVec Ideal S2048x128 .f32) (vis : FVec Ideal S128x2048 .f32) (n : Fin 128) (R : Fin 2048) :
    k0_pay3 (F := Ideal) ck q vis (ix2 n R) = k0_pay1 (F := Ideal) ck q vis (ix2 n R) := by
  generalize hp : k0_pay1 (F := Ideal) ck q vis = p
  pointwise [k0_pay3, hp]

theorem next_pt (ck : FVec Ideal S1x128x128 .f32) (q : FVec Ideal S2048x128 .f32) (vis s : FVec Ideal S128x2048 .f32) (n : Fin 128) (R : Fin 2048) :
    k0_pay4 (F := Ideal) ck q vis s (ix2 n R) = s (ix2 n R) + k0_pay1 (F := Ideal) ck q vis (ix2 n R) := by
  generalize hp : k0_pay1 (F := Ideal) ck q vis = p
  pointwise [k0_pay4, hp]

/-- The pooled score of block `l`, less what separates it from equal ones. -/
def score (s : FVec Ideal S128x2048 .f32) (p : FVec Ideal S128x32 .f32) (R : Fin 2048) (l : Fin 32) : EReal :=
  (if (l : ℕ) < 31 then (∑ n : Fin 128, p (ix2 n l) * s (ix2 n R)) * fifth else low) - (((l : ℕ) : ℝ) : EReal) * tie

theorem score_pt (s : FVec Ideal S128x2048 .f32) (p : FVec Ideal S128x32 .f32) (l : Fin 32) (R : Fin 2048) :
    k0_pay6 (F := Ideal) s p (ix2 l R) = score s p R l := by
  pointwise [k0_pay6, score]
  rw [show (31#32 : BitVec 32) = BitVec.ofNat 32 31 from rfl, WordCmp.cmpi_slt_ofNat (by omega) (by omega)]
  have hl : (FloatOps.sitofp (F := Ideal) .f32 (BitVec.ofNat 32 (l : ℕ)) : EReal) = (((l : ℕ) : ℝ) : EReal) := by
    show ((((BitVec.ofNat 32 (l : ℕ)).toInt : ℝ)) : EReal) = _
    rw [show (BitVec.ofNat 32 (l : ℕ)).toInt = ((l : ℕ) : ℤ) by simp only [BitVec.toInt_eq_toNat_bmod, BitVec.toNat_ofNat, Int.bmod_def]; omega]
    norm_cast
  rw [hl]
  by_cases h : (l : ℕ) < 31 <;> simp [h, Scalar.select]

theorem highest_pt (w : FVec Ideal S32x2048 .f32) (l : Fin 32) (R : Fin 2048) :
    highest (F := Ideal) w (ix2 l R) = Picks.top fun x => w (ix2 x R) := by
  have e : highest (F := Ideal) w (ix2 l R)
      = multiReduction (F := Ideal) .maximumf [0] S2048 w 0xFF800000#32 reduces_S32x2048_S2048 (.inl rfl) rfl (ix1 R) := by
    pointwise [highest]
  refine e.trans ((Ideal.multiReduction_maximumf_single w _ _ (.inl rfl) rfl (ix1 R)).trans ?_)
  show Finset.fold max (Ideal.ofBits .f32 0xFF800000#32) _ _ = Finset.fold max ⊥ _ _
  rw [show Ideal.ofBits .f32 0xFF800000#32 = ⊥ by simp [Ideal.ofBits, Ideal.ieee]]
  refine congrArg (fun g : Fin 32 → EReal => Finset.fold max ⊥ g Finset.univ) (funext fun x => congrArg w ?_)
  funext a
  match a with
  | ⟨0, _⟩ => rfl
  | ⟨1, _⟩ => rfl

theorem rest_pt (w : FVec Ideal S32x2048 .f32) (R : Fin 2048) (k : ℕ) (l : Fin 32) :
    rest (F := Ideal) w k (ix2 l R) = Picks.work (fun x => w (ix2 x R)) k l := by
  induction k generalizing l with
  | zero => rfl
  | succ k ih =>
    have h : highest (F := Ideal) (rest w k) (ix2 l R) = Picks.top (Picks.work (fun x => w (ix2 x R)) k) := by
      rw [highest_pt]
      exact congrArg Picks.top (funext ih)
    have e : rest (F := Ideal) w (k + 1) (ix2 l R)
        = Scalar.select (FloatOps.cmpf .oeq (rest (F := Ideal) w k (ix2 l R)) (highest (F := Ideal) (rest w k) (ix2 l R))) low (rest (F := Ideal) w k (ix2 l R)) := by
      generalize hr : rest (F := Ideal) w k = r
      pointwise [rest, hit, hr]
    rw [e, h, ih, low_eq]
    show _ = if _ then _ else _
    generalize Picks.work (fun x => w (ix2 x R)) k l = a
    generalize Picks.top (Picks.work (fun x => w (ix2 x R)) k) = b
    show Scalar.select (BitVec.ofBool (decide (a = b))) ⊥ a = _
    by_cases h : a = b <;> simp [h, Scalar.select]

theorem bit_one (p : Prop) [Decidable p] : BitVec.ofBool (decide p) = 1#1 ↔ p := by
  by_cases h : p <;> simp [h]

theorem chosen_pt (w : FVec Ideal S32x2048 .f32) (R : Fin 2048) (k : ℕ) (l : Fin 32) :
    chosen (F := Ideal) w k (ix2 l R) = 1#1 ↔ Picks.picked (fun x => w (ix2 x R)) k l := by
  induction k with
  | zero =>
    have e : chosen (F := Ideal) w 0 (ix2 l R) = 0#1 := rfl
    rw [e]
    exact ⟨fun h => absurd h (by decide), fun h => h.elim⟩
  | succ k ih =>
    have h : highest (F := Ideal) (rest w k) (ix2 l R) = Picks.top (Picks.work (fun x => w (ix2 x R)) k) := by
      rw [highest_pt]
      exact congrArg Picks.top (funext fun x => rest_pt w R k x)
    have e : chosen (F := Ideal) w (k + 1) (ix2 l R) = IntOp.ori (chosen (F := Ideal) w k (ix2 l R))
        (BitVec.ofBool (decide (rest (F := Ideal) w k (ix2 l R) = highest (F := Ideal) (rest w k) (ix2 l R)))) := rfl
    rw [e, IntOp.ori_eq_one, h, rest_pt, ih]
    exact or_congr Iff.rfl (bit_one _)

/-- A column's own block. -/
theorem own_word : ∀ R : Fin 2048,
    Scalar.select
      (IntOp.andi
        (IntOp.cmpi .ne
          (IntOp.subi (BitVec.setWidth 32 (IntOp.cmpi .sgt (BitVec.ofNat 32 (R : ℕ)) 0#32))
            (BitVec.setWidth 32 (IntOp.cmpi .slt (BitVec.ofNat 32 (R : ℕ)) 0#32)))
          (Scalar.subi (Scalar.extui (Scalar.cmpi .sgt 64#32 0#32)) (Scalar.extui (Scalar.cmpi .slt 64#32 0#32))))
        (IntOp.cmpi .ne (IntOp.remsi .vector (BitVec.ofNat 32 (R : ℕ)) 64#32) 0#32))
      (IntOp.subi (IntOp.divsi .vector (BitVec.ofNat 32 (R : ℕ)) 64#32) 1#32)
      (IntOp.divsi .vector (BitVec.ofNat 32 (R : ℕ)) 64#32) = BitVec.ofNat 32 ((R : ℕ) / 64) := by
  decide +kernel

/-- A bit widened and read as a number. -/
theorem bit_val (b : BitVec 1) (p : Prop) [Decidable p] (h : b = 1#1 ↔ p) :
    (FloatOps.sitofp (F := Ideal) .f32 (BitVec.setWidth 32 b) : EReal) = if p then 1 else 0 := by
  show ((((BitVec.setWidth 32 b).toInt : ℝ)) : EReal) = _
  by_cases hp : p
  · rw [h.2 hp, if_pos hp]; simp
  · rw [(BitVec.eq_zero_or_eq_one b).resolve_right fun e => hp (h.1 e), if_neg hp]; simp

open Classical in
theorem mask_pt (s : FVec Ideal S128x2048 .f32) (p : FVec Ideal S128x32 .f32) (l : Fin 32) (R : Fin 2048) :
    mask (F := Ideal) s p (ix3 0 l R)
      = if Picks.picked (score s p R) 16 l ∨ (l : ℕ) = 0 ∨ (l : ℕ) = (R : ℕ) / 64 then (1 : EReal) else 0 := by
  have hc := chosen_pt (k0_pay6 (F := Ideal) s p) R 16 l
  rw [show (fun x => k0_pay6 (F := Ideal) s p (ix2 x R)) = score s p R from funext fun x => score_pt s p x R] at hc
  generalize hw : chosen (F := Ideal) (k0_pay6 s p) 16 = w at hc
  pointwise [mask, k0_pay5, k0_pay31, k0_pay32, k0_pay33, rowNo, colNo, hw]
  rw [own_word R, show (0#32 : BitVec 32) = BitVec.ofNat 32 0 from rfl, WordCmp.cmpi_eq_ofNat (by omega) (by omega),
    WordCmp.cmpi_eq_ofNat (by omega) (by omega)]
  refine bit_val _ _ ?_
  rw [IntOp.ori_eq_one, IntOp.ori_eq_one, hc, bit_one, bit_one, or_assoc]

end Cert.CmpAttnIdeal.CmpAttn

end
-- ==== Proof.CmpAttn.Table.lean ====
/- The pooling table: row `l` of the pooled scores takes the five blocks from `4 l` on, and the last row none. -/
module

public import proofs.«01_k».proof.Proof.Gen.CmpAttnIdeal.Value
public import Idealize.ShloMosaic.Lib.Pointwise

@[expose] public section

set_option maxRecDepth 16384
set_option backward.proofsInPublic true

noncomputable section

namespace Cert.CmpAttnIdeal.CmpAttn

open Idealize.ShloMosaic Idealize.ShloMosaic.TcCoe Idealize.SL.Sem
open Cert.CmpAttnIdeal Cert.CmpAttnIdeal.Gen

theorem table : ∀ (n : Fin 128) (l : Fin 32), lit0 (S128x32.rowMajor (ix2 n l))
    = if (l : ℕ) < 31 ∧ 4 * (l : ℕ) ≤ (n : ℕ) ∧ (n : ℕ) < 4 * (l : ℕ) + 5 then 0x3F800000#32 else 0x00000000#32 := by
  decide +kernel

end Cert.CmpAttnIdeal.CmpAttn

end
-- ==== Proof.CmpAttn.Operands.lean ====
/- What the compressed attention call's blocks hold: grid point `t` is query head `t`, whose compressed keys and values are
   head `t / 4`. -/
module

public import proofs.«01_k».proof.Proof.CmpAttn.Table
public import Idealize.ShloMosaic.Lib.WordCmp
public import Idealize.ShloMosaic.Lib.IdealHost
public import Idealize.ShloMosaic.Lib.Claim
public import Idealize.ShloMosaic.Lib.Pipeline.ValueKit

@[expose] public section

set_option maxRecDepth 16384
set_option backward.proofsInPublic true

noncomputable section

namespace Cert.CmpAttnIdeal.CmpAttn

open Idealize.ShloMosaic Idealize.ShloMosaic.TcCoe Idealize.SL.Sem
open Cert.CmpAttnIdeal Cert.CmpAttnIdeal.Gen

variable (m : (ℓ : Loc nD τ sig) → Buf (Elt Ideal) ℓ)

/-- The windows' block indices. -/
theorem idx : ∀ t : Fin cfg0.N, win0_0.index t = ![0, t.val] ∧ win0_1.index t = ![t.val / 4, 0, 0]
    ∧ win0_2.index t = ![t.val / 4, 0, 0] ∧ win0_3.index t = ![0, 0] ∧ win0_4.index t = ![0, 0]
    ∧ win0_5.index t = ![0, t.val] ∧ win0_6.index t = ![t.val / 4, 0, 0] ∧ t.val < 16 :=
  (by decide +kernel : ∀ t : Fin grid0.N, _)

theorem v0_at (c : Dev nD) (R : Fin 2048) (a : Fin 16) (d : Fin 128) (j : Fin 2048) (hj : (j : ℕ) = (a : ℕ) * 128 + (d : ℕ)) :
    (V m c main_v0 : FVec Ideal S2048x2048 .f32) (ix2 R j) = (m ((c : Thread nD τ).loc main_arg0) : FVec Ideal S2048x16x128 .f32) (ix3 R a d) := by
  entry_read
  pointwise
  have e1 : (⟨(j : ℕ) / 128, by omega⟩ : Fin 16) = a := Fin.ext (by simp; omega)
  have e2 : (⟨(j : ℕ) % 128, by omega⟩ : Fin 128) = d := Fin.ext (by simp; omega)
  rw [e1, e2]

theorem cst_at (c : Dev nD) (n : Fin 128) (l : Fin 32) :
    (V m c main_cst : FVec Ideal S128x32 .f32) (ix2 n l)
      = if (l : ℕ) < 31 ∧ 4 * (l : ℕ) ≤ (n : ℕ) ∧ (n : ℕ) < 4 * (l : ℕ) + 5 then (1 : EReal) else (0 : EReal) := by
  entry_read
  rw [table]
  split
  · exact Ideal.ofBits_one_f32
  · exact Ideal.ofBits_zero_f32

theorem vis_at (c : Dev nD) (n : Fin 128) (R : Fin 2048) :
    (V m c main_v9 : FVec Ideal S128x2048 .f32) (ix2 n R)
      = if (n : ℕ) * 16 ≤ (R : ℕ) ∧ (n : ℕ) < 127 then (1 : EReal) else (0 : EReal) := by
  entry_read
  pointwise
  have h1 : IntOp.cmpi .sle (IntOp.muli (BitVec.ofNat 32 (n : ℕ)) 16#32) (BitVec.ofNat 32 (R : ℕ)) = BitVec.ofBool (decide ((n : ℕ) * 16 ≤ R)) := by
    rw [show IntOp.muli (BitVec.ofNat 32 (n : ℕ)) 16#32 = BitVec.ofNat 32 ((n : ℕ) * 16) from BitVec.ofNat_mul_ofNat .., WordCmp.cmpi_sle_ofNat (by omega) (by omega)]
  have h2 : IntOp.cmpi .slt (BitVec.ofNat 32 (n : ℕ)) 127#32 = BitVec.ofBool (decide ((n : ℕ) < 127)) := by
    rw [show (127#32 : BitVec 32) = BitVec.ofNat 32 127 from rfl, WordCmp.cmpi_slt_ofNat (by omega) (by omega)]
  rw [h1, h2]
  show ((((IntOp.andi (BitVec.ofBool (decide ((n : ℕ) * 16 ≤ R))) (BitVec.ofBool (decide ((n : ℕ) < 127)))).toNat : ℝ)) : EReal) = _
  by_cases p1 : (n : ℕ) * 16 ≤ R <;> by_cases p2 : (n : ℕ) < 127 <;> simp [p1, p2, IntOp.andi]

theorem blk0 (c : Dev nD) (t : Fin cfg0.N) (R : Fin 2048) (d : Fin 128) :
    (iblk m c 0 t : FVec Ideal S2048x128 .f32) (ix2 R d) = (V m c main_v0 : FVec Ideal S2048x2048 .f32) (ix2 R ⟨t.val * 128 + d.val, by have := (idx t).2.2.2.2.2.2.2; omega⟩) := by
  blk_ext [iblk, idx t]

/-- The queries of head `t`. -/
theorem q_at (c : Dev nD) (t : Fin cfg0.N) (a : Fin 16) (ha : (a : ℕ) = t.val) (R : Fin 2048) (d : Fin 128) :
    (iblk m c 0 t : FVec Ideal S2048x128 .f32) (ix2 R d) = (m ((c : Thread nD τ).loc main_arg0) : FVec Ideal S2048x16x128 .f32) (ix3 R a d) :=
  (blk0 m c t _ _).trans (v0_at m c _ a _ _ (by simp [ha]))

theorem ck_at (c : Dev nD) (t : Fin cfg0.N) (a : Fin 4) (ha : (a : ℕ) = t.val / 4) (n d : Fin 128) :
    (iblk m c 1 t : FVec Ideal S1x128x128 .f32) (ix3 0 n d) = (m ((c : Thread nD τ).loc main_arg1) : FVec Ideal S4x128x128 .f32) (ix3 a n d) := by
  have ht := (idx t).2.2.2.2.2.2.2
  refine Eq.trans (b := (m ((c : Thread nD τ).loc main_arg1) : FVec Ideal S4x128x128 .f32) (ix3 ⟨t.val / 4, by omega⟩ n d)) ?_
    (congrArg (fun b : Fin 4 => (m ((c : Thread nD τ).loc main_arg1) : FVec Ideal S4x128x128 .f32) (ix3 b n d)) (Fin.ext ha.symm))
  blk_ext [iblk, V, idx t]

theorem cv_at (c : Dev nD) (t : Fin cfg0.N) (a : Fin 4) (ha : (a : ℕ) = t.val / 4) (n d : Fin 128) :
    (iblk m c 2 t : FVec Ideal S1x128x128 .f32) (ix3 0 n d) = (m ((c : Thread nD τ).loc main_arg2) : FVec Ideal S4x128x128 .f32) (ix3 a n d) := by
  have ht := (idx t).2.2.2.2.2.2.2
  refine Eq.trans (b := (m ((c : Thread nD τ).loc main_arg2) : FVec Ideal S4x128x128 .f32) (ix3 ⟨t.val / 4, by omega⟩ n d)) ?_
    (congrArg (fun b : Fin 4 => (m ((c : Thread nD τ).loc main_arg2) : FVec Ideal S4x128x128 .f32) (ix3 b n d)) (Fin.ext ha.symm))
  blk_ext [iblk, V, idx t]

theorem pool_at (c : Dev nD) (t : Fin cfg0.N) (n : Fin 128) (l : Fin 32) :
    (iblk m c 3 t : FVec Ideal S128x32 .f32) (ix2 n l)
      = if (l : ℕ) < 31 ∧ 4 * (l : ℕ) ≤ (n : ℕ) ∧ (n : ℕ) < 4 * (l : ℕ) + 5 then (1 : EReal) else (0 : EReal) := by
  refine Eq.trans ?_ (cst_at m c n l)
  blk_ext [iblk, idx t]

theorem seen_at (c : Dev nD) (t : Fin cfg0.N) (n : Fin 128) (R : Fin 2048) :
    (iblk m c 4 t : FVec Ideal S128x2048 .f32) (ix2 n R)
      = if (n : ℕ) * 16 ≤ (R : ℕ) ∧ (n : ℕ) < 127 then (1 : EReal) else (0 : EReal) := by
  refine Eq.trans ?_ (vis_at m c n R)
  blk_ext [iblk, idx t]

end Cert.CmpAttnIdeal.CmpAttn

end
-- ==== Proof.CmpAttn.Final.lean ====
/- The compressed attention call's result arrays after the run, as functions of the arguments. -/
module

public import proofs.«01_k».proof.Proof.CmpAttn.Tile
public import proofs.«01_k».proof.Proof.CmpAttn.Operands

@[expose] public section

set_option maxRecDepth 16384
set_option backward.proofsInPublic true

noncomputable section

namespace Cert.CmpAttnIdeal.CmpAttn

open Idealize.ShloMosaic Idealize.ShloMosaic.TcCoe Idealize.SL.Sem
open Cert.CmpAttnIdeal Cert.CmpAttnIdeal.Gen
open Idealize.ShloMosaic.Pipeline (Dat)

section
variable (Q : FVec Ideal S2048x16x128 .f32) (CK CV : FVec Ideal S4x128x128 .f32)

/-- One at the blocks a query may see. -/
def seen (n : Fin 128) (R : Fin 2048) : EReal := if (n : ℕ) * 16 ≤ (R : ℕ) ∧ (n : ℕ) < 127 then 1 else 0

/-- The weight of block `n` for query `R` of head `a`. -/
def gw (a : Fin 16) (n : Fin 128) (R : Fin 2048) : EReal :=
  Ideal.exp (∑ d : Fin 128, (CK (ix3 ⟨(a : ℕ) / 4, by omega⟩ n d) * scale) * Q (ix3 R a d)) * seen n R

/-- Its probability. -/
def gp (a : Fin 16) (n : Fin 128) (R : Fin 2048) : EReal := Ideal.div (gw Q CK a n R) (∑ x : Fin 128, gw Q CK a x R)

/-- The attention's output for one head. -/
def go (a : Fin 16) (R : Fin 2048) (e : Fin 128) : EReal := ∑ n : Fin 128, gp Q CK a n R * CV (ix3 ⟨(a : ℕ) / 4, by omega⟩ n e)

/-- The probabilities summed over the four heads of group `h`. -/
def gsum (h : Fin 4) (n : Fin 128) (R : Fin 2048) : EReal :=
  ((gp Q CK ⟨4 * (h : ℕ), by omega⟩ n R + gp Q CK ⟨4 * (h : ℕ) + 1, by omega⟩ n R) + gp Q CK ⟨4 * (h : ℕ) + 2, by omega⟩ n R)
    + gp Q CK ⟨4 * (h : ℕ) + 3, by omega⟩ n R

/-- The table's entry. -/
def tab (n : Fin 128) (l : Fin 32) : EReal := if (l : ℕ) < 31 ∧ 4 * (l : ℕ) ≤ (n : ℕ) ∧ (n : ℕ) < 4 * (l : ℕ) + 5 then 1 else 0

/-- The row of scores the blocks are picked from. -/
def gscore (h : Fin 4) (R : Fin 2048) (l : Fin 32) : EReal :=
  (if (l : ℕ) < 31 then (∑ n : Fin 128, tab n l * gsum Q CK h n R) * fifth else low) - (((l : ℕ) : ℝ) : EReal) * tie

open Classical in
/-- The block mask. -/
def gm (h : Fin 4) (l : Fin 32) (R : Fin 2048) : EReal :=
  if Picks.picked (gscore Q CK h R) 16 l ∨ (l : ℕ) = 0 ∨ (l : ℕ) = (R : ℕ) / 64 then 1 else 0

/-- The first result: every head's output, heads side by side. -/
def GO : FVec Ideal S2048x2048 .f32 := fun j =>
  go Q CK CV ⟨(j 1 : ℕ) / 128, by have : (j 1 : ℕ) < 2048 := (j 1).isLt; omega⟩ (j 0) ⟨(j 1 : ℕ) % 128, by omega⟩

/-- The second result: every group's block mask. -/
def GB : FVec Ideal S4x32x2048 .f32 := fun j => gm Q CK (j 0) (j 1) (j 2)
end

variable (m : (ℓ : Loc nD τ sig) → Buf (Elt Ideal) ℓ)

/-- The queries. -/
abbrev aQ (c : Dev nD) : FVec Ideal S2048x16x128 .f32 := m ((c : Thread nD τ).loc main_arg0)

/-- The compressed keys. -/
abbrev aK (c : Dev nD) : FVec Ideal S4x128x128 .f32 := m ((c : Thread nD τ).loc main_arg1)

/-- The compressed values. -/
abbrev aV (c : Dev nD) : FVec Ideal S4x128x128 .f32 := m ((c : Thread nD τ).loc main_arg2)

theorem probs_at (c : Dev nD) (t : Fin cfg0.N) (a : Fin 16) (ha : (a : ℕ) = t.val) (n : Fin 128) (R : Fin 2048) :
    k0_pay1 (F := Ideal) (iblk m c 1 t) (iblk m c 0 t) (iblk m c 4 t) (ix2 n R) = gp (aQ m c) (aK m c) a n R := by
  have hw : ∀ x, wt (iblk m c 1 t) (iblk m c 0 t) (iblk m c 4 t) x R = gw (aQ m c) (aK m c) a x R := fun x => by
    rw [wt, gw, seen_at, seen]
    refine congrArg (fun z : EReal => Ideal.exp z * _) (Finset.sum_congr rfl fun d _ => ?_)
    rw [q_at m c t a ha, ck_at m c t ⟨(a : ℕ) / 4, by omega⟩ (by simp [ha])]
  rw [probs_pt, gp, hw]
  exact congrArg (fun z : EReal => Ideal.div _ z) (Finset.sum_congr rfl fun x _ => hw x)

theorem outs_eq (c : Dev nD) (k k' : ℕ) (h : k < cfg0.N) (h' : k' < cfg0.N) (e : k = k') : outsAt0 m c k h = outsAt0 m c k' h' := by
  subst e; rfl

theorem sum0 (c : Dev nD) (t : Fin cfg0.N) (h : Fin 4) (ht : t.val = 4 * (h : ℕ)) (n : Fin 128) (R : Fin 2048) :
    ((outsAt0 m c t.val t.isLt).2.2 : FVec Ideal S128x2048 .f32) (ix2 n R) = gp (aQ m c) (aK m c) ⟨4 * (h : ℕ), by omega⟩ n R := by
  rw [sum_first m c t (by omega)]
  exact (first_pt _ _ _ _ _).trans (probs_at m c t _ ht.symm n R)

theorem sum_step (c : Dev nD) (t : Fin cfg0.N) (h0 : ¬t.val % 4 = 0) (a : Fin 16) (ha : (a : ℕ) = t.val) (n : Fin 128) (R : Fin 2048) (z : EReal)
    (hz : ∀ s : Fin cfg0.N, s.val + 1 = t.val → ((outsAt0 m c s.val s.isLt).2.2 : FVec Ideal S128x2048 .f32) (ix2 n R) = z) :
    ((outsAt0 m c t.val t.isLt).2.2 : FVec Ideal S128x2048 .f32) (ix2 n R) = z + gp (aQ m c) (aK m c) a n R := by
  rw [sum_next m c t h0]
  refine (next_pt _ _ _ _ _ _).trans ?_
  rw [probs_at m c t a ha]
  exact congrArg (fun y : EReal => y + _) (hz ⟨t.val - 1, Nat.lt_of_le_of_lt (Nat.sub_le _ _) t.isLt⟩ (by simp only []; omega))

theorem sum1 (c : Dev nD) (t : Fin cfg0.N) (h : Fin 4) (ht : t.val = 4 * (h : ℕ) + 1) (n : Fin 128) (R : Fin 2048) :
    ((outsAt0 m c t.val t.isLt).2.2 : FVec Ideal S128x2048 .f32) (ix2 n R)
      = gp (aQ m c) (aK m c) ⟨4 * (h : ℕ), by omega⟩ n R + gp (aQ m c) (aK m c) ⟨4 * (h : ℕ) + 1, by omega⟩ n R :=
  sum_step m c t (by omega) _ ht.symm n R _ fun s hs => sum0 m c s h (by omega) n R

theorem sum2 (c : Dev nD) (t : Fin cfg0.N) (h : Fin 4) (ht : t.val = 4 * (h : ℕ) + 2) (n : Fin 128) (R : Fin 2048) :
    ((outsAt0 m c t.val t.isLt).2.2 : FVec Ideal S128x2048 .f32) (ix2 n R)
      = (gp (aQ m c) (aK m c) ⟨4 * (h : ℕ), by omega⟩ n R + gp (aQ m c) (aK m c) ⟨4 * (h : ℕ) + 1, by omega⟩ n R)
        + gp (aQ m c) (aK m c) ⟨4 * (h : ℕ) + 2, by omega⟩ n R :=
  sum_step m c t (by omega) _ ht.symm n R _ fun s hs => sum1 m c s h (by omega) n R

theorem sum3 (c : Dev nD) (t : Fin cfg0.N) (h : Fin 4) (ht : t.val = 4 * (h : ℕ) + 3) (n : Fin 128) (R : Fin 2048) :
    (k0_pay4 (F := Ideal) (iblk m c 1 t) (iblk m c 0 t) (iblk m c 4 t)
      (outsAt0 m c (t.val - 1) (Nat.lt_of_le_of_lt (Nat.sub_le _ _) t.isLt)).2.2) (ix2 n R) = gsum (aQ m c) (aK m c) h n R := by
  rw [← sum_next m c t (by omega), gsum]
  exact sum_step m c t (by omega) _ ht.symm n R _ fun s hs => sum2 m c s h (by omega) n R

theorem final5 (c : Dev nD) : (dats m 0 c).arrAt 5 (cfgs 0).N = GO (aQ m c) (aK m c) (aV m c) := by
  refine (dats m 0 c).arrAt_eq_of_covers 5 _ (by decide +kernel) fun t _ y => ?_
  blk_simp
  rw [after0_5, out_at]
  have h := (idx t).2.2.2.2.2
  have hy0 : (y 0 : ℕ) < 2048 := (y 0).isLt
  have hy1 : (y 1 : ℕ) < 128 := (y 1).isLt
  have go_eq : ∀ (a a' : Fin 16) (R R' : Fin 2048) (e e' : Fin 128), (a : ℕ) = a' → (R : ℕ) = R' → (e : ℕ) = e' →
      go (aQ m c) (aK m c) (aV m c) a R e = go (aQ m c) (aK m c) (aV m c) a' R' e' := by
    intro a a' R R' e e' p q r
    rw [Fin.ext p, Fin.ext q, Fin.ext r]
  have e : k0_pay2 (F := Ideal) (iblk m c 1 t) (iblk m c 0 t) (iblk m c 4 t) (iblk m c 2 t) y
      = go (aQ m c) (aK m c) (aV m c) ⟨t.val, h.2.2⟩ (y 0) (y 1) := by
    obtain ⟨R, e, rfl⟩ : ∃ (R : Fin 2048) (e : Fin 128), y = ix2 R e := ⟨y 0, y 1, by funext a; match a with | ⟨0, _⟩ => rfl | ⟨1, _⟩ => rfl⟩
    refine (out_pt _ _ _ _ _ _).trans ?_
    show (_ : EReal) = ∑ n : Fin 128, gp (aQ m c) (aK m c) ⟨t.val, h.2.2⟩ n R * aV m c (ix3 ⟨t.val / 4, by omega⟩ n e)
    refine Finset.sum_congr rfl fun n _ => ?_
    rw [probs_at m c t ⟨t.val, h.2.2⟩ rfl, cv_at m c t ⟨t.val / 4, by omega⟩ rfl]
  refine e.trans ?_
  rw [GO]
  refine go_eq _ _ _ _ _ _ ?_ ?_ ?_
  all_goals (blk_simp [h.1] <;> try omega)
  all_goals
    simp only []
    omega

theorem final6 (c : Dev nD) : (dats m 0 c).arrAt 6 (cfgs 0).N = GB (aQ m c) (aK m c) := by
  refine (dats m 0 c).arrAt_eq_of_covers 6 _ (by decide +kernel) fun t hf y => ?_
  blk_simp
  have h := (idx t).2.2.2.2.2
  have ht : t.val % 4 = 3 := (flush0_6 t).mp hf
  rw [after0_6, mask_at m c t ht]
  have gm_eq : ∀ (a a' : Fin 4) (l l' : Fin 32) (R R' : Fin 2048), (a : ℕ) = a' → (l : ℕ) = l' → (R : ℕ) = R' →
      gm (aQ m c) (aK m c) a l R = gm (aQ m c) (aK m c) a' l' R' := by
    intro a a' R R' e e' p q r
    rw [Fin.ext p, Fin.ext q, Fin.ext r]
  have e : ∀ s : FVec Ideal S128x2048 .f32, (∀ n R, s (ix2 n R) = gsum (aQ m c) (aK m c) ⟨t.val / 4, by omega⟩ n R) →
      mask (F := Ideal) s (iblk m c 3 t) y = gm (aQ m c) (aK m c) ⟨t.val / 4, by omega⟩ (y 1) (y 2) := by
    intro s hs
    obtain ⟨z, l, R, rfl⟩ : ∃ (z : Fin 1) (l : Fin 32) (R : Fin 2048), y = ix3 z l R :=
      ⟨y 0, y 1, y 2, by funext a; match a with | ⟨0, _⟩ => rfl | ⟨1, _⟩ => rfl | ⟨2, _⟩ => rfl⟩
    obtain rfl : z = 0 := Subsingleton.elim _ _
    refine (mask_pt _ _ _ _).trans ?_
    have hsc : score s (iblk m c 3 t) R = gscore (aQ m c) (aK m c) ⟨t.val / 4, by omega⟩ R := by
      funext x
      rw [score, gscore]
      refine congrArg (fun z : EReal => (if (x : ℕ) < 31 then z * fifth else low) - _) (Finset.sum_congr rfl fun n _ => ?_)
      rw [pool_at, hs, tab]
    rw [hsc]
    rfl
  refine (e _ fun n R => sum3 m c t ⟨t.val / 4, by omega⟩ (by simp only []; omega) n R).trans ?_
  rw [GB]
  refine gm_eq _ _ _ _ _ _ ?_ ?_ ?_
  all_goals (blk_simp [h.2.1] <;> try omega)

end Cert.CmpAttnIdeal.CmpAttn

end
-- ==== Proof.CmpAttn.RefProbs.lean ====
/- The reference's logits and probabilities of the compressed attention, read at an index. -/
module

public import proofs.«01_k».proof.Proof.Gen.CmpAttnReferenceIdeal.Read
public import proofs.«01_k».proof.Proof.Main.Softmax
public import Idealize.ShloMosaic.Lib.Pointwise
public import Idealize.ShloMosaic.Lib.IdealHost
public import Idealize.ShloMosaic.Lib.WordCmp

@[expose] public section

set_option maxRecDepth 16384
set_option backward.proofsInPublic true

noncomputable section

namespace Cert.CmpAttnReferenceIdeal.CmpAttn

open Idealize.ShloMosaic Idealize.ShloMosaic.TcCoe Idealize.SL.Sem
open Cert.CmpAttnReferenceIdeal Cert.CmpAttnReferenceIdeal.Gen Cert.CmpAttnReferenceIdeal.Read

variable (Q : FVec Ideal S2048x16x128 .f32) (CK CV : FVec Ideal S4x128x128 .f32)

theorem minus_inf : Ideal.ofBits .f32 0xFF800000#32 = ⊥ := by simp [Ideal.ofBits, Ideal.ieee]

theorem base_at (s : Fin 2048) (h g : Fin 4) (n : Fin 127) :
    (val_main_v10 (F := Ideal) Q CK : FVec Ideal S2048x4x4x127 .f32) (ix4 s h g n)
      = Ideal.div (∑ x : Fin 128, CK (ix3 h ⟨(n : ℕ), by omega⟩ x) * Q (ix3 s ⟨(h : ℕ) * 4 + g, by omega⟩ x)) (Ideal.sqrt (Ideal.ofBits .f32 0x43000000#32)) := by
  pointwise [val_main_v10, val_main_v9, val_main_v8, val_main_cst, val_main_v7, val_main_v6, val_main_v5, val_main_v0]

theorem masked_at (s : Fin 2048) (h g : Fin 4) (n : Fin 127) :
    (val_main_v17 (F := Ideal) Q CK : FVec Ideal S2048x4x4x127 .f32) (ix4 s h g n)
      = if (n : ℕ) * 16 ≤ s then (val_main_v10 (F := Ideal) Q CK : FVec Ideal S2048x4x4x127 .f32) (ix4 s h g n) else ⊥ := by
  pointwise [val_main_v17, val_main_call0_v0, val_main_call0_v1, val_main_call0_v2, val_main_cst_0, val_main_v16, val_main_v15, val_main_v14, val_main_v13, val_main_v12, val_main_v11, val_main_v4, val_main_v3, val_main_c, val_main_v2, val_main_v1]
  rw [show IntOp.muli (BitVec.ofNat 32 (n : ℕ)) 16#32 = BitVec.ofNat 32 ((n : ℕ) * 16) from BitVec.ofNat_mul_ofNat ..,
    WordCmp.cmpi_sle_ofNat (by omega) (by omega)]
  have e : (id (constant (F := Ideal) S_ .f32 0xFF800000#32) ix0 : EReal) = ⊥ := minus_inf
  rw [e]
  by_cases h1 : (n : ℕ) * 16 ≤ s <;> simp [h1, Scalar.select]

theorem probs_at (s : Fin 2048) (h g : Fin 4) (n : Fin 127) :
    (val_main_v28 (F := Ideal) Q CK : FVec Ideal S2048x4x4x127 .f32) (ix4 s h g n)
      = Ideal.div (Ideal.exp ((val_main_v17 (F := Ideal) Q CK : FVec Ideal S2048x4x4x127 .f32) (ix4 s h g n) - (val_main_v20 (F := Ideal) Q CK : FVec Ideal S2048x4x4 .f32) (ix3 s h g)))
          (∑ x : Fin 127, Ideal.exp ((val_main_v17 (F := Ideal) Q CK : FVec Ideal S2048x4x4x127 .f32) (ix4 s h g x) - (val_main_v20 (F := Ideal) Q CK : FVec Ideal S2048x4x4 .f32) (ix3 s h g))) := by
  pointwise [val_main_v28, val_main_v27, val_main_v26, val_main_v25, val_main_cst_3, val_main_v24, val_main_v23, val_main_v22, val_main_v21]
  all_goals rfl

theorem drop_at (s : Fin 2048) (h g : Fin 4) (n : Fin 127) :
    reducesTo_S2048x4x4x127_S2048x4x4_d3.drop (ix4 s h g n) = ix3 s h g := by
  funext a
  match a with
  | ⟨0, _⟩ => rfl
  | ⟨1, _⟩ => rfl
  | ⟨2, _⟩ => rfl

/-- The number subtracted before the exponential is real. -/
theorem max_at (s : Fin 2048) (h g : Fin 4) (n : Fin 127)
    (hx : ∀ i, (val_main_v17 (F := Ideal) Q CK : FVec Ideal S2048x4x4x127 .f32) i ≠ ⊤)
    (hb : (val_main_v17 (F := Ideal) Q CK : FVec Ideal S2048x4x4x127 .f32) (ix4 s h g n) ≠ ⊥) :
    ∃ r : ℝ, (val_main_v20 (F := Ideal) Q CK : FVec Ideal S2048x4x4 .f32) (ix3 s h g) = (r : EReal) := by
  rw [val_main_v20_apply, val_main_v19_apply, val_main_cst_2_apply, val_main_v18]
  generalize val_main_v17 (F := Ideal) Q CK = y at hx hb ⊢
  obtain ⟨r, hr⟩ := Cert.ReferenceIdeal.Main.max_real y (val_main_cst_1 (F := Ideal)) reducesTo_S2048x4x4x127_S2048x4x4_d3 h_S_ (ix3 s h g) hx minus_inf _ (drop_at s h g n) hb
  refine ⟨r, Eq.trans ?_ hr⟩
  rw [Ideal.maximumf_def, Ideal.ofBits_def, minus_inf]

theorem out_at (s : Fin 2048) (j : Fin 2048) :
    (val_main_v74 (F := Ideal) Q CK CV : FVec Ideal S2048x2048 .f32) (ix2 s j)
      = ∑ n : Fin 127, CV (ix3 ⟨(j : ℕ) / 512, by omega⟩ ⟨(n : ℕ), by omega⟩ ⟨(j : ℕ) % 128, by omega⟩)
          * (val_main_v28 (F := Ideal) Q CK : FVec Ideal S2048x4x4x127 .f32) (ix4 s ⟨(j : ℕ) / 512, by omega⟩ ⟨(j : ℕ) / 128 % 4, by omega⟩ n) := by
  generalize hp : val_main_v28 (F := Ideal) Q CK = p
  pointwise [val_main_v74, val_main_v52, val_main_v51, val_main_v50, hp]

/-- The probabilities summed over a group's heads. -/
theorem sum_at (h : Fin 4) (s : Fin 2048) (n : Fin 127) :
    (val_main_v30 (F := Ideal) Q CK : FVec Ideal S4x2048x127 .f32) (ix3 h s n)
      = ∑ g : Fin 4, (val_main_v28 (F := Ideal) Q CK : FVec Ideal S2048x4x4x127 .f32) (ix4 s h g n) := by
  generalize hp : val_main_v28 (F := Ideal) Q CK = p
  pointwise [val_main_v30, val_main_v29, val_main_cst_4, hp]

end Cert.CmpAttnReferenceIdeal.CmpAttn

end
-- ==== Proof.CmpAttn.Ties.lean ====
/- Picking by the score lowered by a small multiple of the index, and picking by the score with ties going to the lower index, agree when unequal scores are far enough apart. -/
module

public import proofs.«01_k».proof.Proof.CmpAttn.Picks

@[expose] public section

set_option maxRecDepth 16384
set_option backward.proofsInPublic true

noncomputable section

namespace Cert.CmpAttnIdeal.Picks

open Idealize.ShloMosaic Idealize.ShloMosaic.TcCoe Idealize.SL.Sem
open Finset

variable (p : Fin 31 → ℝ) (t : ℝ) (ht : 0 < t)
  (hp : ∀ a b : Fin 31, p a - p b ≤ 0 ∨ (((a : ℕ) : ℝ) - ((b : ℕ) : ℝ)) * t < p a - p b)
  (f : Fin 32 → EReal) (hf : ∀ l : Fin 31, f l.castSucc = ((p l - ((l : ℕ) : ℝ) * t : ℝ) : EReal)) (hb : f (Fin.last 31) = ⊥)

include ht hp in
/-- The lowered scores order the blocks as the scores do, ties going to the lower index. -/
theorem lowered (a b : Fin 31) : p b - ((b : ℕ) : ℝ) * t < p a - ((a : ℕ) : ℝ) * t ↔ p b < p a ∨ (p a = p b ∧ a < b) := by
  constructor
  · intro h
    rcases lt_trichotomy (p b) (p a) with h1 | h1 | h1
    · exact Or.inl h1
    · refine Or.inr ⟨h1.symm, ?_⟩
      by_contra h2
      have h3 : ((b : ℕ) : ℝ) ≤ ((a : ℕ) : ℝ) := by exact_mod_cast (not_lt.1 h2 : b ≤ a)
      nlinarith
    · rcases hp b a with h2 | h2 <;> nlinarith
  · rintro (h | ⟨h, h1⟩)
    · rcases hp a b with h2 | h2 <;> nlinarith
    · have h3 : ((a : ℕ) : ℝ) < ((b : ℕ) : ℝ) := by exact_mod_cast h1
      nlinarith

include ht hp hf in
theorem lowered_lt (a b : Fin 31) : f b.castSucc < f a.castSucc ↔ Before (fun l => (p l : EReal)) a b := by
  rw [hf, hf, EReal.coe_lt_coe_iff, lowered p t ht hp]
  simp only [Before, EReal.coe_lt_coe_iff, EReal.coe_eq_coe_iff]

include ht hp hf hb in
theorem lowered_inj : Function.Injective f := by
  intro a b e
  induction a using Fin.lastCases with
  | last =>
    induction b using Fin.lastCases with
    | last => rfl
    | cast b => rw [hb, hf] at e; exact absurd e.symm (EReal.coe_ne_bot _)
  | cast a =>
    induction b using Fin.lastCases with
    | last => rw [hb, hf] at e; exact absurd e (EReal.coe_ne_bot _)
    | cast b =>
      have h1 : ¬Before (fun l => (p l : EReal)) a b := fun h => (((lowered_lt p t ht hp f hf a b).2 h).ne e.symm)
      have h2 : ¬Before (fun l => (p l : EReal)) b a := fun h => (((lowered_lt p t ht hp f hf b a).2 h).ne e)
      simp only [Before, EReal.coe_lt_coe_iff, EReal.coe_eq_coe_iff, not_or, not_and, not_lt] at h1 h2
      exact congrArg Fin.castSucc (le_antisymm (h2.2 (le_antisymm h1.1 h2.1 |>.symm ▸ rfl)) (h1.2 (le_antisymm h1.1 h2.1)))

include ht hp hf hb in
theorem rank_cast (l : Fin 31) : rank f l.castSucc = pos (fun l => (p l : EReal)) l := by
  classical
  rw [rank, pos]
  symm
  refine Finset.card_bij (fun c _ => c.castSucc) (fun c hc => ?_) (fun a _ b _ h => Fin.castSucc_injective _ h) (fun c hc => ?_)
  · exact Finset.mem_filter.2 ⟨Finset.mem_univ _, (lowered_lt p t ht hp f hf c l).2 (Finset.mem_filter.1 hc).2⟩
  · induction c using Fin.lastCases with
    | last => exact absurd ((Finset.mem_filter.1 hc).2.trans_eq hb) not_lt_bot
    | cast c => exact ⟨c, Finset.mem_filter.2 ⟨Finset.mem_univ _, (lowered_lt p t ht hp f hf c l).1 (Finset.mem_filter.1 hc).2⟩, rfl⟩

include hf hb in
theorem rank_last : 31 ≤ rank f (Fin.last 31) := by
  rw [rank]
  have h : (Finset.univ.map (Fin.castSuccEmb (n := 31))).card ≤ (Finset.univ.filter fun c => f (Fin.last 31) < f c).card := by
    refine Finset.card_le_card fun c hc => ?_
    obtain ⟨d, -, rfl⟩ := Finset.mem_map.1 hc
    refine Finset.mem_filter.2 ⟨Finset.mem_univ _, ?_⟩
    rw [hb]
    exact lt_of_lt_of_eq (EReal.bot_lt_coe _) (hf d).symm
  rwa [Finset.card_map, Finset.card_univ, Fintype.card_fin] at h

include ht hp hf hb in
/-- The blocks picked are the first sixteen. -/
theorem picked_iff (l : Fin 32) : picked f 16 l ↔ ∃ hl : (l : ℕ) < 31, pos (fun l => (p l : EReal)) ⟨(l : ℕ), hl⟩ < 16 := by
  rw [(rounds f (lowered_inj p t ht hp f hf hb) 16 (by omega)).2 l]
  induction l using Fin.lastCases with
  | last =>
    have := rank_last p t f hf hb
    exact ⟨fun h => by omega, fun ⟨hl, _⟩ => absurd hl (by simp)⟩
  | cast l =>
    rw [rank_cast p t ht hp f hf hb]
    exact ⟨fun h => ⟨l.isLt, h⟩, fun ⟨_, h⟩ => h⟩

end Cert.CmpAttnIdeal.Picks

end
-- ==== Proof.CmpAttn.Compare.lean ====
/- The compressed attention's two arrays are the reference's: its probabilities are the softmax of the visible blocks, its pooled scores the means of five blocks, and its sixteen rounds of a maximum the sixteen greatest. -/
module

public import proofs.«01_k».proof.Proof.CmpAttn.Final
public import proofs.«01_k».proof.Proof.CmpAttn.RefProbs
public import proofs.«01_k».proof.Proof.CmpAttn.RefPicks
public import proofs.«01_k».proof.Proof.CmpAttn.Ties
public import proofs.«01_k».proof.Proof.Main.Softmax

@[expose] public section

set_option maxRecDepth 16384
set_option backward.proofsInPublic true

noncomputable section

namespace Cert.CmpAttnReferenceIdeal.CmpAttn

open Idealize.ShloMosaic Idealize.ShloMosaic.TcCoe Idealize.SL.Sem
open Cert.CmpAttnReferenceIdeal Cert.CmpAttnReferenceIdeal.Gen Cert.CmpAttnReferenceIdeal.Read

open Cert.CmpAttnIdeal.CmpAttn (seen gw gp go gsum tab gscore gm GO GB scale fifth low tie scale_eq fifth_eq low_eq)
open Cert.ReferenceIdeal.Main (scaled_sum coe_sum)
open Cert.CmpAttnIdeal (Picks.picked Picks.pos Picks.picked_iff)

theorem width : Ideal.ofBits .f32 0x43000000#32 = ((128 : ℝ) : EReal) := by
  simp [Ideal.ofBits, Ideal.ieee, -EReal.coe_mul]; norm_num

theorem five : Ideal.ofBits .f32 0x40A00000#32 = ((5 : ℝ) : EReal) := by
  simp [Ideal.ofBits, Ideal.ieee, -EReal.coe_mul]; norm_num

theorem tie_real : ∃ t : ℝ, 0 < t ∧ Ideal.ofBits .f32 0x2EDBE6FF#32 = (t : EReal) := by
  simp only [Ideal.ofBits, Ideal.ieee]
  rw [if_neg (by decide), if_neg (by decide)]
  refine ⟨_, ?_, rfl⟩
  rw [if_neg (by decide)]
  positivity

variable (Q : FVec Ideal S2048x16x128 .f32) (CK CV : FVec Ideal S4x128x128 .f32)
  (q : S2048x16x128.Idx → ℝ) (hq : ∀ i, Q i = (q i : EReal)) (k : S4x128x128.Idx → ℝ) (hk : ∀ i, CK i = (k i : EReal))
  (h g : Fin 4) (s : Fin 2048)

/-- The query head of a group member. -/
abbrev head (h g : Fin 4) : Fin 16 := ⟨(h : ℕ) * 4 + g, by omega⟩

/-- A real logit. -/
def logit (n : Fin 128) : ℝ := (∑ x : Fin 128, q (ix3 s (head h g) x) * k (ix3 h n x)) * (Real.sqrt 128)⁻¹

/-- A real weight. -/
def weight (n : Fin 128) : ℝ := if (n : ℕ) * 16 ≤ (s : ℕ) ∧ (n : ℕ) < 127 then Real.exp (logit q k h g s n) else 0

/-- A real probability. -/
def prob (n : Fin 128) : ℝ := weight q k h g s n * (1 / ∑ x : Fin 128, weight q k h g s x)

theorem weight_pos : 0 < ∑ x : Fin 128, weight q k h g s x := by
  refine Finset.sum_pos' (fun n _ => ?_) ⟨0, Finset.mem_univ _, ?_⟩
  · rw [weight]; split_ifs; exacts [(Real.exp_pos _).le, le_refl _]
  · rw [weight, if_pos ⟨by simp, by decide⟩]; exact Real.exp_pos _

theorem weight_last : weight q k h g s (Fin.last 127) = 0 := if_neg fun e => absurd e.2 (by simp)

theorem prob_last : prob q k h g s (Fin.last 127) = 0 := by rw [prob, weight_last, zero_mul]

theorem weight_cast (n : Fin 127) :
    weight q k h g s n.castSucc = if (n : ℕ) * 16 ≤ (s : ℕ) then Real.exp (logit q k h g s n.castSucc) else 0 :=
  if_congr ⟨fun e => e.1, fun e => ⟨e, n.isLt⟩⟩ rfl rfl

theorem weight_sum : ∑ x : Fin 128, weight q k h g s x
    = ∑ x : Fin 127, if (x : ℕ) * 16 ≤ (s : ℕ) then Real.exp (logit q k h g s x.castSucc) else 0 := by
  rw [Fin.sum_univ_castSucc, weight_last, add_zero]
  exact Finset.sum_congr rfl fun n _ => weight_cast q k h g s n

include hq hk in
theorem gw_real (n : Fin 128) : gw Q CK (head h g) n s = (weight q k h g s n : EReal) := by
  have e : ∀ x : Fin 128, CK (ix3 ⟨(head h g : ℕ) / 4, by omega⟩ n x) = CK (ix3 h n x) := fun x =>
    congrArg (fun a => CK (ix3 a n x)) (Fin.ext (by simp only [head]; omega))
  have hl : (∑ d : Fin 128, (CK (ix3 ⟨(head h g : ℕ) / 4, by omega⟩ n d) * scale) * Q (ix3 s (head h g) d)) = (logit q k h g s n : EReal) := by
    refine Eq.trans (Finset.sum_congr rfl fun d _ => ?_)
      (scaled_sum (fun d : Fin 128 => k (ix3 h n d)) (fun d : Fin 128 => q (ix3 s (head h g) d)) (Real.sqrt 128)⁻¹).1
    rw [e, hk, hq, scale_eq]
  rw [gw, hl, seen, weight, Ideal.exp_coe]
  split_ifs
  · rw [mul_one]
  · rw [mul_zero, EReal.coe_zero]

include hq hk in
theorem gp_real (n : Fin 128) : gp Q CK (head h g) n s = (prob q k h g s n : EReal) := by
  have hs : (∑ x : Fin 128, gw Q CK (head h g) x s) = ((∑ x : Fin 128, weight q k h g s x : ℝ) : EReal) := by
    rw [coe_sum]
    exact Finset.sum_congr rfl fun x _ => gw_real Q CK q hq k hk h g s x
  rw [gp, hs, gw_real Q CK q hq k hk, Ideal.div_coe (weight_pos q k h g s).ne', ← EReal.coe_mul]
  rfl

include hq hk in
theorem base_real (n : Fin 127) : (val_main_v10 (F := Ideal) Q CK : FVec Ideal S2048x4x4x127 .f32) (ix4 s h g n)
    = (logit q k h g s n.castSucc : EReal) := by
  have h0 : Real.sqrt 128 ≠ 0 := by positivity
  rw [base_at, width, Ideal.sqrt_coe, if_neg (by norm_num), Ideal.div_coe h0, one_div]
  refine Eq.trans ?_ ((scaled_sum (fun d : Fin 128 => q (ix3 s (head h g) d)) (fun d : Fin 128 => k (ix3 h n.castSucc d)) (Real.sqrt 128)⁻¹).2.trans
    (congrArg (fun z : ℝ => (z : EReal)) ?_))
  · refine congrArg (fun z : EReal => z * _) (Finset.sum_congr rfl fun d _ => ?_)
    rw [hk, hq]
    rfl
  · rw [logit]
    exact congrArg (fun z : ℝ => z * _) (Finset.sum_congr rfl fun d _ => mul_comm _ _)

include hq hk in
theorem masked_real (n : Fin 127) : (val_main_v17 (F := Ideal) Q CK : FVec Ideal S2048x4x4x127 .f32) (ix4 s h g n)
    = if (n : ℕ) * 16 ≤ (s : ℕ) then (logit q k h g s n.castSucc : EReal) else ⊥ := by
  rw [masked_at, base_real Q CK q hq k hk]

include hq hk in
theorem prob_real (n : Fin 127) : (val_main_v28 (F := Ideal) Q CK : FVec Ideal S2048x4x4x127 .f32) (ix4 s h g n)
    = (prob q k h g s n.castSucc : EReal) := by
  obtain ⟨M, hM⟩ := max_at Q CK s h g 0 (fun i => by
    idx_vars i
    rw [masked_real Q CK q hq k hk]
    split_ifs <;> simp) (by rw [masked_real Q CK q hq k hk, if_pos (by simp)]; exact EReal.coe_ne_bot _)
  have he : ∀ x : Fin 127, Ideal.exp ((val_main_v17 (F := Ideal) Q CK : FVec Ideal S2048x4x4x127 .f32) (ix4 s h g x)
      - (val_main_v20 (F := Ideal) Q CK : FVec Ideal S2048x4x4 .f32) (ix3 s h g))
      = (((if (x : ℕ) * 16 ≤ (s : ℕ) then Real.exp (logit q k h g s x.castSucc) else 0) * Real.exp (-M) : ℝ) : EReal) := fun x => by
    rw [masked_real Q CK q hq k hk, hM]
    split_ifs
    · rw [← EReal.coe_sub, Ideal.exp_coe, sub_eq_add_neg, Real.exp_add]
    · rw [sub_eq_add_neg, EReal.bot_add, Ideal.exp_bot, zero_mul, EReal.coe_zero]
  rw [probs_at]
  simp only [he]
  rw [← coe_sum, ← Finset.sum_mul, ← weight_sum, ← weight_cast,
    Ideal.div_coe (mul_ne_zero (weight_pos q k h g s).ne' (Real.exp_pos _).ne'), ← EReal.coe_mul, prob]
  have h1 := (weight_pos q k h g s).ne'
  have h2 := (Real.exp_pos (-M)).ne'
  exact congrArg (fun z : ℝ => (z : EReal)) (by field_simp)

include hq hk in
theorem out_pt (s j : Fin 2048) : (GO Q CK CV : FVec Ideal S2048x2048 .f32) (ix2 s j)
    = (val_main_v74 (F := Ideal) Q CK CV : FVec Ideal S2048x2048 .f32) (ix2 s j) := by
  rw [out_at]
  have hh : (⟨(j : ℕ) / 128, by omega⟩ : Fin 16) = head ⟨(j : ℕ) / 512, by omega⟩ ⟨(j : ℕ) / 128 % 4, by omega⟩ :=
    Fin.ext (by simp only [head]; omega)
  show go Q CK CV ⟨(j : ℕ) / 128, by omega⟩ s ⟨(j : ℕ) % 128, by omega⟩ = _
  refine (congrArg (fun a => go Q CK CV a s ⟨(j : ℕ) % 128, by omega⟩) hh).trans ?_
  show (∑ n : Fin 128, _) = _
  rw [Fin.sum_univ_castSucc]
  have h0 : gp Q CK (head ⟨(j : ℕ) / 512, by omega⟩ ⟨(j : ℕ) / 128 % 4, by omega⟩) (Fin.last 127) s = 0 := by
    rw [gp_real Q CK q hq k hk, prob_last, EReal.coe_zero]
  rw [h0, zero_mul, add_zero]
  refine Finset.sum_congr rfl fun n _ => ?_
  rw [gp_real Q CK q hq k hk, prob_real Q CK q hq k hk, mul_comm]
  exact congrArg (fun a => CV (ix3 a n.castSucc ⟨(j : ℕ) % 128, by omega⟩) * _) (Fin.ext (by simp only [head]; omega))

include hq hk in
/-- The first array. -/
theorem out_same : (GO Q CK CV : FVec Ideal S2048x2048 .f32) = val_main_v74 (F := Ideal) Q CK CV := by
  funext i
  idx_vars i
  exact out_pt Q CK CV q hq k hk i0 i1

/-- The real pooled score. -/
def pool (l : Fin 31) : ℝ := (∑ j : Fin 5, ∑ g : Fin 4, prob q k h g s ⟨4 * (l : ℕ) + j, by omega⟩) * (1 / 5)

include hq hk in
theorem row_real (l : Fin 31) : row Q CK h s l = (pool q k h s l : EReal) := by
  show (val_main_v49 (F := Ideal) Q CK : FVec Ideal S4x2048x31 .f32) (ix3 h s l) = _
  rw [pooled_at, five, Ideal.div_coe (by norm_num), pool, EReal.coe_mul, coe_sum]
  refine congrArg (fun z : EReal => z * _) (Finset.sum_congr rfl fun j _ => ?_)
  rw [sum_at, coe_sum]
  exact Finset.sum_congr rfl fun g _ => prob_real Q CK q hq k hk h g s ⟨4 * (l : ℕ) + j, by omega⟩

include hq hk in
theorem gsum_real (n : Fin 128) : gsum Q CK h n s = ∑ g : Fin 4, (prob q k h g s n : EReal) := by
  have e : ∀ (g : Fin 4) (a : Fin 16), (a : ℕ) = 4 * (h : ℕ) + g → gp Q CK a n s = (prob q k h g s n : EReal) := fun g a ha => by
    rw [show a = head h g from Fin.ext (by simp only [head]; omega), gp_real Q CK q hq k hk]
  rw [gsum, Fin.sum_univ_four, e 0 _ rfl, e 1 _ rfl, e 2 _ rfl, e 3 _ rfl]

/-- The table picks out five blocks. -/
theorem tab_sum (l : Fin 31) (x : Fin 128 → EReal) :
    ∑ n : Fin 128, tab n l.castSucc * x n = ∑ j : Fin 5, x ⟨4 * (l : ℕ) + j, by omega⟩ := by
  symm
  refine Finset.sum_of_injOn (fun j : Fin 5 => (⟨4 * (l : ℕ) + j, by omega⟩ : Fin 128)) (fun a _ b _ e => ?_)
    (fun a _ => Finset.mem_coe.2 (Finset.mem_univ _)) (fun n _ hn => ?_) (fun j _ => ?_)
  · have := congrArg Fin.val e
    simp only [] at this
    exact Fin.ext (by omega)
  · rw [tab, if_neg, zero_mul]
    rintro ⟨-, h1, h2⟩
    have h1 : 4 * (l : ℕ) ≤ (n : ℕ) := h1
    have h2 : (n : ℕ) < 4 * (l : ℕ) + 5 := h2
    exact hn ⟨⟨(n : ℕ) - 4 * (l : ℕ), by omega⟩, Finset.mem_coe.2 (Finset.mem_univ _), Fin.ext (by simp only []; omega)⟩
  · have hl := l.isLt
    have hj := j.isLt
    rw [tab, if_pos ⟨hl, by simp, by simp⟩, one_mul]

include hq hk in
theorem score_real (t : ℝ) (ht : Ideal.ofBits .f32 0x2EDBE6FF#32 = (t : EReal)) (l : Fin 31) :
    gscore Q CK h s l.castSucc = ((pool q k h s l - ((l : ℕ) : ℝ) * t : ℝ) : EReal) := by
  have e : (∑ n : Fin 128, tab n l.castSucc * gsum Q CK h n s) * fifth = (pool q k h s l : EReal) := by
    rw [tab_sum, fifth_eq, pool, EReal.coe_mul, coe_sum]
    refine congrArg (fun z : EReal => z * _) (Finset.sum_congr rfl fun j _ => ?_)
    rw [gsum_real Q CK q hq k hk, coe_sum]
  rw [gscore, if_pos (show ((l.castSucc : Fin 32) : ℕ) < 31 from l.isLt), e, tie, ht, ← EReal.coe_mul, ← EReal.coe_sub]
  rfl

theorem score_last (t : ℝ) (ht : Ideal.ofBits .f32 0x2EDBE6FF#32 = (t : EReal)) : gscore Q CK h s (Fin.last 31) = ⊥ := by
  rw [gscore, if_neg (show ¬((Fin.last 31 : Fin 32) : ℕ) < 31 by simp), low_eq, sub_eq_add_neg, EReal.bot_add]

include hq hk in
theorem mask_pt (l : Fin 32) (apart : ∀ (h : Fin 4) (s : Fin 2048) (a b : Fin 31), row Q CK h s a - row Q CK h s b ≤ 0
      ∨ ((((a : ℕ) : ℝ) - ((b : ℕ) : ℝ) : ℝ) : EReal) * Ideal.ofBits .f32 0x2EDBE6FF#32 < row Q CK h s a - row Q CK h s b) :
    (GB Q CK : FVec Ideal S4x32x2048 .f32) (ix3 h l s) = (val_main_v76 (F := Ideal) Q CK : FVec Ideal S4x32x2048 .f32) (ix3 h l s) := by
  classical
  obtain ⟨t, ht0, ht⟩ := tie_real
  rw [mask_at]
  have hr : row Q CK h s = fun l => (pool q k h s l : EReal) := funext fun l => row_real Q CK q hq k hk h s l
  have hp : ∀ a b : Fin 31, pool q k h s a - pool q k h s b ≤ 0
      ∨ (((a : ℕ) : ℝ) - ((b : ℕ) : ℝ)) * t < pool q k h s a - pool q k h s b := fun a b => by
    have := apart h s a b
    rw [row_real Q CK q hq k hk, row_real Q CK q hq k hk, ht, ← EReal.coe_sub, ← EReal.coe_mul, EReal.coe_lt_coe_iff] at this
    exact this.imp_left fun e => by exact_mod_cast e
  have hpick := Cert.CmpAttnIdeal.Picks.picked_iff (pool q k h s) t ht0 hp (gscore Q CK h s) (score_real Q CK q hq k hk h s t ht)
    (score_last Q CK h s t ht) l
  rw [← hr] at hpick
  show gm Q CK h l s = _
  rw [gm]
  exact if_congr (or_congr hpick Iff.rfl) rfl rfl

include hq hk in
/-- The second array, where unequal pooled scores are far enough apart. -/
theorem mask_same (apart : ∀ (h : Fin 4) (s : Fin 2048) (a b : Fin 31), row Q CK h s a - row Q CK h s b ≤ 0
      ∨ ((((a : ℕ) : ℝ) - ((b : ℕ) : ℝ) : ℝ) : EReal) * Ideal.ofBits .f32 0x2EDBE6FF#32 < row Q CK h s a - row Q CK h s b) :
    (GB Q CK : FVec Ideal S4x32x2048 .f32) = val_main_v76 (F := Ideal) Q CK := by
  funext i
  idx_vars i
  exact mask_pt Q CK q hq k hk i0 i2 i1 apart

/-- Both arrays, from what the precondition says. -/
theorem same (hQ : ∀ i, ∃ r : ℝ, Q i = (r : EReal)) (hK : ∀ i, ∃ r : ℝ, CK i = (r : EReal))
    (apart : ∀ (h : Fin 4) (s : Fin 2048) (a b : Fin 31), row Q CK h s a - row Q CK h s b ≤ 0
      ∨ ((((a : ℕ) : ℝ) - ((b : ℕ) : ℝ) : ℝ) : EReal) * Ideal.ofBits .f32 0x2EDBE6FF#32 < row Q CK h s a - row Q CK h s b) :
    (GO Q CK CV : FVec Ideal S2048x2048 .f32) = val_main_v74 (F := Ideal) Q CK CV
      ∧ (GB Q CK : FVec Ideal S4x32x2048 .f32) = val_main_v76 (F := Ideal) Q CK := by
  choose q hq using hQ
  choose k hk using hK
  exact ⟨out_same Q CK CV q hq k hk, mask_same Q CK q hq k hk apart⟩

end Cert.CmpAttnReferenceIdeal.CmpAttn

end
-- ==== Proof.lean ====
module

public import proofs.«01_k».proof.Defs
public import proofs.«01_k».proof.Proof.Gen.CompressReferenceIdeal.Run
public import proofs.«01_k».proof.Proof.Gen.CmpAttnReferenceIdeal.Run
public import proofs.«01_k».proof.Proof.Gen.CompressReferenceIdeal.Read
public import proofs.«01_k».proof.Proof.Gen.CmpAttnReferenceIdeal.Read
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Compress
public import proofs.«01_k».proof.Proof.Gen.Compress.Frame
public import proofs.«01_k».proof.Proof.Gen.CompressIdeal
public import proofs.«01_k».proof.Proof.Gen.CompressIdeal.Frame
public import proofs.«01_k».proof.Proof.Gen.CompressIdeal.Value
public import proofs.«01_k».proof.Proof.Gen.CmpAttn
public import proofs.«01_k».proof.Proof.Gen.CmpAttn.Frame
public import proofs.«01_k».proof.Proof.Gen.CmpAttnIdeal
public import proofs.«01_k».proof.Proof.Gen.CmpAttnIdeal.Frame
public import proofs.«01_k».proof.Proof.Gen.CmpAttnIdeal.Value
public import proofs.«01_k».proof.Proof.Gen.Pre_kernel_inputs
public import proofs.«01_k».proof.Proof.Gen.Pre_cmp_inputs
public import proofs.«01_k».proof.Proof.Main.Pre
public import proofs.«01_k».proof.Proof.Main.Compare
public import proofs.«01_k».proof.Proof.Compress.Compare
public import proofs.«01_k».proof.Proof.CmpAttn.Pre
public import proofs.«01_k».proof.Proof.CmpAttn.Compare

@[expose] public section

noncomputable section

namespace Cert.Proof

open Idealize.ShloMosaic Idealize.SL.Sem Cert.Kernel

/-- The reference returns with its arguments as they were; it has no semaphores. -/
theorem ref_frame : Cert.quiescent_ReferenceIdeal (hReferenceIdeal := Cert.ReferenceIdeal.Gen.facts) := fun m g _ =>
  (θ_run (Cert.ReferenceIdeal.defs (F := Ideal)) _ _).mono
    (fun r h => And.intro (fun c => (h c).2) (sem_eq_zero_of_no_sems (by decide) r.2)) (Cert.ReferenceIdeal.Value.run (F := Ideal) m g)

/-- The named constant of the main call: the softmax scale. -/
theorem preserves : Cert.preserves_Kernel_KernelIdeal := IdealRules.named_const.statement _ _ _ _ _ rfl

/-- The main call leaves the reference's array. -/
theorem algebraic : Cert.algebraic_KernelIdeal_ReferenceIdeal_pre_kernel_inputs (hKernelIdeal := Cert.KernelIdeal.Gen.facts)
    (hReferenceIdeal := Cert.ReferenceIdeal.Gen.facts) (hPre_kernel_inputs := Cert.Pre_kernel_inputs.Gen.facts) := by
  intro m g m' g' pre args
  refine ⟨fun c => (Cert.KernelIdeal.Gen.dats m 0 c).arrAt 8 (Cert.KernelIdeal.cfgs 0).N, Cert.KernelIdeal.Value.run_blocks m g, ?_⟩
  refine (θ_run Cert.ReferenceIdeal.defs _ _).mono (fun r h c => ?_) (Cert.ReferenceIdeal.Value.run m' g')
  refine ⟨(h c).1.trans ?_, (h c).2⟩
  rw [Cert.ReferenceIdeal.Read.val_main_v80_eq]
  obtain ⟨a0, a1, a2, a3, a4, a5, a6⟩ := args c
  rw [a0, a1, a2, a3, a4, a5, a6]
  obtain ⟨hQ, hK, hW, hB, hB0⟩ := Cert.Pre_kernel_inputs.Main.reads _ _ _ _ _ _ _ (pre c)
  exact (Cert.ReferenceIdeal.Main.same _ _ _ _ _ _ _ hQ hK hW hB hB0).trans (Cert.KernelIdeal.Main.final m c).symm

/-- The compression reference returns with its arguments as they were; it has no semaphores. -/
theorem compress_ref_frame : Cert.quiescent_CompressReferenceIdeal (hCompressReferenceIdeal := Cert.CompressReferenceIdeal.Gen.facts) := fun m g _ =>
  (θ_run (Cert.CompressReferenceIdeal.defs (F := Ideal)) _ _).mono
    (fun r h => And.intro (fun c => (h c).2.2.2.2) (sem_eq_zero_of_no_sems (by decide) r.2)) (Cert.CompressReferenceIdeal.Value.run (F := Ideal) m g)

/-- The compression call leaves the reference's four arrays. -/
theorem compress_algebraic : Cert.algebraic_CompressIdeal_CompressReferenceIdeal (hCompressIdeal := Cert.CompressIdeal.Gen.facts)
    (hCompressReferenceIdeal := Cert.CompressReferenceIdeal.Gen.facts) := by
  intro m g m' g' _ args
  refine ⟨fun c => (Cert.CompressIdeal.Gen.dats m 0 c).arrAt 5 (Cert.CompressIdeal.cfgs 0).N,
    fun c => (Cert.CompressIdeal.Gen.dats m 0 c).arrAt 6 (Cert.CompressIdeal.cfgs 0).N,
    fun c => (Cert.CompressIdeal.Gen.dats m 0 c).arrAt 7 (Cert.CompressIdeal.cfgs 0).N,
    fun c => (Cert.CompressIdeal.Gen.dats m 0 c).arrAt 8 (Cert.CompressIdeal.cfgs 0).N, Cert.CompressIdeal.Value.run_blocks m g, ?_⟩
  refine (θ_run Cert.CompressReferenceIdeal.defs _ _).mono (fun r h c => ?_) (Cert.CompressReferenceIdeal.Value.run m' g')
  obtain ⟨a0, a1, a2, a3⟩ := args c
  refine ⟨(h c).1.trans ?_, (h c).2.1.trans ?_, (h c).2.2.1.trans ?_, (h c).2.2.2.1.trans ?_, (h c).2.2.2.2⟩
  · rw [Cert.CompressReferenceIdeal.Read.val_main_v30_eq, a0, a2]
    exact (Cert.CompressReferenceIdeal.Compress.same_ck _ _).trans (Cert.CompressIdeal.Compress.final5 m c).symm
  · rw [Cert.CompressReferenceIdeal.Read.val_main_v32_eq, Cert.CompressReferenceIdeal.Compress.v32_eq, a1, a3]
    exact (Cert.CompressReferenceIdeal.Compress.same_ck _ _).trans (Cert.CompressIdeal.Compress.final6 m c).symm
  · rw [Cert.CompressReferenceIdeal.Read.val_main_v37_eq, a0]
    exact (Cert.CompressReferenceIdeal.Compress.same_k _).trans (Cert.CompressIdeal.Compress.final7 m c).symm
  · rw [Cert.CompressReferenceIdeal.Read.val_main_v39_eq, a1]
    exact (Cert.CompressReferenceIdeal.Compress.same_v _).trans (Cert.CompressIdeal.Compress.final8 m c).symm

/-- The reference of the compressed branch returns with its arguments as they were; it has no semaphores. -/
theorem cmp_ref_frame : Cert.quiescent_CmpAttnReferenceIdeal (hCmpAttnReferenceIdeal := Cert.CmpAttnReferenceIdeal.Gen.facts) := fun m g _ =>
  (θ_run (Cert.CmpAttnReferenceIdeal.defs (F := Ideal)) _ _).mono
    (fun r h => And.intro (fun c => (h c).2.2) (sem_eq_zero_of_no_sems (by decide) r.2)) (Cert.CmpAttnReferenceIdeal.Value.run (F := Ideal) m g)

/-- The three named constants of the compressed branch: the softmax scale, one fifth, and the mask. -/
theorem cmp_preserves : Cert.preserves_CmpAttn_CmpAttnIdeal :=
  ⟨IdealRules.named_const.statement _ _ _ _ _ rfl, IdealRules.named_const.statement _ _ _ _ _ rfl, IdealRules.named_const.statement _ _ _ _ _ rfl⟩

/-- The compressed branch leaves the reference's two arrays. -/
theorem cmp_algebraic : Cert.algebraic_CmpAttnIdeal_CmpAttnReferenceIdeal_pre_cmp_inputs (hCmpAttnIdeal := Cert.CmpAttnIdeal.Gen.facts)
    (hCmpAttnReferenceIdeal := Cert.CmpAttnReferenceIdeal.Gen.facts) (hPre_cmp_inputs := Cert.Pre_cmp_inputs.Gen.facts) := by
  intro m g m' g' pre args
  refine ⟨fun c => (Cert.CmpAttnIdeal.Gen.dats m 0 c).arrAt 5 (Cert.CmpAttnIdeal.cfgs 0).N,
    fun c => (Cert.CmpAttnIdeal.Gen.dats m 0 c).arrAt 6 (Cert.CmpAttnIdeal.cfgs 0).N, Cert.CmpAttnIdeal.Value.run_blocks m g, ?_⟩
  refine (θ_run Cert.CmpAttnReferenceIdeal.defs _ _).mono (fun r h c => ?_) (Cert.CmpAttnReferenceIdeal.Value.run m' g')
  obtain ⟨a0, a1, a2⟩ := args c
  obtain ⟨hQ, hK, apart⟩ := Cert.Pre_cmp_inputs.CmpAttn.reads _ _ _ (pre c)
  have both := Cert.CmpAttnReferenceIdeal.CmpAttn.same (Cert.CmpAttnIdeal.CmpAttn.aQ m c) (Cert.CmpAttnIdeal.CmpAttn.aK m c)
    (Cert.CmpAttnIdeal.CmpAttn.aV m c) hQ hK apart
  refine ⟨(h c).1.trans ?_, (h c).2.1.trans ?_, (h c).2.2⟩
  · rw [Cert.CmpAttnReferenceIdeal.Read.val_main_v74_eq, a0, a1, a2]
    exact both.1.symm.trans (Cert.CmpAttnIdeal.CmpAttn.final5 m c).symm
  · rw [Cert.CmpAttnReferenceIdeal.Read.val_main_v76_eq, a0, a1]
    exact both.2.symm.trans (Cert.CmpAttnIdeal.CmpAttn.final6 m c).symm

theorem claim : Cert.Claim :=
  ⟨Cert.Kernel.Gen.facts, Cert.KernelIdeal.Gen.facts, Cert.ReferenceIdeal.Gen.facts, Cert.Compress.Gen.facts,
    Cert.CompressIdeal.Gen.facts, Cert.CompressReferenceIdeal.Gen.facts, Cert.CmpAttn.Gen.facts, Cert.CmpAttnIdeal.Gen.facts,
    Cert.CmpAttnReferenceIdeal.Gen.facts, Cert.Pre_kernel_inputs.Gen.facts, Cert.Pre_cmp_inputs.Gen.facts,
    fun m ρ _ => Cert.Kernel.Gen.frame m ρ,
    fun m ρ _ => Cert.KernelIdeal.Gen.frame m ρ,
    fun m ρ _ => Cert.KernelIdeal.Gen.frame m ρ,
    ref_frame,
    fun m ρ _ => ref_frame m ρ trivial,
    fun m ρ _ => Cert.Compress.Gen.frame m ρ,
    fun m ρ _ => Cert.CompressIdeal.Gen.frame m ρ,
    compress_ref_frame,
    fun m ρ _ => Cert.CmpAttn.Gen.frame m ρ,
    fun m ρ _ => Cert.CmpAttnIdeal.Gen.frame m ρ,
    fun m ρ _ => Cert.CmpAttnIdeal.Gen.frame m ρ,
    cmp_ref_frame,
    fun m ρ _ => cmp_ref_frame m ρ trivial,
    preserves, algebraic, trivial, compress_algebraic, cmp_preserves, cmp_algebraic⟩

end Cert.Proof

end
